-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv127" .f32 0x3C010204#32 ((1 / 127 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S1024x1024 : Shape := ⟨2, ![1024, 1024]⟩
abbrev S4x2x128x4096 : Shape := ⟨4, ![4, 2, 128, 4096]⟩
abbrev S8x128x4096 : Shape := ⟨3, ![8, 128, 4096]⟩
abbrev S8x8x128 : Shape := ⟨3, ![8, 8, 128]⟩
abbrev S4x2 : Shape := ⟨2, ![4, 2]⟩
abbrev S8 : Shape := ⟨1, ![8]⟩
abbrev S_ : Shape := ⟨0, ![]⟩
abbrev S4 : Shape := ⟨1, ![4]⟩
abbrev S128x4096 : Shape := ⟨2, ![128, 4096]⟩
abbrev S1x1x128x4096 : Shape := ⟨4, ![1, 1, 128, 4096]⟩
abbrev S1x1 : Shape := ⟨2, ![1, 1]⟩
abbrev S1 : Shape := ⟨1, ![1]⟩
abbrev S1x128x4096 : Shape := ⟨3, ![1, 128, 4096]⟩
abbrev S128x1024 : Shape := ⟨2, ![128, 1024]⟩
abbrev S1x128x1024 : Shape := ⟨3, ![1, 128, 1024]⟩
abbrev S1x1x1 : Shape := ⟨3, ![1, 1, 1]⟩
abbrev S8x128 : Shape := ⟨2, ![8, 128]⟩
abbrev S1x8x128 : Shape := ⟨3, ![1, 8, 128]⟩
abbrev S1x8x8x128 : Shape := ⟨4, ![1, 8, 8, 128]⟩
abbrev S1x1x1x1 : Shape := ⟨4, ![1, 1, 1, 1]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .f32⟩
  | .hbm, ⟨1, _⟩ => ⟨S4096x1024, .f32⟩
  | .hbm, ⟨2, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S4096x1024, .bf16⟩
  | .local _ .vmem, ⟨3, _⟩ => ⟨S1024x1024, .f32⟩
  | .local _ .vmem, ⟨4, _⟩ => ⟨S4x2x128x4096, .bf16⟩
  | .local _ .vmem, ⟨5, _⟩ => ⟨S8x128x4096, .bf16⟩
  | .local _ .vmem, ⟨6, _⟩ => ⟨S8x8x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 5 51 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_56 : BitVec 32 := 1#32
  let v61 : BitVec 32 := Scalar.muli v30 c1_i32_56
  let v62 : BitVec 32 := Scalar.addi c0_i32_57 v61
  v62.toNat
def k0_dev2 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_59 : BitVec 32 := 1#32
  let v63 : BitVec 32 := Scalar.muli v16 c1_i32_59
  let v64 : BitVec 32 := Scalar.addi c0_i32_60 v63
  v64.toNat
def k0_dev3 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c6_i32_37 : BitVec 32 := 6#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c4_i32_33 : BitVec 32 := 4#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c0_i32_29 : BitVec 32 := 0#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c2_i32_24 : BitVec 32 := 2#32
  let c3_i32_25 : BitVec 32 := 3#32
  let v32 : BitVec 32 := Scalar.select v31 c2_i32_24 c3_i32_25
  let v34 : BitVec 32 := Scalar.select v33 c1_i32_27 v32
  let v36 : BitVec 32 := Scalar.select v35 c0_i32_29 v34
  let v38 : BitVec 32 := Scalar.select v37 c5_i32_31 v36
  let v40 : BitVec 32 := Scalar.select v39 c4_i32_33 v38
  let v42 : BitVec 32 := Scalar.select v41 c7_i32_35 v40
  let v44 : BitVec 32 := Scalar.select v43 c6_i32_37 v42
  let c1_i32_62 : BitVec 32 := 1#32
  let v65 : BitVec 32 := Scalar.muli v44 c1_i32_62
  let v66 : BitVec 32 := Scalar.addi c0_i32_63 v65
  v66.toNat
def k0_dev4 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_78 : BitVec 32 := 1#32
  let v73 : BitVec 32 := Scalar.muli v16 c1_i32_78
  let v74 : BitVec 32 := Scalar.addi c0_i32_79 v73
  v74.toNat
def k0_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_96 : BitVec 32 := 1#32
  let v89 : BitVec 32 := Scalar.muli v30 c1_i32_96
  let v90 : BitVec 32 := Scalar.addi c0_i32_97 v89
  v90.toNat
def k0_dev6 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_114 : BitVec 32 := 1#32
  let v105 : BitVec 32 := Scalar.muli v16 c1_i32_114
  let v106 : BitVec 32 := Scalar.addi c0_i32_115 v105
  v106.toNat
def k0_dev7 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_132 : BitVec 32 := 1#32
  let v121 : BitVec 32 := Scalar.muli v30 c1_i32_132
  let v122 : BitVec 32 := Scalar.addi c0_i32_133 v121
  v122.toNat
def k0_dev8 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_193 : BitVec 32 := 1#32
  let v175 : BitVec 32 := Scalar.muli v30 c1_i32_193
  let v176 : BitVec 32 := Scalar.addi c0_i32_194 v175
  v176.toNat
def k0_dev9 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_206 : BitVec 32 := 1#32
  let v179 : BitVec 32 := Scalar.muli v16 c1_i32_206
  let v180 : BitVec 32 := Scalar.addi c0_i32_207 v179
  v180.toNat
def k0_dev10 (d0 : Dev nD) : Nat :=
  let c0_i32_242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_241 : BitVec 32 := 1#32
  let v205 : BitVec 32 := Scalar.muli v16 c1_i32_241
  let v206 : BitVec 32 := Scalar.addi c0_i32_242 v205
  v206.toNat
def k0_dev11 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_254 : BitVec 32 := 1#32
  let v209 : BitVec 32 := Scalar.muli v30 c1_i32_254
  let v210 : BitVec 32 := Scalar.addi c0_i32_255 v209
  v210.toNat
def k0_dev12 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_289 : BitVec 32 := 1#32
  let v235 : BitVec 32 := Scalar.muli v30 c1_i32_289
  let v236 : BitVec 32 := Scalar.addi c0_i32_290 v235
  v236.toNat
def k0_dev13 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_302 : BitVec 32 := 1#32
  let v239 : BitVec 32 := Scalar.muli v16 c1_i32_302
  let v240 : BitVec 32 := Scalar.addi c0_i32_303 v239
  v240.toNat
def k0_dev14 (d0 : Dev nD) : Nat :=
  let c0_i32_338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_337 : BitVec 32 := 1#32
  let v265 : BitVec 32 := Scalar.muli v16 c1_i32_337
  let v266 : BitVec 32 := Scalar.addi c0_i32_338 v265
  v266.toNat
def k0_dev15 (d0 : Dev nD) : Nat :=
  let c0_i32_351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_350 : BitVec 32 := 1#32
  let v269 : BitVec 32 := Scalar.muli v30 c1_i32_350
  let v270 : BitVec 32 := Scalar.addi c0_i32_351 v269
  v270.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_51 : BitVec 32 := 7#32
  let v57 : BitVec 1 := Scalar.cmpi .eq v2 c7_i32_51
  let c0_i32_52 : BitVec 32 := 0#32
  let c6_i32_49 : BitVec 32 := 6#32
  let v55 : BitVec 1 := Scalar.cmpi .eq v2 c6_i32_49
  let c1_i32_50 : BitVec 32 := 1#32
  let c5_i32_47 : BitVec 32 := 5#32
  let v53 : BitVec 1 := Scalar.cmpi .eq v2 c5_i32_47
  let c0_i32_48 : BitVec 32 := 0#32
  let c4_i32_45 : BitVec 32 := 4#32
  let v51 : BitVec 1 := Scalar.cmpi .eq v2 c4_i32_45
  let c1_i32_46 : BitVec 32 := 1#32
  let c3_i32_43 : BitVec 32 := 3#32
  let v49 : BitVec 1 := Scalar.cmpi .eq v2 c3_i32_43
  let c1_i32_44 : BitVec 32 := 1#32
  let c2_i32_41 : BitVec 32 := 2#32
  let v47 : BitVec 1 := Scalar.cmpi .eq v2 c2_i32_41
  let c0_i32_42 : BitVec 32 := 0#32
  let c1_i32_38 : BitVec 32 := 1#32
  let v45 : BitVec 1 := Scalar.cmpi .eq v2 c1_i32_38
  let c1_i32_39 : BitVec 32 := 1#32
  let c0_i32_40 : BitVec 32 := 0#32
  let v46 : BitVec 32 := Scalar.select v45 c1_i32_39 c0_i32_40
  let v48 : BitVec 32 := Scalar.select v47 c0_i32_42 v46
  let v50 : BitVec 32 := Scalar.select v49 c1_i32_44 v48
  let v52 : BitVec 32 := Scalar.select v51 c1_i32_46 v50
  let v54 : BitVec 32 := Scalar.select v53 c0_i32_48 v52
  let v56 : BitVec 32 := Scalar.select v55 c1_i32_50 v54
  let v58 : BitVec 32 := Scalar.select v57 c0_i32_52 v56
  let c0_i32_356 : BitVec 32 := 0#32
  let v279 : BitVec 1 := Scalar.cmpi .eq v58 c0_i32_356
  let v280 : BitVec 32 := Scalar.extui v279
  let c0_i32_357 : BitVec 32 := 0#32
  let v281 : BitVec 1 := Scalar.cmpi .ne v280 c0_i32_357
  v281

def k0_dev16 (d0 : Dev nD) : Nat :=
  let c0_i32_2377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c6_i32_37 : BitVec 32 := 6#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c4_i32_33 : BitVec 32 := 4#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c0_i32_29 : BitVec 32 := 0#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c2_i32_24 : BitVec 32 := 2#32
  let c3_i32_25 : BitVec 32 := 3#32
  let v32 : BitVec 32 := Scalar.select v31 c2_i32_24 c3_i32_25
  let v34 : BitVec 32 := Scalar.select v33 c1_i32_27 v32
  let v36 : BitVec 32 := Scalar.select v35 c0_i32_29 v34
  let v38 : BitVec 32 := Scalar.select v37 c5_i32_31 v36
  let v40 : BitVec 32 := Scalar.select v39 c4_i32_33 v38
  let v42 : BitVec 32 := Scalar.select v41 c7_i32_35 v40
  let v44 : BitVec 32 := Scalar.select v43 c6_i32_37 v42
  let c1_i32_2376 : BitVec 32 := 1#32
  let v2225 : BitVec 32 := Scalar.muli v44 c1_i32_2376
  let v2226 : BitVec 32 := Scalar.addi c0_i32_2377 v2225
  v2226.toNat
def k0_dev17 (d0 : Dev nD) : Nat :=
  let c0_i32_2388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c6_i32_37 : BitVec 32 := 6#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c4_i32_33 : BitVec 32 := 4#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c0_i32_29 : BitVec 32 := 0#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c2_i32_24 : BitVec 32 := 2#32
  let c3_i32_25 : BitVec 32 := 3#32
  let v32 : BitVec 32 := Scalar.select v31 c2_i32_24 c3_i32_25
  let v34 : BitVec 32 := Scalar.select v33 c1_i32_27 v32
  let v36 : BitVec 32 := Scalar.select v35 c0_i32_29 v34
  let v38 : BitVec 32 := Scalar.select v37 c5_i32_31 v36
  let v40 : BitVec 32 := Scalar.select v39 c4_i32_33 v38
  let v42 : BitVec 32 := Scalar.select v41 c7_i32_35 v40
  let v44 : BitVec 32 := Scalar.select v43 c6_i32_37 v42
  let c1_i32_2387 : BitVec 32 := 1#32
  let v2235 : BitVec 32 := Scalar.muli v44 c1_i32_2387
  let v2236 : BitVec 32 := Scalar.addi c0_i32_2388 v2235
  v2236.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_51 : BitVec 32 := 7#32
  let v57 : BitVec 1 := Scalar.cmpi .eq v2 c7_i32_51
  let c0_i32_52 : BitVec 32 := 0#32
  let c6_i32_49 : BitVec 32 := 6#32
  let v55 : BitVec 1 := Scalar.cmpi .eq v2 c6_i32_49
  let c1_i32_50 : BitVec 32 := 1#32
  let c5_i32_47 : BitVec 32 := 5#32
  let v53 : BitVec 1 := Scalar.cmpi .eq v2 c5_i32_47
  let c0_i32_48 : BitVec 32 := 0#32
  let c4_i32_45 : BitVec 32 := 4#32
  let v51 : BitVec 1 := Scalar.cmpi .eq v2 c4_i32_45
  let c1_i32_46 : BitVec 32 := 1#32
  let c3_i32_43 : BitVec 32 := 3#32
  let v49 : BitVec 1 := Scalar.cmpi .eq v2 c3_i32_43
  let c1_i32_44 : BitVec 32 := 1#32
  let c2_i32_41 : BitVec 32 := 2#32
  let v47 : BitVec 1 := Scalar.cmpi .eq v2 c2_i32_41
  let c0_i32_42 : BitVec 32 := 0#32
  let c1_i32_38 : BitVec 32 := 1#32
  let v45 : BitVec 1 := Scalar.cmpi .eq v2 c1_i32_38
  let c1_i32_39 : BitVec 32 := 1#32
  let c0_i32_40 : BitVec 32 := 0#32
  let v46 : BitVec 32 := Scalar.select v45 c1_i32_39 c0_i32_40
  let v48 : BitVec 32 := Scalar.select v47 c0_i32_42 v46
  let v50 : BitVec 32 := Scalar.select v49 c1_i32_44 v48
  let v52 : BitVec 32 := Scalar.select v51 c1_i32_46 v50
  let v54 : BitVec 32 := Scalar.select v53 c0_i32_48 v52
  let v56 : BitVec 32 := Scalar.select v55 c1_i32_50 v54
  let v58 : BitVec 32 := Scalar.select v57 c0_i32_52 v56
  let c1_i32_358 : BitVec 32 := 1#32
  let v282 : BitVec 1 := Scalar.cmpi .eq v58 c1_i32_358
  let v283 : BitVec 32 := Scalar.extui v282
  let c0_i32_359 : BitVec 32 := 0#32
  let v284 : BitVec 1 := Scalar.cmpi .ne v283 c0_i32_359
  v284

def k0_dev18 (d0 : Dev nD) : Nat :=
  let c0_i32_2377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c6_i32_37 : BitVec 32 := 6#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c4_i32_33 : BitVec 32 := 4#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c0_i32_29 : BitVec 32 := 0#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c2_i32_24 : BitVec 32 := 2#32
  let c3_i32_25 : BitVec 32 := 3#32
  let v32 : BitVec 32 := Scalar.select v31 c2_i32_24 c3_i32_25
  let v34 : BitVec 32 := Scalar.select v33 c1_i32_27 v32
  let v36 : BitVec 32 := Scalar.select v35 c0_i32_29 v34
  let v38 : BitVec 32 := Scalar.select v37 c5_i32_31 v36
  let v40 : BitVec 32 := Scalar.select v39 c4_i32_33 v38
  let v42 : BitVec 32 := Scalar.select v41 c7_i32_35 v40
  let v44 : BitVec 32 := Scalar.select v43 c6_i32_37 v42
  let c1_i32_2376 : BitVec 32 := 1#32
  let v2225 : BitVec 32 := Scalar.muli v44 c1_i32_2376
  let v2226 : BitVec 32 := Scalar.addi c0_i32_2377 v2225
  v2226.toNat
def k0_dev19 (d0 : Dev nD) : Nat :=
  let c0_i32_2388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c6_i32_37 : BitVec 32 := 6#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c4_i32_33 : BitVec 32 := 4#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c0_i32_29 : BitVec 32 := 0#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c2_i32_24 : BitVec 32 := 2#32
  let c3_i32_25 : BitVec 32 := 3#32
  let v32 : BitVec 32 := Scalar.select v31 c2_i32_24 c3_i32_25
  let v34 : BitVec 32 := Scalar.select v33 c1_i32_27 v32
  let v36 : BitVec 32 := Scalar.select v35 c0_i32_29 v34
  let v38 : BitVec 32 := Scalar.select v37 c5_i32_31 v36
  let v40 : BitVec 32 := Scalar.select v39 c4_i32_33 v38
  let v42 : BitVec 32 := Scalar.select v41 c7_i32_35 v40
  let v44 : BitVec 32 := Scalar.select v43 c6_i32_37 v42
  let c1_i32_2387 : BitVec 32 := 1#32
  let v2235 : BitVec 32 := Scalar.muli v44 c1_i32_2387
  let v2236 : BitVec 32 := Scalar.addi c0_i32_2388 v2235
  v2236.toNat
def k0_off1 (d0 : Dev nD) (c0_i32_362 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v289 : BitVec 32 := Scalar.muli v2 c512_i32
  let v290 : BitVec 32 := Scalar.addi v289 c0_i32_362
  let v291 : Index := Scalar.indexCast v290
  let c0_363 : Index := 0#32
  ![v291.toNat, 0]
def k0_off2 (d0 : Dev nD) (c4_i32_398 : BitVec 32) (c2_i32_396 : BitVec 32) (c6_i32_394 : BitVec 32) (c0_i32_392 : BitVec 32) (c7_i32_390 : BitVec 32) (c3_i32_388 : BitVec 32) (c5_i32_385 : BitVec 32) (c1_i32_386 : BitVec 32) (c0_i32_405 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_397 : BitVec 32 := 7#32
  let v353 : BitVec 1 := Scalar.cmpi .eq v2 c7_i32_397
  let c6_i32_395 : BitVec 32 := 6#32
  let v351 : BitVec 1 := Scalar.cmpi .eq v2 c6_i32_395
  let c5_i32_393 : BitVec 32 := 5#32
  let v349 : BitVec 1 := Scalar.cmpi .eq v2 c5_i32_393
  let c4_i32_391 : BitVec 32 := 4#32
  let v347 : BitVec 1 := Scalar.cmpi .eq v2 c4_i32_391
  let c3_i32_389 : BitVec 32 := 3#32
  let v345 : BitVec 1 := Scalar.cmpi .eq v2 c3_i32_389
  let c2_i32_387 : BitVec 32 := 2#32
  let v343 : BitVec 1 := Scalar.cmpi .eq v2 c2_i32_387
  let c1_i32_384 : BitVec 32 := 1#32
  let v341 : BitVec 1 := Scalar.cmpi .eq v2 c1_i32_384
  let v342 : BitVec 32 := Scalar.select v341 c5_i32_385 c1_i32_386
  let v344 : BitVec 32 := Scalar.select v343 c3_i32_388 v342
  let v346 : BitVec 32 := Scalar.select v345 c7_i32_390 v344
  let v348 : BitVec 32 := Scalar.select v347 c0_i32_392 v346
  let v350 : BitVec 32 := Scalar.select v349 c6_i32_394 v348
  let v352 : BitVec 32 := Scalar.select v351 c2_i32_396 v350
  let v354 : BitVec 32 := Scalar.select v353 c4_i32_398 v352
  let c512_i32_404 : BitVec 32 := 512#32
  let v358 : BitVec 32 := Scalar.muli v354 c512_i32_404
  let v359 : BitVec 32 := Scalar.addi v358 c0_i32_405
  let v360 : Index := Scalar.indexCast v359
  let c0_406 : Index := 0#32
  ![v360.toNat, 0]
def k0_off2_at (r : Fin 20) : BitVec 32 × BitVec 32 × BitVec 32 × BitVec 32 × BitVec 32 × BitVec 32 × BitVec 32 × BitVec 32 × BitVec 32 :=
  if r.val < 10 then
    if r.val < 5 then
      if r.val < 2 then
        if r.val < 1 then
          (4#32, 2#32, 6#32, 0#32, 7#32, 3#32, 5#32, 1#32, 0#32)
        else
          (4#32, 2#32, 6#32, 0#32, 7#32, 3#32, 5#32, 1#32, 128#32)
      else
        if r.val < 3 then
          (3#32, 5#32, 1#32, 7#32, 2#32, 6#32, 0#32, 4#32, 256#32)
        else
          if r.val < 4 then
            (3#32, 5#32, 1#32, 7#32, 2#32, 6#32, 0#32, 4#32, 384#32)
          else
            (0#32, 3#32, 2#32, 1#32, 4#32, 7#32, 6#32, 5#32, 0#32)
    else
      if r.val < 7 then
        if r.val < 6 then
          (0#32, 3#32, 2#32, 1#32, 4#32, 7#32, 6#32, 5#32, 128#32)
        else
          (2#32, 1#32, 0#32, 3#32, 6#32, 5#32, 4#32, 7#32, 256#32)
      else
        if r.val < 8 then
          (2#32, 1#32, 0#32, 3#32, 6#32, 5#32, 4#32, 7#32, 384#32)
        else
          if r.val < 9 then
            (1#32, 7#32, 3#32, 5#32, 0#32, 4#32, 2#32, 6#32, 0#32)
          else
            (1#32, 7#32, 3#32, 5#32, 0#32, 4#32, 2#32, 6#32, 128#32)
  else
    if r.val < 15 then
      if r.val < 12 then
        if r.val < 11 then
          (6#32, 0#32, 4#32, 2#32, 5#32, 1#32, 7#32, 3#32, 256#32)
        else
          (6#32, 0#32, 4#32, 2#32, 5#32, 1#32, 7#32, 3#32, 384#32)
      else
        if r.val < 13 then
          (5#32, 4#32, 7#32, 6#32, 1#32, 0#32, 3#32, 2#32, 0#32)
        else
          if r.val < 14 then
            (5#32, 4#32, 7#32, 6#32, 1#32, 0#32, 3#32, 2#32, 128#32)
          else
            (5#32, 4#32, 7#32, 6#32, 1#32, 0#32, 3#32, 2#32, 256#32)
    else
      if r.val < 17 then
        if r.val < 16 then
          (5#32, 4#32, 7#32, 6#32, 1#32, 0#32, 3#32, 2#32, 384#32)
        else
          (6#32, 0#32, 4#32, 2#32, 5#32, 1#32, 7#32, 3#32, 0#32)
      else
        if r.val < 18 then
          (6#32, 0#32, 4#32, 2#32, 5#32, 1#32, 7#32, 3#32, 128#32)
        else
          if r.val < 19 then
            (1#32, 7#32, 3#32, 5#32, 0#32, 4#32, 2#32, 6#32, 256#32)
          else
            (1#32, 7#32, 3#32, 5#32, 0#32, 4#32, 2#32, 6#32, 384#32)
def k0_dev20 (d0 : Dev nD) : Nat :=
  let c0_i32_530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_529 : BitVec 32 := 1#32
  let v477 : BitVec 32 := Scalar.muli v30 c1_i32_529
  let v478 : BitVec 32 := Scalar.addi c0_i32_530 v477
  v478.toNat
def k0_dev21 (d0 : Dev nD) : Nat :=
  let c0_i32_543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_542 : BitVec 32 := 1#32
  let v481 : BitVec 32 := Scalar.muli v16 c1_i32_542
  let v482 : BitVec 32 := Scalar.addi c0_i32_543 v481
  v482.toNat
def k0_dev22 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_577 : BitVec 32 := 1#32
  let v507 : BitVec 32 := Scalar.muli v16 c1_i32_577
  let v508 : BitVec 32 := Scalar.addi c0_i32_578 v507
  v508.toNat
def k0_dev23 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_590 : BitVec 32 := 1#32
  let v511 : BitVec 32 := Scalar.muli v30 c1_i32_590
  let v512 : BitVec 32 := Scalar.addi c0_i32_591 v511
  v512.toNat
def k0_dev24 (d0 : Dev nD) : Nat :=
  let c0_i32_626 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_625 : BitVec 32 := 1#32
  let v537 : BitVec 32 := Scalar.muli v30 c1_i32_625
  let v538 : BitVec 32 := Scalar.addi c0_i32_626 v537
  v538.toNat
def k0_dev25 (d0 : Dev nD) : Nat :=
  let c0_i32_639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_638 : BitVec 32 := 1#32
  let v541 : BitVec 32 := Scalar.muli v16 c1_i32_638
  let v542 : BitVec 32 := Scalar.addi c0_i32_639 v541
  v542.toNat
def k0_dev26 (d0 : Dev nD) : Nat :=
  let c0_i32_674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_673 : BitVec 32 := 1#32
  let v567 : BitVec 32 := Scalar.muli v16 c1_i32_673
  let v568 : BitVec 32 := Scalar.addi c0_i32_674 v567
  v568.toNat
def k0_dev27 (d0 : Dev nD) : Nat :=
  let c0_i32_687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_686 : BitVec 32 := 1#32
  let v571 : BitVec 32 := Scalar.muli v30 c1_i32_686
  let v572 : BitVec 32 := Scalar.addi c0_i32_687 v571
  v572.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_51 : BitVec 32 := 7#32
  let v57 : BitVec 1 := Scalar.cmpi .eq v2 c7_i32_51
  let c0_i32_52 : BitVec 32 := 0#32
  let c6_i32_49 : BitVec 32 := 6#32
  let v55 : BitVec 1 := Scalar.cmpi .eq v2 c6_i32_49
  let c1_i32_50 : BitVec 32 := 1#32
  let c5_i32_47 : BitVec 32 := 5#32
  let v53 : BitVec 1 := Scalar.cmpi .eq v2 c5_i32_47
  let c0_i32_48 : BitVec 32 := 0#32
  let c4_i32_45 : BitVec 32 := 4#32
  let v51 : BitVec 1 := Scalar.cmpi .eq v2 c4_i32_45
  let c1_i32_46 : BitVec 32 := 1#32
  let c3_i32_43 : BitVec 32 := 3#32
  let v49 : BitVec 1 := Scalar.cmpi .eq v2 c3_i32_43
  let c1_i32_44 : BitVec 32 := 1#32
  let c2_i32_41 : BitVec 32 := 2#32
  let v47 : BitVec 1 := Scalar.cmpi .eq v2 c2_i32_41
  let c0_i32_42 : BitVec 32 := 0#32
  let c1_i32_38 : BitVec 32 := 1#32
  let v45 : BitVec 1 := Scalar.cmpi .eq v2 c1_i32_38
  let c1_i32_39 : BitVec 32 := 1#32
  let c0_i32_40 : BitVec 32 := 0#32
  let v46 : BitVec 32 := Scalar.select v45 c1_i32_39 c0_i32_40
  let v48 : BitVec 32 := Scalar.select v47 c0_i32_42 v46
  let v50 : BitVec 32 := Scalar.select v49 c1_i32_44 v48
  let v52 : BitVec 32 := Scalar.select v51 c1_i32_46 v50
  let v54 : BitVec 32 := Scalar.select v53 c0_i32_48 v52
  let v56 : BitVec 32 := Scalar.select v55 c1_i32_50 v54
  let v58 : BitVec 32 := Scalar.select v57 c0_i32_52 v56
  let c0_i32_692 : BitVec 32 := 0#32
  let v581 : BitVec 1 := Scalar.cmpi .eq v58 c0_i32_692
  let v582 : BitVec 32 := Scalar.extui v581
  let c0_i32_693 : BitVec 32 := 0#32
  let v583 : BitVec 1 := Scalar.cmpi .ne v582 c0_i32_693
  v583

def k0_dev28 (d0 : Dev nD) : Nat :=
  let c0_i32_2377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c6_i32_37 : BitVec 32 := 6#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c4_i32_33 : BitVec 32 := 4#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c0_i32_29 : BitVec 32 := 0#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c2_i32_24 : BitVec 32 := 2#32
  let c3_i32_25 : BitVec 32 := 3#32
  let v32 : BitVec 32 := Scalar.select v31 c2_i32_24 c3_i32_25
  let v34 : BitVec 32 := Scalar.select v33 c1_i32_27 v32
  let v36 : BitVec 32 := Scalar.select v35 c0_i32_29 v34
  let v38 : BitVec 32 := Scalar.select v37 c5_i32_31 v36
  let v40 : BitVec 32 := Scalar.select v39 c4_i32_33 v38
  let v42 : BitVec 32 := Scalar.select v41 c7_i32_35 v40
  let v44 : BitVec 32 := Scalar.select v43 c6_i32_37 v42
  let c1_i32_2376 : BitVec 32 := 1#32
  let v2225 : BitVec 32 := Scalar.muli v44 c1_i32_2376
  let v2226 : BitVec 32 := Scalar.addi c0_i32_2377 v2225
  v2226.toNat
def k0_dev29 (d0 : Dev nD) : Nat :=
  let c0_i32_2388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c6_i32_37 : BitVec 32 := 6#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c4_i32_33 : BitVec 32 := 4#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c0_i32_29 : BitVec 32 := 0#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c2_i32_24 : BitVec 32 := 2#32
  let c3_i32_25 : BitVec 32 := 3#32
  let v32 : BitVec 32 := Scalar.select v31 c2_i32_24 c3_i32_25
  let v34 : BitVec 32 := Scalar.select v33 c1_i32_27 v32
  let v36 : BitVec 32 := Scalar.select v35 c0_i32_29 v34
  let v38 : BitVec 32 := Scalar.select v37 c5_i32_31 v36
  let v40 : BitVec 32 := Scalar.select v39 c4_i32_33 v38
  let v42 : BitVec 32 := Scalar.select v41 c7_i32_35 v40
  let v44 : BitVec 32 := Scalar.select v43 c6_i32_37 v42
  let c1_i32_2387 : BitVec 32 := 1#32
  let v2235 : BitVec 32 := Scalar.muli v44 c1_i32_2387
  let v2236 : BitVec 32 := Scalar.addi c0_i32_2388 v2235
  v2236.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_51 : BitVec 32 := 7#32
  let v57 : BitVec 1 := Scalar.cmpi .eq v2 c7_i32_51
  let c0_i32_52 : BitVec 32 := 0#32
  let c6_i32_49 : BitVec 32 := 6#32
  let v55 : BitVec 1 := Scalar.cmpi .eq v2 c6_i32_49
  let c1_i32_50 : BitVec 32 := 1#32
  let c5_i32_47 : BitVec 32 := 5#32
  let v53 : BitVec 1 := Scalar.cmpi .eq v2 c5_i32_47
  let c0_i32_48 : BitVec 32 := 0#32
  let c4_i32_45 : BitVec 32 := 4#32
  let v51 : BitVec 1 := Scalar.cmpi .eq v2 c4_i32_45
  let c1_i32_46 : BitVec 32 := 1#32
  let c3_i32_43 : BitVec 32 := 3#32
  let v49 : BitVec 1 := Scalar.cmpi .eq v2 c3_i32_43
  let c1_i32_44 : BitVec 32 := 1#32
  let c2_i32_41 : BitVec 32 := 2#32
  let v47 : BitVec 1 := Scalar.cmpi .eq v2 c2_i32_41
  let c0_i32_42 : BitVec 32 := 0#32
  let c1_i32_38 : BitVec 32 := 1#32
  let v45 : BitVec 1 := Scalar.cmpi .eq v2 c1_i32_38
  let c1_i32_39 : BitVec 32 := 1#32
  let c0_i32_40 : BitVec 32 := 0#32
  let v46 : BitVec 32 := Scalar.select v45 c1_i32_39 c0_i32_40
  let v48 : BitVec 32 := Scalar.select v47 c0_i32_42 v46
  let v50 : BitVec 32 := Scalar.select v49 c1_i32_44 v48
  let v52 : BitVec 32 := Scalar.select v51 c1_i32_46 v50
  let v54 : BitVec 32 := Scalar.select v53 c0_i32_48 v52
  let v56 : BitVec 32 := Scalar.select v55 c1_i32_50 v54
  let v58 : BitVec 32 := Scalar.select v57 c0_i32_52 v56
  let c1_i32_694 : BitVec 32 := 1#32
  let v584 : BitVec 1 := Scalar.cmpi .eq v58 c1_i32_694
  let v585 : BitVec 32 := Scalar.extui v584
  let c0_i32_695 : BitVec 32 := 0#32
  let v586 : BitVec 1 := Scalar.cmpi .ne v585 c0_i32_695
  v586

def k0_dev30 (d0 : Dev nD) : Nat :=
  let c0_i32_2377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c6_i32_37 : BitVec 32 := 6#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c4_i32_33 : BitVec 32 := 4#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c0_i32_29 : BitVec 32 := 0#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c2_i32_24 : BitVec 32 := 2#32
  let c3_i32_25 : BitVec 32 := 3#32
  let v32 : BitVec 32 := Scalar.select v31 c2_i32_24 c3_i32_25
  let v34 : BitVec 32 := Scalar.select v33 c1_i32_27 v32
  let v36 : BitVec 32 := Scalar.select v35 c0_i32_29 v34
  let v38 : BitVec 32 := Scalar.select v37 c5_i32_31 v36
  let v40 : BitVec 32 := Scalar.select v39 c4_i32_33 v38
  let v42 : BitVec 32 := Scalar.select v41 c7_i32_35 v40
  let v44 : BitVec 32 := Scalar.select v43 c6_i32_37 v42
  let c1_i32_2376 : BitVec 32 := 1#32
  let v2225 : BitVec 32 := Scalar.muli v44 c1_i32_2376
  let v2226 : BitVec 32 := Scalar.addi c0_i32_2377 v2225
  v2226.toNat
def k0_dev31 (d0 : Dev nD) : Nat :=
  let c0_i32_2388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c6_i32_37 : BitVec 32 := 6#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c4_i32_33 : BitVec 32 := 4#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c0_i32_29 : BitVec 32 := 0#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c2_i32_24 : BitVec 32 := 2#32
  let c3_i32_25 : BitVec 32 := 3#32
  let v32 : BitVec 32 := Scalar.select v31 c2_i32_24 c3_i32_25
  let v34 : BitVec 32 := Scalar.select v33 c1_i32_27 v32
  let v36 : BitVec 32 := Scalar.select v35 c0_i32_29 v34
  let v38 : BitVec 32 := Scalar.select v37 c5_i32_31 v36
  let v40 : BitVec 32 := Scalar.select v39 c4_i32_33 v38
  let v42 : BitVec 32 := Scalar.select v41 c7_i32_35 v40
  let v44 : BitVec 32 := Scalar.select v43 c6_i32_37 v42
  let c1_i32_2387 : BitVec 32 := 1#32
  let v2235 : BitVec 32 := Scalar.muli v44 c1_i32_2387
  let v2236 : BitVec 32 := Scalar.addi c0_i32_2388 v2235
  v2236.toNat
def k0_off3 (d0 : Dev nD) (c2_i32_818 : BitVec 32) (c1_i32_816 : BitVec 32) (c0_i32_814 : BitVec 32) (c3_i32_812 : BitVec 32) (c6_i32_810 : BitVec 32) (c5_i32_808 : BitVec 32) (c4_i32_805 : BitVec 32) (c7_i32_806 : BitVec 32) (c0_i32_833 : BitVec 32) (c3_i32_831 : BitVec 32) (c2_i32_829 : BitVec 32) (c1_i32_827 : BitVec 32) (c4_i32_825 : BitVec 32) (c7_i32_823 : BitVec 32) (c6_i32_820 : BitVec 32) (c5_i32_821 : BitVec 32) (c0_i32_835 : BitVec 32) (c2_i32_836 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_51 : BitVec 32 := 7#32
  let v57 : BitVec 1 := Scalar.cmpi .eq v2 c7_i32_51
  let c0_i32_52 : BitVec 32 := 0#32
  let c6_i32_49 : BitVec 32 := 6#32
  let v55 : BitVec 1 := Scalar.cmpi .eq v2 c6_i32_49
  let c1_i32_50 : BitVec 32 := 1#32
  let c5_i32_47 : BitVec 32 := 5#32
  let v53 : BitVec 1 := Scalar.cmpi .eq v2 c5_i32_47
  let c0_i32_48 : BitVec 32 := 0#32
  let c4_i32_45 : BitVec 32 := 4#32
  let v51 : BitVec 1 := Scalar.cmpi .eq v2 c4_i32_45
  let c1_i32_46 : BitVec 32 := 1#32
  let c3_i32_43 : BitVec 32 := 3#32
  let v49 : BitVec 1 := Scalar.cmpi .eq v2 c3_i32_43
  let c1_i32_44 : BitVec 32 := 1#32
  let c2_i32_41 : BitVec 32 := 2#32
  let v47 : BitVec 1 := Scalar.cmpi .eq v2 c2_i32_41
  let c0_i32_42 : BitVec 32 := 0#32
  let c1_i32_38 : BitVec 32 := 1#32
  let v45 : BitVec 1 := Scalar.cmpi .eq v2 c1_i32_38
  let c1_i32_39 : BitVec 32 := 1#32
  let c0_i32_40 : BitVec 32 := 0#32
  let v46 : BitVec 32 := Scalar.select v45 c1_i32_39 c0_i32_40
  let v48 : BitVec 32 := Scalar.select v47 c0_i32_42 v46
  let v50 : BitVec 32 := Scalar.select v49 c1_i32_44 v48
  let v52 : BitVec 32 := Scalar.select v51 c1_i32_46 v50
  let v54 : BitVec 32 := Scalar.select v53 c0_i32_48 v52
  let v56 : BitVec 32 := Scalar.select v55 c1_i32_50 v54
  let v58 : BitVec 32 := Scalar.select v57 c0_i32_52 v56
  let c0_i32_803 : BitVec 32 := 0#32
  let v703 : BitVec 1 := Scalar.cmpi .eq v58 c0_i32_803
  let c7_i32_817 : BitVec 32 := 7#32
  let v716 : BitVec 1 := Scalar.cmpi .eq v2 c7_i32_817
  let c6_i32_815 : BitVec 32 := 6#32
  let v714 : BitVec 1 := Scalar.cmpi .eq v2 c6_i32_815
  let c5_i32_813 : BitVec 32 := 5#32
  let v712 : BitVec 1 := Scalar.cmpi .eq v2 c5_i32_813
  let c4_i32_811 : BitVec 32 := 4#32
  let v710 : BitVec 1 := Scalar.cmpi .eq v2 c4_i32_811
  let c3_i32_809 : BitVec 32 := 3#32
  let v708 : BitVec 1 := Scalar.cmpi .eq v2 c3_i32_809
  let c2_i32_807 : BitVec 32 := 2#32
  let v706 : BitVec 1 := Scalar.cmpi .eq v2 c2_i32_807
  let c1_i32_804 : BitVec 32 := 1#32
  let v704 : BitVec 1 := Scalar.cmpi .eq v2 c1_i32_804
  let v705 : BitVec 32 := Scalar.select v704 c4_i32_805 c7_i32_806
  let v707 : BitVec 32 := Scalar.select v706 c5_i32_808 v705
  let v709 : BitVec 32 := Scalar.select v708 c6_i32_810 v707
  let v711 : BitVec 32 := Scalar.select v710 c3_i32_812 v709
  let v713 : BitVec 32 := Scalar.select v712 c0_i32_814 v711
  let v715 : BitVec 32 := Scalar.select v714 c1_i32_816 v713
  let v717 : BitVec 32 := Scalar.select v716 c2_i32_818 v715
  let c7_i32_832 : BitVec 32 := 7#32
  let v730 : BitVec 1 := Scalar.cmpi .eq v2 c7_i32_832
  let c6_i32_830 : BitVec 32 := 6#32
  let v728 : BitVec 1 := Scalar.cmpi .eq v2 c6_i32_830
  let c5_i32_828 : BitVec 32 := 5#32
  let v726 : BitVec 1 := Scalar.cmpi .eq v2 c5_i32_828
  let c4_i32_826 : BitVec 32 := 4#32
  let v724 : BitVec 1 := Scalar.cmpi .eq v2 c4_i32_826
  let c3_i32_824 : BitVec 32 := 3#32
  let v722 : BitVec 1 := Scalar.cmpi .eq v2 c3_i32_824
  let c2_i32_822 : BitVec 32 := 2#32
  let v720 : BitVec 1 := Scalar.cmpi .eq v2 c2_i32_822
  let c1_i32_819 : BitVec 32 := 1#32
  let v718 : BitVec 1 := Scalar.cmpi .eq v2 c1_i32_819
  let v719 : BitVec 32 := Scalar.select v718 c6_i32_820 c5_i32_821
  let v721 : BitVec 32 := Scalar.select v720 c7_i32_823 v719
  let v723 : BitVec 32 := Scalar.select v722 c4_i32_825 v721
  let v725 : BitVec 32 := Scalar.select v724 c1_i32_827 v723
  let v727 : BitVec 32 := Scalar.select v726 c2_i32_829 v725
  let v729 : BitVec 32 := Scalar.select v728 c3_i32_831 v727
  let v731 : BitVec 32 := Scalar.select v730 c0_i32_833 v729
  let v732 : BitVec 32 := Scalar.select v703 v717 v731
  let c512_i32_841 : BitVec 32 := 512#32
  let v738 : BitVec 32 := Scalar.muli v732 c512_i32_841
  let c0_i32_834 : BitVec 32 := 0#32
  let v733 : BitVec 1 := Scalar.cmpi .eq v58 c0_i32_834
  let v734 : BitVec 32 := Scalar.select v733 c0_i32_835 c2_i32_836
  let c128_i32_842 : BitVec 32 := 128#32
  let v739 : BitVec 32 := Scalar.muli v734 c128_i32_842
  let v740 : BitVec 32 := Scalar.addi v738 v739
  let v741 : Index := Scalar.indexCast v740
  let c0_843 : Index := 0#32
  ![v741.toNat, 0]
def k0_off3_at (r : Fin 8) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 4 then
    if r.val < 2 then
      if r.val < 1 then
        (2#32, 1#32, 0#32, 3#32, 6#32, 5#32, 4#32, 7#32, 0#32, 3#32, 2#32, 1#32, 4#32, 7#32, 6#32, 5#32, 0#32, 2#32)
      else
        (2#32, 1#32, 0#32, 3#32, 6#32, 5#32, 4#32, 7#32, 0#32, 3#32, 2#32, 1#32, 4#32, 7#32, 6#32, 5#32, 1#32, 3#32)
    else
      if r.val < 3 then
        (3#32, 5#32, 1#32, 7#32, 2#32, 6#32, 0#32, 4#32, 4#32, 2#32, 6#32, 0#32, 7#32, 3#32, 5#32, 1#32, 0#32, 2#32)
      else
        (3#32, 5#32, 1#32, 7#32, 2#32, 6#32, 0#32, 4#32, 4#32, 2#32, 6#32, 0#32, 7#32, 3#32, 5#32, 1#32, 1#32, 3#32)
  else
    if r.val < 6 then
      if r.val < 5 then
        (0#32, 3#32, 2#32, 1#32, 4#32, 7#32, 6#32, 5#32, 2#32, 1#32, 0#32, 3#32, 6#32, 5#32, 4#32, 7#32, 2#32, 0#32)
      else
        (0#32, 3#32, 2#32, 1#32, 4#32, 7#32, 6#32, 5#32, 2#32, 1#32, 0#32, 3#32, 6#32, 5#32, 4#32, 7#32, 3#32, 1#32)
    else
      if r.val < 7 then
        (4#32, 2#32, 6#32, 0#32, 7#32, 3#32, 5#32, 1#32, 3#32, 5#32, 1#32, 7#32, 2#32, 6#32, 0#32, 4#32, 2#32, 0#32)
      else
        (4#32, 2#32, 6#32, 0#32, 7#32, 3#32, 5#32, 1#32, 3#32, 5#32, 1#32, 7#32, 2#32, 6#32, 0#32, 4#32, 3#32, 1#32)
def k0_dev32 (d0 : Dev nD) : Nat :=
  let c0_i32_948 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_947 : BitVec 32 := 1#32
  let v831 : BitVec 32 := Scalar.muli v30 c1_i32_947
  let v832 : BitVec 32 := Scalar.addi c0_i32_948 v831
  v832.toNat
def k0_dev33 (d0 : Dev nD) : Nat :=
  let c0_i32_961 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_960 : BitVec 32 := 1#32
  let v835 : BitVec 32 := Scalar.muli v16 c1_i32_960
  let v836 : BitVec 32 := Scalar.addi c0_i32_961 v835
  v836.toNat
def k0_dev34 (d0 : Dev nD) : Nat :=
  let c0_i32_996 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_995 : BitVec 32 := 1#32
  let v861 : BitVec 32 := Scalar.muli v16 c1_i32_995
  let v862 : BitVec 32 := Scalar.addi c0_i32_996 v861
  v862.toNat
def k0_dev35 (d0 : Dev nD) : Nat :=
  let c0_i32_1009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_1008 : BitVec 32 := 1#32
  let v865 : BitVec 32 := Scalar.muli v30 c1_i32_1008
  let v866 : BitVec 32 := Scalar.addi c0_i32_1009 v865
  v866.toNat
def k0_dev36 (d0 : Dev nD) : Nat :=
  let c0_i32_1044 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_1043 : BitVec 32 := 1#32
  let v891 : BitVec 32 := Scalar.muli v30 c1_i32_1043
  let v892 : BitVec 32 := Scalar.addi c0_i32_1044 v891
  v892.toNat
def k0_dev37 (d0 : Dev nD) : Nat :=
  let c0_i32_1057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_1056 : BitVec 32 := 1#32
  let v895 : BitVec 32 := Scalar.muli v16 c1_i32_1056
  let v896 : BitVec 32 := Scalar.addi c0_i32_1057 v895
  v896.toNat
def k0_dev38 (d0 : Dev nD) : Nat :=
  let c0_i32_1092 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_1091 : BitVec 32 := 1#32
  let v921 : BitVec 32 := Scalar.muli v16 c1_i32_1091
  let v922 : BitVec 32 := Scalar.addi c0_i32_1092 v921
  v922.toNat
def k0_dev39 (d0 : Dev nD) : Nat :=
  let c0_i32_1105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_1104 : BitVec 32 := 1#32
  let v925 : BitVec 32 := Scalar.muli v30 c1_i32_1104
  let v926 : BitVec 32 := Scalar.addi c0_i32_1105 v925
  v926.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_51 : BitVec 32 := 7#32
  let v57 : BitVec 1 := Scalar.cmpi .eq v2 c7_i32_51
  let c0_i32_52 : BitVec 32 := 0#32
  let c6_i32_49 : BitVec 32 := 6#32
  let v55 : BitVec 1 := Scalar.cmpi .eq v2 c6_i32_49
  let c1_i32_50 : BitVec 32 := 1#32
  let c5_i32_47 : BitVec 32 := 5#32
  let v53 : BitVec 1 := Scalar.cmpi .eq v2 c5_i32_47
  let c0_i32_48 : BitVec 32 := 0#32
  let c4_i32_45 : BitVec 32 := 4#32
  let v51 : BitVec 1 := Scalar.cmpi .eq v2 c4_i32_45
  let c1_i32_46 : BitVec 32 := 1#32
  let c3_i32_43 : BitVec 32 := 3#32
  let v49 : BitVec 1 := Scalar.cmpi .eq v2 c3_i32_43
  let c1_i32_44 : BitVec 32 := 1#32
  let c2_i32_41 : BitVec 32 := 2#32
  let v47 : BitVec 1 := Scalar.cmpi .eq v2 c2_i32_41
  let c0_i32_42 : BitVec 32 := 0#32
  let c1_i32_38 : BitVec 32 := 1#32
  let v45 : BitVec 1 := Scalar.cmpi .eq v2 c1_i32_38
  let c1_i32_39 : BitVec 32 := 1#32
  let c0_i32_40 : BitVec 32 := 0#32
  let v46 : BitVec 32 := Scalar.select v45 c1_i32_39 c0_i32_40
  let v48 : BitVec 32 := Scalar.select v47 c0_i32_42 v46
  let v50 : BitVec 32 := Scalar.select v49 c1_i32_44 v48
  let v52 : BitVec 32 := Scalar.select v51 c1_i32_46 v50
  let v54 : BitVec 32 := Scalar.select v53 c0_i32_48 v52
  let v56 : BitVec 32 := Scalar.select v55 c1_i32_50 v54
  let v58 : BitVec 32 := Scalar.select v57 c0_i32_52 v56
  let c0_i32_1110 : BitVec 32 := 0#32
  let v935 : BitVec 1 := Scalar.cmpi .eq v58 c0_i32_1110
  let v936 : BitVec 32 := Scalar.extui v935
  let c0_i32_1111 : BitVec 32 := 0#32
  let v937 : BitVec 1 := Scalar.cmpi .ne v936 c0_i32_1111
  v937

def k0_dev40 (d0 : Dev nD) : Nat :=
  let c0_i32_2377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c6_i32_37 : BitVec 32 := 6#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c4_i32_33 : BitVec 32 := 4#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c0_i32_29 : BitVec 32 := 0#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c2_i32_24 : BitVec 32 := 2#32
  let c3_i32_25 : BitVec 32 := 3#32
  let v32 : BitVec 32 := Scalar.select v31 c2_i32_24 c3_i32_25
  let v34 : BitVec 32 := Scalar.select v33 c1_i32_27 v32
  let v36 : BitVec 32 := Scalar.select v35 c0_i32_29 v34
  let v38 : BitVec 32 := Scalar.select v37 c5_i32_31 v36
  let v40 : BitVec 32 := Scalar.select v39 c4_i32_33 v38
  let v42 : BitVec 32 := Scalar.select v41 c7_i32_35 v40
  let v44 : BitVec 32 := Scalar.select v43 c6_i32_37 v42
  let c1_i32_2376 : BitVec 32 := 1#32
  let v2225 : BitVec 32 := Scalar.muli v44 c1_i32_2376
  let v2226 : BitVec 32 := Scalar.addi c0_i32_2377 v2225
  v2226.toNat
def k0_dev41 (d0 : Dev nD) : Nat :=
  let c0_i32_2388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c6_i32_37 : BitVec 32 := 6#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c4_i32_33 : BitVec 32 := 4#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c0_i32_29 : BitVec 32 := 0#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c2_i32_24 : BitVec 32 := 2#32
  let c3_i32_25 : BitVec 32 := 3#32
  let v32 : BitVec 32 := Scalar.select v31 c2_i32_24 c3_i32_25
  let v34 : BitVec 32 := Scalar.select v33 c1_i32_27 v32
  let v36 : BitVec 32 := Scalar.select v35 c0_i32_29 v34
  let v38 : BitVec 32 := Scalar.select v37 c5_i32_31 v36
  let v40 : BitVec 32 := Scalar.select v39 c4_i32_33 v38
  let v42 : BitVec 32 := Scalar.select v41 c7_i32_35 v40
  let v44 : BitVec 32 := Scalar.select v43 c6_i32_37 v42
  let c1_i32_2387 : BitVec 32 := 1#32
  let v2235 : BitVec 32 := Scalar.muli v44 c1_i32_2387
  let v2236 : BitVec 32 := Scalar.addi c0_i32_2388 v2235
  v2236.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_51 : BitVec 32 := 7#32
  let v57 : BitVec 1 := Scalar.cmpi .eq v2 c7_i32_51
  let c0_i32_52 : BitVec 32 := 0#32
  let c6_i32_49 : BitVec 32 := 6#32
  let v55 : BitVec 1 := Scalar.cmpi .eq v2 c6_i32_49
  let c1_i32_50 : BitVec 32 := 1#32
  let c5_i32_47 : BitVec 32 := 5#32
  let v53 : BitVec 1 := Scalar.cmpi .eq v2 c5_i32_47
  let c0_i32_48 : BitVec 32 := 0#32
  let c4_i32_45 : BitVec 32 := 4#32
  let v51 : BitVec 1 := Scalar.cmpi .eq v2 c4_i32_45
  let c1_i32_46 : BitVec 32 := 1#32
  let c3_i32_43 : BitVec 32 := 3#32
  let v49 : BitVec 1 := Scalar.cmpi .eq v2 c3_i32_43
  let c1_i32_44 : BitVec 32 := 1#32
  let c2_i32_41 : BitVec 32 := 2#32
  let v47 : BitVec 1 := Scalar.cmpi .eq v2 c2_i32_41
  let c0_i32_42 : BitVec 32 := 0#32
  let c1_i32_38 : BitVec 32 := 1#32
  let v45 : BitVec 1 := Scalar.cmpi .eq v2 c1_i32_38
  let c1_i32_39 : BitVec 32 := 1#32
  let c0_i32_40 : BitVec 32 := 0#32
  let v46 : BitVec 32 := Scalar.select v45 c1_i32_39 c0_i32_40
  let v48 : BitVec 32 := Scalar.select v47 c0_i32_42 v46
  let v50 : BitVec 32 := Scalar.select v49 c1_i32_44 v48
  let v52 : BitVec 32 := Scalar.select v51 c1_i32_46 v50
  let v54 : BitVec 32 := Scalar.select v53 c0_i32_48 v52
  let v56 : BitVec 32 := Scalar.select v55 c1_i32_50 v54
  let v58 : BitVec 32 := Scalar.select v57 c0_i32_52 v56
  let c1_i32_1112 : BitVec 32 := 1#32
  let v938 : BitVec 1 := Scalar.cmpi .eq v58 c1_i32_1112
  let v939 : BitVec 32 := Scalar.extui v938
  let c0_i32_1113 : BitVec 32 := 0#32
  let v940 : BitVec 1 := Scalar.cmpi .ne v939 c0_i32_1113
  v940

def k0_dev42 (d0 : Dev nD) : Nat :=
  let c0_i32_2377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c6_i32_37 : BitVec 32 := 6#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c4_i32_33 : BitVec 32 := 4#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c0_i32_29 : BitVec 32 := 0#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c2_i32_24 : BitVec 32 := 2#32
  let c3_i32_25 : BitVec 32 := 3#32
  let v32 : BitVec 32 := Scalar.select v31 c2_i32_24 c3_i32_25
  let v34 : BitVec 32 := Scalar.select v33 c1_i32_27 v32
  let v36 : BitVec 32 := Scalar.select v35 c0_i32_29 v34
  let v38 : BitVec 32 := Scalar.select v37 c5_i32_31 v36
  let v40 : BitVec 32 := Scalar.select v39 c4_i32_33 v38
  let v42 : BitVec 32 := Scalar.select v41 c7_i32_35 v40
  let v44 : BitVec 32 := Scalar.select v43 c6_i32_37 v42
  let c1_i32_2376 : BitVec 32 := 1#32
  let v2225 : BitVec 32 := Scalar.muli v44 c1_i32_2376
  let v2226 : BitVec 32 := Scalar.addi c0_i32_2377 v2225
  v2226.toNat
def k0_dev43 (d0 : Dev nD) : Nat :=
  let c0_i32_2388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c6_i32_37 : BitVec 32 := 6#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c4_i32_33 : BitVec 32 := 4#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c0_i32_29 : BitVec 32 := 0#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c2_i32_24 : BitVec 32 := 2#32
  let c3_i32_25 : BitVec 32 := 3#32
  let v32 : BitVec 32 := Scalar.select v31 c2_i32_24 c3_i32_25
  let v34 : BitVec 32 := Scalar.select v33 c1_i32_27 v32
  let v36 : BitVec 32 := Scalar.select v35 c0_i32_29 v34
  let v38 : BitVec 32 := Scalar.select v37 c5_i32_31 v36
  let v40 : BitVec 32 := Scalar.select v39 c4_i32_33 v38
  let v42 : BitVec 32 := Scalar.select v41 c7_i32_35 v40
  let v44 : BitVec 32 := Scalar.select v43 c6_i32_37 v42
  let c1_i32_2387 : BitVec 32 := 1#32
  let v2235 : BitVec 32 := Scalar.muli v44 c1_i32_2387
  let v2236 : BitVec 32 := Scalar.addi c0_i32_2388 v2235
  v2236.toNat
def k0_dev44 (d0 : Dev nD) : Nat :=
  let c0_i32_1366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_1365 : BitVec 32 := 1#32
  let v1185 : BitVec 32 := Scalar.muli v30 c1_i32_1365
  let v1186 : BitVec 32 := Scalar.addi c0_i32_1366 v1185
  v1186.toNat
def k0_dev45 (d0 : Dev nD) : Nat :=
  let c0_i32_1379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_1378 : BitVec 32 := 1#32
  let v1189 : BitVec 32 := Scalar.muli v16 c1_i32_1378
  let v1190 : BitVec 32 := Scalar.addi c0_i32_1379 v1189
  v1190.toNat
def k0_dev46 (d0 : Dev nD) : Nat :=
  let c0_i32_1414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_1413 : BitVec 32 := 1#32
  let v1215 : BitVec 32 := Scalar.muli v16 c1_i32_1413
  let v1216 : BitVec 32 := Scalar.addi c0_i32_1414 v1215
  v1216.toNat
def k0_dev47 (d0 : Dev nD) : Nat :=
  let c0_i32_1427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_1426 : BitVec 32 := 1#32
  let v1219 : BitVec 32 := Scalar.muli v30 c1_i32_1426
  let v1220 : BitVec 32 := Scalar.addi c0_i32_1427 v1219
  v1220.toNat
def k0_dev48 (d0 : Dev nD) : Nat :=
  let c0_i32_1462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_1461 : BitVec 32 := 1#32
  let v1245 : BitVec 32 := Scalar.muli v30 c1_i32_1461
  let v1246 : BitVec 32 := Scalar.addi c0_i32_1462 v1245
  v1246.toNat
def k0_dev49 (d0 : Dev nD) : Nat :=
  let c0_i32_1475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_1474 : BitVec 32 := 1#32
  let v1249 : BitVec 32 := Scalar.muli v16 c1_i32_1474
  let v1250 : BitVec 32 := Scalar.addi c0_i32_1475 v1249
  v1250.toNat
def k0_dev50 (d0 : Dev nD) : Nat :=
  let c0_i32_1510 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 1 := Scalar.cmpi .eq v2 c7_i32_6
  let c3_i32_7 : BitVec 32 := 3#32
  let c6_i32_4 : BitVec 32 := 6#32
  let v13 : BitVec 1 := Scalar.cmpi .eq v2 c6_i32_4
  let c5_i32_5 : BitVec 32 := 5#32
  let c5_i32 : BitVec 32 := 5#32
  let v11 : BitVec 1 := Scalar.cmpi .eq v2 c5_i32
  let c1_i32_3 : BitVec 32 := 1#32
  let c4_i32_2 : BitVec 32 := 4#32
  let v9 : BitVec 1 := Scalar.cmpi .eq v2 c4_i32_2
  let c7_i32 : BitVec 32 := 7#32
  let c3_i32 : BitVec 32 := 3#32
  let v7 : BitVec 1 := Scalar.cmpi .eq v2 c3_i32
  let c2_i32_1 : BitVec 32 := 2#32
  let c2_i32 : BitVec 32 := 2#32
  let v5 : BitVec 1 := Scalar.cmpi .eq v2 c2_i32
  let c6_i32 : BitVec 32 := 6#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c6_i32 v4
  let v8 : BitVec 32 := Scalar.select v7 c2_i32_1 v6
  let v10 : BitVec 32 := Scalar.select v9 c7_i32 v8
  let v12 : BitVec 32 := Scalar.select v11 c1_i32_3 v10
  let v14 : BitVec 32 := Scalar.select v13 c5_i32_5 v12
  let v16 : BitVec 32 := Scalar.select v15 c3_i32_7 v14
  let c1_i32_1509 : BitVec 32 := 1#32
  let v1275 : BitVec 32 := Scalar.muli v16 c1_i32_1509
  let v1276 : BitVec 32 := Scalar.addi c0_i32_1510 v1275
  v1276.toNat
def k0_dev51 (d0 : Dev nD) : Nat :=
  let c0_i32_1523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_21 : BitVec 32 := 7#32
  let v29 : BitVec 1 := Scalar.cmpi .eq v2 c7_i32_21
  let c4_i32_22 : BitVec 32 := 4#32
  let c6_i32_19 : BitVec 32 := 6#32
  let v27 : BitVec 1 := Scalar.cmpi .eq v2 c6_i32_19
  let c2_i32_20 : BitVec 32 := 2#32
  let c5_i32_17 : BitVec 32 := 5#32
  let v25 : BitVec 1 := Scalar.cmpi .eq v2 c5_i32_17
  let c6_i32_18 : BitVec 32 := 6#32
  let c4_i32_15 : BitVec 32 := 4#32
  let v23 : BitVec 1 := Scalar.cmpi .eq v2 c4_i32_15
  let c0_i32_16 : BitVec 32 := 0#32
  let c3_i32_13 : BitVec 32 := 3#32
  let v21 : BitVec 1 := Scalar.cmpi .eq v2 c3_i32_13
  let c7_i32_14 : BitVec 32 := 7#32
  let c2_i32_11 : BitVec 32 := 2#32
  let v19 : BitVec 1 := Scalar.cmpi .eq v2 c2_i32_11
  let c3_i32_12 : BitVec 32 := 3#32
  let c1_i32_8 : BitVec 32 := 1#32
  let v17 : BitVec 1 := Scalar.cmpi .eq v2 c1_i32_8
  let c5_i32_9 : BitVec 32 := 5#32
  let c1_i32_10 : BitVec 32 := 1#32
  let v18 : BitVec 32 := Scalar.select v17 c5_i32_9 c1_i32_10
  let v20 : BitVec 32 := Scalar.select v19 c3_i32_12 v18
  let v22 : BitVec 32 := Scalar.select v21 c7_i32_14 v20
  let v24 : BitVec 32 := Scalar.select v23 c0_i32_16 v22
  let v26 : BitVec 32 := Scalar.select v25 c6_i32_18 v24
  let v28 : BitVec 32 := Scalar.select v27 c2_i32_20 v26
  let v30 : BitVec 32 := Scalar.select v29 c4_i32_22 v28
  let c1_i32_1522 : BitVec 32 := 1#32
  let v1279 : BitVec 32 := Scalar.muli v30 c1_i32_1522
  let v1280 : BitVec 32 := Scalar.addi c0_i32_1523 v1279
  v1280.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_51 : BitVec 32 := 7#32
  let v57 : BitVec 1 := Scalar.cmpi .eq v2 c7_i32_51
  let c0_i32_52 : BitVec 32 := 0#32
  let c6_i32_49 : BitVec 32 := 6#32
  let v55 : BitVec 1 := Scalar.cmpi .eq v2 c6_i32_49
  let c1_i32_50 : BitVec 32 := 1#32
  let c5_i32_47 : BitVec 32 := 5#32
  let v53 : BitVec 1 := Scalar.cmpi .eq v2 c5_i32_47
  let c0_i32_48 : BitVec 32 := 0#32
  let c4_i32_45 : BitVec 32 := 4#32
  let v51 : BitVec 1 := Scalar.cmpi .eq v2 c4_i32_45
  let c1_i32_46 : BitVec 32 := 1#32
  let c3_i32_43 : BitVec 32 := 3#32
  let v49 : BitVec 1 := Scalar.cmpi .eq v2 c3_i32_43
  let c1_i32_44 : BitVec 32 := 1#32
  let c2_i32_41 : BitVec 32 := 2#32
  let v47 : BitVec 1 := Scalar.cmpi .eq v2 c2_i32_41
  let c0_i32_42 : BitVec 32 := 0#32
  let c1_i32_38 : BitVec 32 := 1#32
  let v45 : BitVec 1 := Scalar.cmpi .eq v2 c1_i32_38
  let c1_i32_39 : BitVec 32 := 1#32
  let c0_i32_40 : BitVec 32 := 0#32
  let v46 : BitVec 32 := Scalar.select v45 c1_i32_39 c0_i32_40
  let v48 : BitVec 32 := Scalar.select v47 c0_i32_42 v46
  let v50 : BitVec 32 := Scalar.select v49 c1_i32_44 v48
  let v52 : BitVec 32 := Scalar.select v51 c1_i32_46 v50
  let v54 : BitVec 32 := Scalar.select v53 c0_i32_48 v52
  let v56 : BitVec 32 := Scalar.select v55 c1_i32_50 v54
  let v58 : BitVec 32 := Scalar.select v57 c0_i32_52 v56
  let c0_i32_1528 : BitVec 32 := 0#32
  let v1289 : BitVec 1 := Scalar.cmpi .eq v58 c0_i32_1528
  let v1290 : BitVec 32 := Scalar.extui v1289
  let c0_i32_1529 : BitVec 32 := 0#32
  let v1291 : BitVec 1 := Scalar.cmpi .ne v1290 c0_i32_1529
  v1291

def k0_dev52 (d0 : Dev nD) : Nat :=
  let c0_i32_2377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c6_i32_37 : BitVec 32 := 6#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c4_i32_33 : BitVec 32 := 4#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c0_i32_29 : BitVec 32 := 0#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c2_i32_24 : BitVec 32 := 2#32
  let c3_i32_25 : BitVec 32 := 3#32
  let v32 : BitVec 32 := Scalar.select v31 c2_i32_24 c3_i32_25
  let v34 : BitVec 32 := Scalar.select v33 c1_i32_27 v32
  let v36 : BitVec 32 := Scalar.select v35 c0_i32_29 v34
  let v38 : BitVec 32 := Scalar.select v37 c5_i32_31 v36
  let v40 : BitVec 32 := Scalar.select v39 c4_i32_33 v38
  let v42 : BitVec 32 := Scalar.select v41 c7_i32_35 v40
  let v44 : BitVec 32 := Scalar.select v43 c6_i32_37 v42
  let c1_i32_2376 : BitVec 32 := 1#32
  let v2225 : BitVec 32 := Scalar.muli v44 c1_i32_2376
  let v2226 : BitVec 32 := Scalar.addi c0_i32_2377 v2225
  v2226.toNat
def k0_dev53 (d0 : Dev nD) : Nat :=
  let c0_i32_2388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c6_i32_37 : BitVec 32 := 6#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c4_i32_33 : BitVec 32 := 4#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c0_i32_29 : BitVec 32 := 0#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c2_i32_24 : BitVec 32 := 2#32
  let c3_i32_25 : BitVec 32 := 3#32
  let v32 : BitVec 32 := Scalar.select v31 c2_i32_24 c3_i32_25
  let v34 : BitVec 32 := Scalar.select v33 c1_i32_27 v32
  let v36 : BitVec 32 := Scalar.select v35 c0_i32_29 v34
  let v38 : BitVec 32 := Scalar.select v37 c5_i32_31 v36
  let v40 : BitVec 32 := Scalar.select v39 c4_i32_33 v38
  let v42 : BitVec 32 := Scalar.select v41 c7_i32_35 v40
  let v44 : BitVec 32 := Scalar.select v43 c6_i32_37 v42
  let c1_i32_2387 : BitVec 32 := 1#32
  let v2235 : BitVec 32 := Scalar.muli v44 c1_i32_2387
  let v2236 : BitVec 32 := Scalar.addi c0_i32_2388 v2235
  v2236.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_51 : BitVec 32 := 7#32
  let v57 : BitVec 1 := Scalar.cmpi .eq v2 c7_i32_51
  let c0_i32_52 : BitVec 32 := 0#32
  let c6_i32_49 : BitVec 32 := 6#32
  let v55 : BitVec 1 := Scalar.cmpi .eq v2 c6_i32_49
  let c1_i32_50 : BitVec 32 := 1#32
  let c5_i32_47 : BitVec 32 := 5#32
  let v53 : BitVec 1 := Scalar.cmpi .eq v2 c5_i32_47
  let c0_i32_48 : BitVec 32 := 0#32
  let c4_i32_45 : BitVec 32 := 4#32
  let v51 : BitVec 1 := Scalar.cmpi .eq v2 c4_i32_45
  let c1_i32_46 : BitVec 32 := 1#32
  let c3_i32_43 : BitVec 32 := 3#32
  let v49 : BitVec 1 := Scalar.cmpi .eq v2 c3_i32_43
  let c1_i32_44 : BitVec 32 := 1#32
  let c2_i32_41 : BitVec 32 := 2#32
  let v47 : BitVec 1 := Scalar.cmpi .eq v2 c2_i32_41
  let c0_i32_42 : BitVec 32 := 0#32
  let c1_i32_38 : BitVec 32 := 1#32
  let v45 : BitVec 1 := Scalar.cmpi .eq v2 c1_i32_38
  let c1_i32_39 : BitVec 32 := 1#32
  let c0_i32_40 : BitVec 32 := 0#32
  let v46 : BitVec 32 := Scalar.select v45 c1_i32_39 c0_i32_40
  let v48 : BitVec 32 := Scalar.select v47 c0_i32_42 v46
  let v50 : BitVec 32 := Scalar.select v49 c1_i32_44 v48
  let v52 : BitVec 32 := Scalar.select v51 c1_i32_46 v50
  let v54 : BitVec 32 := Scalar.select v53 c0_i32_48 v52
  let v56 : BitVec 32 := Scalar.select v55 c1_i32_50 v54
  let v58 : BitVec 32 := Scalar.select v57 c0_i32_52 v56
  let c1_i32_1530 : BitVec 32 := 1#32
  let v1292 : BitVec 1 := Scalar.cmpi .eq v58 c1_i32_1530
  let v1293 : BitVec 32 := Scalar.extui v1292
  let c0_i32_1531 : BitVec 32 := 0#32
  let v1294 : BitVec 1 := Scalar.cmpi .ne v1293 c0_i32_1531
  v1294

def k0_dev54 (d0 : Dev nD) : Nat :=
  let c0_i32_2377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c6_i32_37 : BitVec 32 := 6#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c4_i32_33 : BitVec 32 := 4#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c0_i32_29 : BitVec 32 := 0#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c2_i32_24 : BitVec 32 := 2#32
  let c3_i32_25 : BitVec 32 := 3#32
  let v32 : BitVec 32 := Scalar.select v31 c2_i32_24 c3_i32_25
  let v34 : BitVec 32 := Scalar.select v33 c1_i32_27 v32
  let v36 : BitVec 32 := Scalar.select v35 c0_i32_29 v34
  let v38 : BitVec 32 := Scalar.select v37 c5_i32_31 v36
  let v40 : BitVec 32 := Scalar.select v39 c4_i32_33 v38
  let v42 : BitVec 32 := Scalar.select v41 c7_i32_35 v40
  let v44 : BitVec 32 := Scalar.select v43 c6_i32_37 v42
  let c1_i32_2376 : BitVec 32 := 1#32
  let v2225 : BitVec 32 := Scalar.muli v44 c1_i32_2376
  let v2226 : BitVec 32 := Scalar.addi c0_i32_2377 v2225
  v2226.toNat
def k0_dev55 (d0 : Dev nD) : Nat :=
  let c0_i32_2388 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_36 : BitVec 32 := 7#32
  let v43 : BitVec 1 := Scalar.cmpi .eq v2 c7_i32_36
  let c6_i32_37 : BitVec 32 := 6#32
  let c6_i32_34 : BitVec 32 := 6#32
  let v41 : BitVec 1 := Scalar.cmpi .eq v2 c6_i32_34
  let c7_i32_35 : BitVec 32 := 7#32
  let c5_i32_32 : BitVec 32 := 5#32
  let v39 : BitVec 1 := Scalar.cmpi .eq v2 c5_i32_32
  let c4_i32_33 : BitVec 32 := 4#32
  let c4_i32_30 : BitVec 32 := 4#32
  let v37 : BitVec 1 := Scalar.cmpi .eq v2 c4_i32_30
  let c5_i32_31 : BitVec 32 := 5#32
  let c3_i32_28 : BitVec 32 := 3#32
  let v35 : BitVec 1 := Scalar.cmpi .eq v2 c3_i32_28
  let c0_i32_29 : BitVec 32 := 0#32
  let c2_i32_26 : BitVec 32 := 2#32
  let v33 : BitVec 1 := Scalar.cmpi .eq v2 c2_i32_26
  let c1_i32_27 : BitVec 32 := 1#32
  let c1_i32_23 : BitVec 32 := 1#32
  let v31 : BitVec 1 := Scalar.cmpi .eq v2 c1_i32_23
  let c2_i32_24 : BitVec 32 := 2#32
  let c3_i32_25 : BitVec 32 := 3#32
  let v32 : BitVec 32 := Scalar.select v31 c2_i32_24 c3_i32_25
  let v34 : BitVec 32 := Scalar.select v33 c1_i32_27 v32
  let v36 : BitVec 32 := Scalar.select v35 c0_i32_29 v34
  let v38 : BitVec 32 := Scalar.select v37 c5_i32_31 v36
  let v40 : BitVec 32 := Scalar.select v39 c4_i32_33 v38
  let v42 : BitVec 32 := Scalar.select v41 c7_i32_35 v40
  let v44 : BitVec 32 := Scalar.select v43 c6_i32_37 v42
  let c1_i32_2387 : BitVec 32 := 1#32
  let v2235 : BitVec 32 := Scalar.muli v44 c1_i32_2387
  let v2236 : BitVec 32 := Scalar.addi c0_i32_2388 v2235
  v2236.toNat
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1784 : Index := Scalar.indexCast v2
  let c0_2040 : Index := 0#32
  let c0_2041 : Index := 0#32
  ![v1784.toNat, 0, 0]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2053 : BitVec 32 := 0#32
  let c0_i32_2054 : BitVec 32 := 0#32
  ![v2.toNat, 0, 0]
def k0_dev56 (d0 : Dev nD) : Nat :=
  let c0_i32_2052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2042 : BitVec 32 := 1#32
  let v1788 : BitVec 32 := Scalar.addi v2 c1_i32_2042
  let c8_i32_2043 : BitVec 32 := 8#32
  let c0_i32_2044 : BitVec 32 := 0#32
  let v1789 : BitVec 1 := Scalar.cmpi .eq c8_i32_2043 c0_i32_2044
  let c1_i32_2045 : BitVec 32 := 1#32
  let v1790 : BitVec 32 := Scalar.select v1789 c1_i32_2045 c8_i32_2043
  let v1791 : BitVec 32 := Scalar.remsi v1788 v1790
  let c0_i32_2047 : BitVec 32 := 0#32
  let v1793 : BitVec 1 := Scalar.cmpi .slt v1791 c0_i32_2047
  let c0_i32_2048 : BitVec 32 := 0#32
  let v1794 : BitVec 1 := Scalar.cmpi .slt v1790 c0_i32_2048
  let v1795 : BitVec 1 := Scalar.xori v1793 v1794
  let c0_i32_2046 : BitVec 32 := 0#32
  let v1792 : BitVec 1 := Scalar.cmpi .ne v1791 c0_i32_2046
  let v1796 : BitVec 1 := Scalar.andi v1795 v1792
  let v1797 : BitVec 32 := Scalar.addi v1791 v1790
  let v1798 : BitVec 32 := Scalar.select v1796 v1797 v1791
  let c1_i32_2051 : BitVec 32 := 1#32
  let v1799 : BitVec 32 := Scalar.muli v1798 c1_i32_2051
  let v1800 : BitVec 32 := Scalar.addi c0_i32_2052 v1799
  v1800.toNat
def k0_dev57 (d0 : Dev nD) : Nat :=
  let c0_i32_2067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2057 : BitVec 32 := 2#32
  let v1809 : BitVec 32 := Scalar.addi v2 c2_i32_2057
  let c8_i32_2058 : BitVec 32 := 8#32
  let c0_i32_2059 : BitVec 32 := 0#32
  let v1810 : BitVec 1 := Scalar.cmpi .eq c8_i32_2058 c0_i32_2059
  let c1_i32_2060 : BitVec 32 := 1#32
  let v1811 : BitVec 32 := Scalar.select v1810 c1_i32_2060 c8_i32_2058
  let v1812 : BitVec 32 := Scalar.remsi v1809 v1811
  let c0_i32_2062 : BitVec 32 := 0#32
  let v1814 : BitVec 1 := Scalar.cmpi .slt v1812 c0_i32_2062
  let c0_i32_2063 : BitVec 32 := 0#32
  let v1815 : BitVec 1 := Scalar.cmpi .slt v1811 c0_i32_2063
  let v1816 : BitVec 1 := Scalar.xori v1814 v1815
  let c0_i32_2061 : BitVec 32 := 0#32
  let v1813 : BitVec 1 := Scalar.cmpi .ne v1812 c0_i32_2061
  let v1817 : BitVec 1 := Scalar.andi v1816 v1813
  let v1818 : BitVec 32 := Scalar.addi v1812 v1811
  let v1819 : BitVec 32 := Scalar.select v1817 v1818 v1812
  let c1_i32_2066 : BitVec 32 := 1#32
  let v1820 : BitVec 32 := Scalar.muli v1819 c1_i32_2066
  let v1821 : BitVec 32 := Scalar.addi c0_i32_2067 v1820
  v1821.toNat
def k0_dev58 (d0 : Dev nD) : Nat :=
  let c0_i32_2082 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2072 : BitVec 32 := 3#32
  let v1830 : BitVec 32 := Scalar.addi v2 c3_i32_2072
  let c8_i32_2073 : BitVec 32 := 8#32
  let c0_i32_2074 : BitVec 32 := 0#32
  let v1831 : BitVec 1 := Scalar.cmpi .eq c8_i32_2073 c0_i32_2074
  let c1_i32_2075 : BitVec 32 := 1#32
  let v1832 : BitVec 32 := Scalar.select v1831 c1_i32_2075 c8_i32_2073
  let v1833 : BitVec 32 := Scalar.remsi v1830 v1832
  let c0_i32_2077 : BitVec 32 := 0#32
  let v1835 : BitVec 1 := Scalar.cmpi .slt v1833 c0_i32_2077
  let c0_i32_2078 : BitVec 32 := 0#32
  let v1836 : BitVec 1 := Scalar.cmpi .slt v1832 c0_i32_2078
  let v1837 : BitVec 1 := Scalar.xori v1835 v1836
  let c0_i32_2076 : BitVec 32 := 0#32
  let v1834 : BitVec 1 := Scalar.cmpi .ne v1833 c0_i32_2076
  let v1838 : BitVec 1 := Scalar.andi v1837 v1834
  let v1839 : BitVec 32 := Scalar.addi v1833 v1832
  let v1840 : BitVec 32 := Scalar.select v1838 v1839 v1833
  let c1_i32_2081 : BitVec 32 := 1#32
  let v1841 : BitVec 32 := Scalar.muli v1840 c1_i32_2081
  let v1842 : BitVec 32 := Scalar.addi c0_i32_2082 v1841
  v1842.toNat
def k0_dev59 (d0 : Dev nD) : Nat :=
  let c0_i32_2097 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2087 : BitVec 32 := 4#32
  let v1851 : BitVec 32 := Scalar.addi v2 c4_i32_2087
  let c8_i32_2088 : BitVec 32 := 8#32
  let c0_i32_2089 : BitVec 32 := 0#32
  let v1852 : BitVec 1 := Scalar.cmpi .eq c8_i32_2088 c0_i32_2089
  let c1_i32_2090 : BitVec 32 := 1#32
  let v1853 : BitVec 32 := Scalar.select v1852 c1_i32_2090 c8_i32_2088
  let v1854 : BitVec 32 := Scalar.remsi v1851 v1853
  let c0_i32_2092 : BitVec 32 := 0#32
  let v1856 : BitVec 1 := Scalar.cmpi .slt v1854 c0_i32_2092
  let c0_i32_2093 : BitVec 32 := 0#32
  let v1857 : BitVec 1 := Scalar.cmpi .slt v1853 c0_i32_2093
  let v1858 : BitVec 1 := Scalar.xori v1856 v1857
  let c0_i32_2091 : BitVec 32 := 0#32
  let v1855 : BitVec 1 := Scalar.cmpi .ne v1854 c0_i32_2091
  let v1859 : BitVec 1 := Scalar.andi v1858 v1855
  let v1860 : BitVec 32 := Scalar.addi v1854 v1853
  let v1861 : BitVec 32 := Scalar.select v1859 v1860 v1854
  let c1_i32_2096 : BitVec 32 := 1#32
  let v1862 : BitVec 32 := Scalar.muli v1861 c1_i32_2096
  let v1863 : BitVec 32 := Scalar.addi c0_i32_2097 v1862
  v1863.toNat
def k0_dev60 (d0 : Dev nD) : Nat :=
  let c0_i32_2112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2102 : BitVec 32 := 5#32
  let v1872 : BitVec 32 := Scalar.addi v2 c5_i32_2102
  let c8_i32_2103 : BitVec 32 := 8#32
  let c0_i32_2104 : BitVec 32 := 0#32
  let v1873 : BitVec 1 := Scalar.cmpi .eq c8_i32_2103 c0_i32_2104
  let c1_i32_2105 : BitVec 32 := 1#32
  let v1874 : BitVec 32 := Scalar.select v1873 c1_i32_2105 c8_i32_2103
  let v1875 : BitVec 32 := Scalar.remsi v1872 v1874
  let c0_i32_2107 : BitVec 32 := 0#32
  let v1877 : BitVec 1 := Scalar.cmpi .slt v1875 c0_i32_2107
  let c0_i32_2108 : BitVec 32 := 0#32
  let v1878 : BitVec 1 := Scalar.cmpi .slt v1874 c0_i32_2108
  let v1879 : BitVec 1 := Scalar.xori v1877 v1878
  let c0_i32_2106 : BitVec 32 := 0#32
  let v1876 : BitVec 1 := Scalar.cmpi .ne v1875 c0_i32_2106
  let v1880 : BitVec 1 := Scalar.andi v1879 v1876
  let v1881 : BitVec 32 := Scalar.addi v1875 v1874
  let v1882 : BitVec 32 := Scalar.select v1880 v1881 v1875
  let c1_i32_2111 : BitVec 32 := 1#32
  let v1883 : BitVec 32 := Scalar.muli v1882 c1_i32_2111
  let v1884 : BitVec 32 := Scalar.addi c0_i32_2112 v1883
  v1884.toNat
def k0_dev61 (d0 : Dev nD) : Nat :=
  let c0_i32_2127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2117 : BitVec 32 := 6#32
  let v1893 : BitVec 32 := Scalar.addi v2 c6_i32_2117
  let c8_i32_2118 : BitVec 32 := 8#32
  let c0_i32_2119 : BitVec 32 := 0#32
  let v1894 : BitVec 1 := Scalar.cmpi .eq c8_i32_2118 c0_i32_2119
  let c1_i32_2120 : BitVec 32 := 1#32
  let v1895 : BitVec 32 := Scalar.select v1894 c1_i32_2120 c8_i32_2118
  let v1896 : BitVec 32 := Scalar.remsi v1893 v1895
  let c0_i32_2122 : BitVec 32 := 0#32
  let v1898 : BitVec 1 := Scalar.cmpi .slt v1896 c0_i32_2122
  let c0_i32_2123 : BitVec 32 := 0#32
  let v1899 : BitVec 1 := Scalar.cmpi .slt v1895 c0_i32_2123
  let v1900 : BitVec 1 := Scalar.xori v1898 v1899
  let c0_i32_2121 : BitVec 32 := 0#32
  let v1897 : BitVec 1 := Scalar.cmpi .ne v1896 c0_i32_2121
  let v1901 : BitVec 1 := Scalar.andi v1900 v1897
  let v1902 : BitVec 32 := Scalar.addi v1896 v1895
  let v1903 : BitVec 32 := Scalar.select v1901 v1902 v1896
  let c1_i32_2126 : BitVec 32 := 1#32
  let v1904 : BitVec 32 := Scalar.muli v1903 c1_i32_2126
  let v1905 : BitVec 32 := Scalar.addi c0_i32_2127 v1904
  v1905.toNat
def k0_dev62 (d0 : Dev nD) : Nat :=
  let c0_i32_2142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2132 : BitVec 32 := 7#32
  let v1914 : BitVec 32 := Scalar.addi v2 c7_i32_2132
  let c8_i32_2133 : BitVec 32 := 8#32
  let c0_i32_2134 : BitVec 32 := 0#32
  let v1915 : BitVec 1 := Scalar.cmpi .eq c8_i32_2133 c0_i32_2134
  let c1_i32_2135 : BitVec 32 := 1#32
  let v1916 : BitVec 32 := Scalar.select v1915 c1_i32_2135 c8_i32_2133
  let v1917 : BitVec 32 := Scalar.remsi v1914 v1916
  let c0_i32_2137 : BitVec 32 := 0#32
  let v1919 : BitVec 1 := Scalar.cmpi .slt v1917 c0_i32_2137
  let c0_i32_2138 : BitVec 32 := 0#32
  let v1920 : BitVec 1 := Scalar.cmpi .slt v1916 c0_i32_2138
  let v1921 : BitVec 1 := Scalar.xori v1919 v1920
  let c0_i32_2136 : BitVec 32 := 0#32
  let v1918 : BitVec 1 := Scalar.cmpi .ne v1917 c0_i32_2136
  let v1922 : BitVec 1 := Scalar.andi v1921 v1918
  let v1923 : BitVec 32 := Scalar.addi v1917 v1916
  let v1924 : BitVec 32 := Scalar.select v1922 v1923 v1917
  let c1_i32_2141 : BitVec 32 := 1#32
  let v1925 : BitVec 32 := Scalar.muli v1924 c1_i32_2141
  let v1926 : BitVec 32 := Scalar.addi c0_i32_2142 v1925
  v1926.toNat
def k0_off6 (d0 : Dev nD) (c1_i32_2167 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1947 : BitVec 32 := Scalar.subi v2 c1_i32_2167
  let c8_i32_2168 : BitVec 32 := 8#32
  let c0_i32_2169 : BitVec 32 := 0#32
  let v1948 : BitVec 1 := Scalar.cmpi .eq c8_i32_2168 c0_i32_2169
  let c1_i32_2170 : BitVec 32 := 1#32
  let v1949 : BitVec 32 := Scalar.select v1948 c1_i32_2170 c8_i32_2168
  let v1950 : BitVec 32 := Scalar.remsi v1947 v1949
  let c0_i32_2172 : BitVec 32 := 0#32
  let v1952 : BitVec 1 := Scalar.cmpi .slt v1950 c0_i32_2172
  let c0_i32_2173 : BitVec 32 := 0#32
  let v1953 : BitVec 1 := Scalar.cmpi .slt v1949 c0_i32_2173
  let v1954 : BitVec 1 := Scalar.xori v1952 v1953
  let c0_i32_2171 : BitVec 32 := 0#32
  let v1951 : BitVec 1 := Scalar.cmpi .ne v1950 c0_i32_2171
  let v1955 : BitVec 1 := Scalar.andi v1954 v1951
  let v1956 : BitVec 32 := Scalar.addi v1950 v1949
  let v1957 : BitVec 32 := Scalar.select v1955 v1956 v1950
  let c0_i32_2178 : BitVec 32 := 0#32
  let c0_i32_2179 : BitVec 32 := 0#32
  ![v1957.toNat, 0, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "inv127" => some ((1 / 127 : ℝ) : EReal)
  | _ => none
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.P.Oblig.lean ====
/-
# `Oblig`: the pipeline's obligation
-/
module

public import proofs.«01_k».proof.Proof.P.Start

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F]

local notation "𝕄" => MT nD τ sig ℕ (Elt F) ℕ UU ℕ

variable (m : (ℓ : Loc nD τ sig) → Buf (Elt F) ℓ) (ρ : Dev nD → PrngReg)

open Idealize.ShloMosaic.Pipeline (Dat BodyObligation)

theorem bigSep_W (Φ : Fin cfg0.W → sProp 𝕄) : bigSep Finset.univ Φ = iprop(Φ (0 : Fin 2) ∗ Φ (1 : Fin 2)) := bigSep_W0 Φ

attribute [local irreducible] cc0_body

set_option maxRecDepth 4000 in
/-- The pipeline's proof obligation for the region's one grid point. -/
theorem body_obligation (c : Dev nD) : BodyObligation (dats (F := F) m ρ 0 c) (defs₀ (F := F)) 𝒱₀ 0 Set.univ := fun t => by
  rw [fin_N0 t]
  rw [bigSep_W, bigSep_W]
  simp only [owns_whole_eq]
  exact body_step m ρ c

end Cert.KernelProof
-- ==== Proof.P.Final.lean ====
/-
# `Final`: What the arrays hold after the run
-/
module

public import proofs.«01_k».proof.Proof.P.Run
public import Idealize.ShloMosaic.Adequacy

@[expose] public section

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F]

local notation "𝕄" => MT nD τ sig ℕ (Elt F) ℕ UU ℕ

variable (m : (ℓ : Loc nD τ sig) → Buf (Elt F) ℓ) (ρ : Dev nD → PrngReg)

/-! ## The arrays after the run -/

/-- The array of `x` is an input: it holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The one block of the result's array, read back, is what the body left in its staging buffer. -/
theorem finalA_o (c : Dev nD) : (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- That block is the whole array. -/
theorem result_eq (c : Dev nD) (r : PUnit × MemSt nD τ sig (Elt F)) (h : QC m ρ r) :
    r.2.mem ((c : Thread nD τ).loc main_v1) = outAt m ρ c := by
  have h1 := finalA_o m ρ c
  have h2 := (h c).1 (1 : Fin 2)
  rw [← h2] at h1
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  exact (hr _).symm.trans h1

/-- The block of `x` that the body finds in its staging buffer is the whole array of `x`. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- Both arguments are as they were. -/
theorem args_eq (r : PUnit × MemSt nD τ sig (Elt F)) (h : QC m ρ r) (c : Dev nD) :
    r.2.mem ((c : Thread nD τ).loc main_arg0) = m ((c : Thread nD τ).loc main_arg0)
      ∧ r.2.mem ((c : Thread nD τ).loc main_arg1) = m ((c : Thread nD τ).loc main_arg1) :=
  ⟨((h c).1 (0 : Fin 2)).trans (finalA_x m ρ c), (h c).2⟩

end Cert.KernelProof
-- ==== Proof.I.Ring.lean ====
/-
# `Ring`: the ring of eight devices, the semaphore cells of the kernel and the order in which a device pays and waits

The kernel's device tables (`RING`, the right and left neighbour, the chord partner) in closed form; an index type
`CK` for the semaphores a device owns; the list `items` of what a device pays to other devices' cells in program order
and the list `waits` of what it waits for. Nothing here speaks of contents.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The ring -/

/-- Device `c`'s place on the ring. -/
def pos (c : Dev nD) : Fin 8 := ![0, 7, 4, 3, 1, 6, 5, 2] c
/-- The device at a place of the ring. -/
def dev (p : Fin 8) : Dev nD := ![0, 4, 7, 3, 2, 6, 5, 1] p
/-- The device `k` places further along the ring. -/
def rot (k : Fin 8) (c : Dev nD) : Dev nD := dev (pos c + k)

abbrev right (c : Dev nD) : Dev nD := rot 1 c
abbrev left (c : Dev nD) : Dev nD := rot 7 c
/-- Whether the device stands at an even place. -/
def even (c : Dev nD) : Bool := (pos c).val % 2 == 0
/-- The partner three places away that the chord copies go to. -/
def chord (c : Dev nD) : Dev nD := if even c then rot 3 c else rot 5 c

theorem right_left (c : Dev nD) : right (left c) = c := by revert c; decide
theorem left_right (c : Dev nD) : left (right c) = c := by revert c; decide
theorem chord_chord (c : Dev nD) : chord (chord c) = c := by revert c; decide

/-- Where flow `f` goes: 0 and 1 to the right, 2 and 3 to the left. -/
def dst (f : Fin 4) (c : Dev nD) : Dev nD := if f.val < 2 then right c else left c
/-- Where flow `f` comes from. -/
def up (f : Fin 4) (c : Dev nD) : Dev nD := if f.val < 2 then left c else right c
theorem up_dst (f : Fin 4) (c : Dev nD) : up f (dst f c) = c := by revert f c; decide
theorem dst_up (f : Fin 4) (c : Dev nD) : dst f (up f c) = c := by revert f c; decide

/-- The device whose rows flow `f` brings to `c` after `k` hops. -/
def org (f : Fin 4) (k : Fin 8) (c : Dev nD) : Dev nD := if f.val < 2 then rot (0 - k) c else rot k c
theorem org_dst (f : Fin 4) (k : Fin 8) (c : Dev nD) : org f (k + 1) (dst f c) = org f k c := by revert f k c; decide
theorem org_zero (f : Fin 4) (c : Dev nD) : org f 0 c = c := by revert f c; decide

/-- The device `d` numbers further (the exchange of the maxima goes by device number). -/
def add (d : Fin 8) (c : Dev nD) : Dev nD := c + d
def sub (d : Fin 8) (c : Dev nD) : Dev nD := c - d
theorem sub_add (d : Fin 8) (c : Dev nD) : sub d (add d c) = c := by revert d c; decide
theorem add_sub (d : Fin 8) (c : Dev nD) : add d (sub d c) = c := by revert d c; decide

/-! ## The cells -/

/-- A device's semaphore cells: `snd f s`/`rcv f s` the send and receive cells of flow `f` and slot `s`, `csn t`/`crc t`
    those of chord copy `t`, `asn d`/`arc d` those of the maxima sent to / received from `d` numbers away, `wd` the weight
    staging, `cap f` the capacity credit of flow `f`, `bar` the barrier. -/
inductive CK where
  | snd (f : Fin 4) (s : Fin 2) | rcv (f : Fin 4) (s : Fin 2)
  | csn (t : Fin 8) | crc (t : Fin 8) | asn (d : Fin 8) | arc (d : Fin 8)
  | wd | cap (f : Fin 4) | bar
  deriving DecidableEq

namespace CK

/-- The kinds, numbered. -/
def num : CK → Fin 54
  | snd f s => ⟨2 * f.val + s.val, by omega⟩
  | rcv f s => ⟨8 + 2 * f.val + s.val, by omega⟩
  | csn t => ⟨16 + t.val, by omega⟩
  | crc t => ⟨24 + t.val, by omega⟩
  | asn t => ⟨32 + t.val, by omega⟩
  | arc t => ⟨40 + t.val, by omega⟩
  | wd => ⟨48, by omega⟩
  | cap f => ⟨49 + f.val, by omega⟩
  | bar => ⟨53, by omega⟩

/-- The kind of a number. -/
def ofNum (n : Fin 54) : CK :=
  if h : n.val < 8 then snd ⟨n.val / 2, by omega⟩ ⟨n.val % 2, by omega⟩
  else if h : n.val < 16 then rcv ⟨(n.val - 8) / 2, by omega⟩ ⟨n.val % 2, by omega⟩
  else if h : n.val < 24 then csn ⟨n.val - 16, by omega⟩
  else if h : n.val < 32 then crc ⟨n.val - 24, by omega⟩
  else if h : n.val < 40 then asn ⟨n.val - 32, by omega⟩
  else if h : n.val < 48 then arc ⟨n.val - 40, by omega⟩
  else if h : n.val < 49 then wd
  else if h : n.val < 53 then cap ⟨n.val - 49, by omega⟩
  else bar

theorem num_ofNum (n : Fin 54) : num (ofNum n) = n := by revert n; decide
theorem ofNum_num (k : CK) : ofNum (num k) = k := by
  cases k with
  | snd f s => revert f s; decide
  | rcv f s => revert f s; decide
  | csn t => revert t; decide
  | crc t => revert t; decide
  | asn t => revert t; decide
  | arc t => revert t; decide
  | wd => decide
  | cap f => revert f; decide
  | bar => decide

def equiv : CK ≃ Fin 54 := ⟨num, ofNum, ofNum_num, num_ofNum⟩
instance : Fintype CK := Fintype.ofEquiv _ equiv.symm

/-- The semaphore of a number. -/
def semN (n : Fin 54) : SemLoc sig :=
  if h : n.val < 48 then .dma ⟨n.val + 2, by show _ < 51; omega⟩
  else if h : n.val = 48 then .dma ⟨50, by show _ < 51; omega⟩
  else .reg ⟨n.val - 49, by show _ < 5; omega⟩
/-- The semaphore of a kind. -/
def sem (k : CK) : SemLoc sig := semN (num k)

/-- The kind of a semaphore, none at the two that stage the operands. -/
def ofSem : SemLoc sig → Option CK
  | .dma q => if q.val < 2 then none else if h : q.val < 50 then some (ofNum ⟨q.val - 2, by omega⟩) else some wd
  | .reg q => some (ofNum ⟨q.val + 49, by have : q.val < 5 := q.isLt; omega⟩)

theorem ofSem_semN (n : Fin 54) : ofSem (semN n) = some (ofNum n) := by revert n; decide
theorem ofSem_sem (k : CK) : ofSem (sem k) = some k := by
  unfold sem; rw [ofSem_semN, ofNum_num]
theorem sem_inj {k k' : CK} (h : sem k = sem k') : k = k' := by
  have := congrArg ofSem h; rw [ofSem_sem, ofSem_sem] at this; exact Option.some.inj this

/-- How many rounds a cell runs. -/
def rounds : CK → ℕ
  | snd _ s => if s = 0 then 3 else 2
  | rcv _ s => if s = 0 then 2 else 3
  | csn _ => 1 | crc _ => 1
  | asn d => if d = 0 then 0 else 1
  | arc d => if d = 0 then 0 else 1
  | wd => 4 | cap _ => 4 | bar => 1

/-- The duties of a round: three signals at the barrier, one payment elsewhere. -/
def duties : CK → Finset (Fin 3)
  | bar => Finset.univ
  | _ => {0}

/-- Whether another device pays the cell (its credit is dealt at the launch). -/
def launched : CK → Bool
  | rcv _ _ | crc _ | arc _ | cap _ | bar => true
  | _ => false

/-- The level at which a round of a cell is waited for. -/
def lvl : CK → ℕ → ℕ
  | snd _ _, _ | csn _, _ | asn _, _ | wd, _ => 0
  | bar, _ => 1
  | rcv f s, r => let h := 2 * r + (1 - s.val); if h = 0 then 2 else 20 * h - 9 + 2 * ![0, 2, 1, 3] f
  | cap f, r => 10 + 20 * r + 2 * ![0, 2, 1, 3] f
  | crc t, _ => 20 + 20 * (t.val / 2)
  | arc _, _ => 200

/-- Which device a device pays when it pays this duty of this kind of cell (itself at the cells of its own copies). -/
def tgt : CK → Fin 3 → Dev nD → Dev nD
  | rcv f _, _, c => dst f c
  | cap f, _, c => up f c
  | crc _, _, c => chord c
  | arc d, _, c => add d c
  | bar, d, c => ![left c, right c, chord c] d
  | _, _, c => c
def src : CK → Fin 3 → Dev nD → Dev nD
  | rcv f _, _, c => up f c
  | cap f, _, c => dst f c
  | crc _, _, c => chord c
  | arc d, _, c => sub d c
  | bar, d, c => ![right c, left c, chord c] d
  | _, _, c => c

theorem src_tgt (k : CK) (d : Fin 3) (c : Dev nD) : src k d (tgt k d c) = c := by
  cases k with
  | rcv f s => exact up_dst f c
  | cap f => exact dst_up f c
  | crc t => exact chord_chord c
  | arc e => exact sub_add e c
  | bar => revert d c; decide
  | snd f s => rfl
  | csn t => rfl
  | asn t => rfl
  | wd => rfl
theorem tgt_src (k : CK) (d : Fin 3) (c : Dev nD) : tgt k d (src k d c) = c := by
  cases k with
  | rcv f s => exact dst_up f c
  | cap f => exact up_dst f c
  | crc t => exact chord_chord c
  | arc e => exact add_sub e c
  | bar => revert d c; decide
  | snd f s => rfl
  | csn t => rfl
  | asn t => rfl
  | wd => rfl

end CK

open CK

/-! ## What a device pays, in program order -/

/-- One payment to another device's cell: the cell's kind, the round and the duty paid, and the device's own send cell
    with its round where the payment is a copy. -/
structure Item where
  k : CK
  r : ℕ
  d : Fin 3
  own : Option (CK × ℕ)
  deriving DecidableEq

/-- The slot hop `h` reads. -/
abbrev sl (h : ℕ) : Fin 2 := ⟨h % 2, Nat.mod_lt _ (by decide)⟩

def iBar (d : Fin 3) : Item := ⟨bar, 0, d, none⟩
def iHop (f : Fin 4) (h : ℕ) : Item := ⟨rcv f (sl (h + 1)), h / 2, 0, some (snd f (sl h), h / 2)⟩
def iCap (f : Fin 4) (h : ℕ) : Item := ⟨cap f, h, 0, none⟩
def iChord (t : Fin 8) : Item := ⟨crc t, 0, 0, some (csn t, 0)⟩
def iArc (d : Fin 8) : Item := ⟨arc d, 0, 0, some (asn d, 0)⟩

/-- The payments of iteration `h`: per flow the capacity credit and the next hop, then the two chord copies. -/
def itemsIt (h : ℕ) : List Item :=
  [iCap 0 h, iHop 0 (h + 1), iCap 2 h, iHop 2 (h + 1), iCap 1 h, iHop 1 (h + 1), iCap 3 h, iHop 3 (h + 1),
    iChord (Fin.ofNat 8 (2 * h)), iChord (Fin.ofNat 8 (2 * h + 1))]

def items : List Item :=
  [iBar 0, iBar 1, iBar 2, iHop 0 0, iHop 2 0, iHop 1 0, iHop 3 0]
    ++ itemsIt 0 ++ itemsIt 1 ++ itemsIt 2 ++ itemsIt 3
    ++ [iArc 1, iArc 2, iArc 3, iArc 4, iArc 5, iArc 6, iArc 7]

/-! ## What a device waits for, in program order -/

def wFlow (f : Fin 4) (h : ℕ) : List (CK × ℕ) := [(snd f (sl h), h / 2), (rcv f (sl (h + 1)), h / 2)]
def wFlowC (f : Fin 4) (h : ℕ) : List (CK × ℕ) := wFlow f h ++ [(cap f, h)]
def wCsn (h : ℕ) : List (CK × ℕ) := [(csn (Fin.ofNat 8 (2 * h)), 0), (csn (Fin.ofNat 8 (2 * h + 1)), 0)]
def wCrc (h : ℕ) : List (CK × ℕ) := [(crc (Fin.ofNat 8 (2 * h)), 0), (crc (Fin.ofNat 8 (2 * h + 1)), 0)]
def wIt (h : ℕ) : List (CK × ℕ) := wFlowC 0 h ++ wFlowC 2 h ++ wFlowC 1 h ++ wFlowC 3 h

def waits : List (CK × ℕ) :=
  [(bar, 0), (wd, 0), (wd, 1), (wd, 2), (wd, 3)] ++ wIt 0
    ++ wCsn 0 ++ wIt 1 ++ wCrc 0
    ++ wCsn 1 ++ wIt 2 ++ wCrc 1
    ++ wCsn 2 ++ wIt 3 ++ wCrc 2
    ++ (wFlow 0 4 ++ wFlow 2 4 ++ wFlow 1 4 ++ wFlow 3 4) ++ wCrc 3
    ++ wCsn 3
    ++ [(arc 1, 0), (arc 2, 0), (arc 3, 0), (arc 4, 0), (arc 5, 0), (arc 6, 0), (arc 7, 0)]
    ++ [(asn 1, 0), (asn 2, 0), (asn 3, 0), (asn 4, 0), (asn 5, 0), (asn 6, 0), (asn 7, 0)]

/-- The round a cell stands at after the first `w` waits. -/
def posAt (w : ℕ) (k : CK) : ℕ := ((waits.take w).map Prod.fst).count k

theorem posAt_zero (k : CK) : posAt 0 k = 0 := rfl
theorem posAt_succ (w : ℕ) (k : CK) (r : ℕ) (h : waits[w]? = some (k, r)) (k' : CK) :
    posAt (w + 1) k' = if k' = k then posAt w k + 1 else posAt w k' := by
  unfold posAt
  rw [List.take_add_one, h, Option.toList_some, List.map_append, List.count_append]
  simp only [List.map_cons, List.map_nil, List.count_singleton]
  by_cases e : k' = k
  · subst e; simp
  · rw [if_neg e]
    have : (k == k') = false := by simpa using fun h' => e h'.symm
    simp [this]
theorem posAt_end (n : Fin 54) : posAt waits.length (ofNum n) = rounds (ofNum n) := by revert n; decide +kernel

/-- A wait is above nothing still owed: what a device still has to pay after the first `p` payments all lies at higher
    levels than the awaited round. -/
def mayW (k : CK) (r : ℕ) (p : ℕ) : Bool := (items.drop p).all fun i => decide (lvl k r < lvl i.k i.r)

end Cert.KernelIdealProof
-- ==== Proof.I.Sched.lean ====
/-
# `Sched`: the contents, the payloads and the schedule of the cells

What each buffer holds, what each semaphore cell hands its owner in each round, and the rounds-library schedule these
make. A capacity credit hands the slot that the next hop overwrites; a landed block comes with the fact that the sender
is at the round of its credit cell, so that the receiver can pay that credit; the free rows of the table of maxima travel
with flows 0 and 2, one row left at each device.
-/
module

public import proofs.«01_k».proof.Proof.I.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open CK

variable {F : FTy → Type} [FloatOps F]

abbrev UB : Type := URounds (GSem nD τ sig) (Fin 3)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The memrefs -/

abbrev xM : Memref sig .tc .vmem S512x4096 .f32 := Memref.whole cc0_stg0_0
abbrev oM : Memref sig .tc .vmem S4096x1024 .f32 := Memref.whole cc0_stg1_0
abbrev wM : Memref sig .tc .hbm S4096x1024 .f32 := Memref.whole main_arg1
abbrev wbM : Memref sig .tc .vmem S4096x1024 .bf16 := Memref.whole cc0_scratch0
abbrev wsM : Memref sig .tc .vmem S1024x1024 .f32 := Memref.whole cc0_scratch1
abbrev flM : Memref sig .tc .vmem S4x2x128x4096 .bf16 := Memref.whole cc0_scratch2
abbrev coM : Memref sig .tc .vmem S8x128x4096 .bf16 := Memref.whole cc0_scratch3
abbrev aaM : Memref sig .tc .vmem S8x8x128 .f32 := Memref.whole cc0_scratch4

theorem inb_sl (f : Fin 4) (s : Fin 2) : ∀ a, ![f.val, s.val, 0, 0] a + S1x1x128x4096.size a ≤ S4x2x128x4096.size a := by
  revert f s; decide
theorem inb_ch (t : Fin 8) : ∀ a, ![t.val, 0, 0] a + S1x128x4096.size a ≤ S8x128x4096.size a := by revert t; decide
theorem inb_am (r : Fin 8) : ∀ a, ![r.val, 0, 0] a + S1x8x128.size a ≤ S8x8x128.size a := by revert r; decide
theorem inb_w (i : Fin 4) : ∀ a, ![1024 * i.val, 0] a + S1024x1024.size a ≤ S4096x1024.size a := by revert i; decide
theorem inb_x (q : Fin 4) : ∀ a, ![128 * q.val, 0] a + S128x4096.size a ≤ S512x4096.size a := by revert q; decide

abbrev slR (f : Fin 4) (s : Fin 2) : Rect S4x2x128x4096 :=
  Rect.unit (s := S4x2x128x4096) ![f.val, s.val, 0, 0] S1x1x128x4096.size (inb_sl f s)
abbrev chR (t : Fin 8) : Rect S8x128x4096 := Rect.unit (s := S8x128x4096) ![t.val, 0, 0] S1x128x4096.size (inb_ch t)
abbrev amR (r : Fin 8) : Rect S8x8x128 := Rect.unit (s := S8x8x128) ![r.val, 0, 0] S1x8x128.size (inb_am r)
abbrev wR (i : Fin 4) : Rect S4096x1024 := Rect.unit (s := S4096x1024) ![1024 * i.val, 0] S1024x1024.size (inb_w i)
abbrev xR (q : Fin 4) : Rect S512x4096 := Rect.unit (s := S512x4096) ![128 * q.val, 0] S128x4096.size (inb_x q)

/-- Slot `s` of flow `f`, chord buffer `t`, row `r` of the table of maxima, row block `i` of the weights. -/
abbrev slotM (f : Fin 4) (s : Fin 2) : Memref sig .tc .vmem S128x4096 .bf16 :=
  (flM.slice (slR f s) (fun _ => rfl)).squeeze S128x4096 squeezes_S1x1x128x4096_S128x4096
abbrev chM (t : Fin 8) : Memref sig .tc .vmem S128x4096 .bf16 :=
  (coM.slice (chR t) (fun _ => rfl)).squeeze S128x4096 squeezes_S1x128x4096_S128x4096
abbrev amM (r : Fin 8) : Memref sig .tc .vmem S8x128 .f32 :=
  (aaM.slice (amR r) (fun _ => rfl)).squeeze S8x128 squeezes_S1x8x128_S8x128
abbrev wsrc (i : Fin 4) : Memref sig .tc .hbm S1024x1024 .f32 := wM.slice (wR i) (fun _ => rfl)

abbrev cell (c : Dev nD) (k : CK) : GSem nD τ sig := ((c : Thread nD τ), sem k)

/-! ## Contents -/

/-- Device `c`'s rows of `x`, as the pipeline stages them. -/
def xstg (c : Dev nD) : (cc0_stg0_0 : Ref sig .tc).ty.Contents (Elt F) :=
  (win0_0.blk (0 : Fin 1)).view.read (Elt F) ((s₀ m ρ).mem ((c : Thread nD τ).loc main_arg0))

/-- Quarter `q` of device `d`'s rows, in bf16: what the ring and the chords carry. -/
def Xb (d : Dev nD) (q : Fin 4) : Vec F S128x4096 .bf16 := k0_pay11 (xM.view.readAt (Elt F) (xR q).toLoadRect (xstg m ρ d))
/-- What flow `f` has brought to `c` after `h` hops. -/
def Xc (f : Fin 4) (h : ℕ) (c : Dev nD) : Vec F S128x4096 .bf16 := Xb m ρ (org f (Fin.ofNat 8 h) c) f

/-- Row block `i` of device `c`'s weights. -/
def wblk (c : Dev nD) (i : Fin 4) : Vec F S1024x1024 .f32 := (wsrc i).view.read (Elt F) (m ((c : Thread nD τ).loc main_arg1))
/-- Device `c`'s weights in bf16. -/
def Wb (c : Dev nD) : Vec F S4096x1024 .bf16 :=
  truncf .bf16 ((wM : Memref sig .tc .hbm S4096x1024 .f32).view.read (Elt F) (m ((c : Thread nD τ).loc main_arg1))) bitsLt_bf16_f32

/-- Quarter `q` of device `d`'s rows times device `c`'s weights. -/
def Yb (c : Dev nD) (p : Dev nD × Fin 4) : FVec F S128x1024 .f32 := k0_pay12 (Wb m c) (Xb m ρ p.1 p.2)

/-- The running maximum of absolute values, one block further. -/
def mx (g : F .f32) (y : FVec F S128x1024 .f32) : F .f32 :=
  Scalar.maximumf g (extractAt ![0, 0, 0] (shapeCast S1x1x1 (multiReduction .maximumf [1, 2] S1
    (shapeCast S1x128x1024 (absf y) shapeCasts_S128x1024_S1x128x1024) 0xFF800000#32 reduces_S1x128x1024_S1 (.inl rfl) rfl)
    shapeCasts_S1_S1x1x1) inpos_S1x1x1_p0_0_0)

/-- The flow whose block chord copy `t` sends on from device `c`. -/
def fl (c : Dev nD) (t : Fin 8) : Fin 4 :=
  if even c == decide (t.val < 4) then ⟨2 + t.val % 2, by omega⟩ else ⟨t.val % 2, by omega⟩

/-- The block flow `f` has brought after `h` hops; the block chord copy `t` has brought. -/
def bFl (c : Dev nD) (f : Fin 4) (h : ℕ) : Dev nD × Fin 4 := (org f (Fin.ofNat 8 h) c, f)
def bCh (c : Dev nD) (t : Fin 8) : Dev nD × Fin 4 := bFl (chord c) (fl (chord c) t) (t.val / 2 + 1)

/-- The blocks in the order in which device `c` multiplies them, the last first. -/
def blksIt (c : Dev nD) (h : ℕ) : List (Dev nD × Fin 4) := [bFl c 3 h, bFl c 2 h, bFl c 1 h, bFl c 0 h]
def blksCh (c : Dev nD) (h : ℕ) : List (Dev nD × Fin 4) := [bCh c (Fin.ofNat 8 (2 * h + 1)), bCh c (Fin.ofNat 8 (2 * h))]
def blks0 (c : Dev nD) : List (Dev nD × Fin 4) := blksIt c 1 ++ [(c, 3), (c, 2), (c, 1), (c, 0)]
/-- Those done after iteration `h`. -/
def blks (c : Dev nD) : ℕ → List (Dev nD × Fin 4)
  | 0 => blks0 c
  | h + 1 => blksCh c h ++ blksIt c (h + 2) ++ blks c h

/-- The maximum over a list of blocks. -/
def amx (c : Dev nD) : List (Dev nD × Fin 4) → F .f32
  | [] => Scalar.ofBits .f32 0#32
  | p :: l => mx (amx c l) (Yb m ρ c p)

/-- Device `c`'s maximum, as a row of the table; the whole table. -/
def amv (c : Dev nD) : F .f32 := amx m ρ c (blks c 4)
def AM (c : Dev nD) : Vec F S8x128 .f32 := broadcast S8x128 (amv m ρ c)

/-! ## The payloads -/

/-- Ownership of a memref whatever it holds. -/
def free (c : Dev nD) {sp : Space} {sh : Shape} {e : EltTy} (M : Memref sig .tc sp sh e) : sProp 𝕄 :=
  iprop(∃ X, owns (c : Thread nD τ) M fullShare X)
instance free_storable (c : Dev nD) {sp : Space} {sh : Shape} {e : EltTy} (M : Memref sig .tc sp sh e) :
    BI.Storable (upEmb : UEmb _ 𝕄) (free (F := F) c M) := by unfold free; infer_instance

/-- The free row `x` of device `o`'s table of maxima. -/
abbrev R (o : Dev nD) (x : Fin 8) : sProp 𝕄 := free (F := F) o (amM x)

/-- The rows of its table that origin `o` sends along with flow 0 (the four devices to its right) and with flow 2 (the
    three to its left), less those already left at the devices passed. -/
def chainL (f : Fin 4) (h : ℕ) : List (Fin 8) :=
  if f = 0 then (([1, 2, 3, 4] : List (Fin 8)).drop h) else if f = 2 then (([7, 6, 5] : List (Fin 8)).drop h) else []
def chain (f : Fin 4) (h : ℕ) (o : Dev nD) : sProp 𝕄 := bigSepL (chainL f h) fun k => R (F := F) o (rot k o)

instance bigSepL_storable {I : Type} (l : List I) (Φ : I → sProp 𝕄) [∀ i, BI.Storable (upEmb : UEmb _ 𝕄) (Φ i)] :
    BI.Storable (upEmb : UEmb _ 𝕄) (bigSepL l Φ) := by
  induction l with
  | nil => show BI.Storable (upEmb : UEmb _ 𝕄) (iprop(emp) : sProp 𝕄); infer_instance
  | cons a l ih => rw [bigSepL_cons]; show BI.Storable (upEmb : UEmb _ 𝕄) (iprop(Φ a ∗ bigSepL l Φ) : sProp 𝕄); infer_instance

instance chain_storable (f : Fin 4) (h : ℕ) (o : Dev nD) : BI.Storable (upEmb : UEmb _ 𝕄) (chain (F := F) f h o) := by
  unfold chain; infer_instance

/-- The shares of the own row of maxima lent to the seven copies. -/
def shq : ℕ → PosShare TreeShare
  | 0 => fullShare
  | n + 1 => (shq n).right

/-- What a cell of device `c` hands over in a round. -/
def pay (c : Dev nD) : CK → ℕ → Fin 3 → sProp 𝕄
  | snd f s, r, _ => owns (c : Thread nD τ) (slotM f s) fullShare.left (Xc m ρ f (2 * r + s.val) c)
  | rcv f s, r, _ =>
      iprop(owns (c : Thread nD τ) (slotM f s) fullShare (Xc m ρ f (2 * r + (1 - s.val) + 1) c)
        ∗ reached ER (cell (up f c) (cap f)) (2 * r + (1 - s.val))
        ∗ chain f (2 * r + (1 - s.val)) (org f (Fin.ofNat 8 (2 * r + (1 - s.val) + 1)) c))
  | csn t, _, _ => owns (c : Thread nD τ) (slotM (fl c t) (sl (t.val / 2 + 1))) fullShare.right.left (Xc m ρ (fl c t) (t.val / 2 + 1) c)
  | crc t, _, _ => owns (c : Thread nD τ) (chM t) fullShare (Xb m ρ (bCh c t).1 (bCh c t).2)
  | asn d, _, _ => owns (c : Thread nD τ) (amM c) (shq (d.val - 1)).left (AM m ρ c)
  | arc d, _, _ => owns (c : Thread nD τ) (amM (sub d c)) fullShare (AM m ρ (sub d c))
  | wd, r, _ => iprop(owns (c : Thread nD τ) wsM fullShare (wblk m c (Fin.ofNat 4 r)) ∗ owns (c : Thread nD τ) (wsrc (Fin.ofNat 4 r)) fullShare.left (wblk m c (Fin.ofNat 4 r)))
  | cap f, r, _ => iprop(free (dst f c) (slotM f (sl r)) ∗ reached ER (cell (dst f c) (rcv f (sl r))) ((r + 1) / 2))
  | bar, _, d => match d with
    | 0 => iprop(free (right c) (slotM 0 1) ∗ free (right c) (slotM 1 1))
    | 1 => iprop(free (left c) (slotM 2 1) ∗ free (left c) (slotM 3 1))
    | 2 => bigSepL [0, 1, 2, 3, 4, 5, 6, 7] fun t => free (chord c) (chM t)

instance pay_storable (c : Dev nD) (k : CK) (r : ℕ) (d : Fin 3) : BI.Storable (upEmb : UEmb _ 𝕄) (pay m ρ c k r d) := by
  cases k with
  | bar => fin_cases d <;> (dsimp only [pay]; infer_instance)
  | _ => dsimp only [pay]; infer_instance

/-! ## The schedule -/

@[reducible] def Nblk : ℕ := (slotM 0 0).view.dmaCredit
@[reducible] def Nam : ℕ := (amM 0).view.dmaCredit
@[reducible] def Nw : ℕ := (wsM : Memref sig .tc .vmem S1024x1024 .f32).view.dmaCredit

/-- The units of a payment. -/
def amt : CK → ℕ
  | snd _ _ | rcv _ _ | csn _ | crc _ => Nblk
  | asn _ | arc _ => Nam
  | wd => Nw
  | cap _ | bar => 1

theorem Nblk_pos : 0 < Nblk := View.dmaCredit_pos (slotM 0 0).view (by decide)
theorem Nam_pos : 0 < Nam := View.dmaCredit_pos (amM 0).view (by decide)
theorem Nw_pos : 0 < Nw := View.dmaCredit_pos wsM.view (by decide)

theorem amt_pos (k : CK) : 0 < amt k := by
  cases k with
  | snd f s => show 0 < Nblk; exact Nblk_pos
  | rcv f s => show 0 < Nblk; exact Nblk_pos
  | csn t => show 0 < Nblk; exact Nblk_pos
  | crc t => show 0 < Nblk; exact Nblk_pos
  | asn t => show 0 < Nam; exact Nam_pos
  | arc t => show 0 < Nam; exact Nam_pos
  | wd => show 0 < Nw; exact Nw_pos
  | cap f => exact Nat.one_pos
  | bar => exact Nat.one_pos

/-- The schedule: each cell's duties in its rounds, nothing at the two cells that stage the operands. -/
def Sch : Rounds.Schedule (GSem nD τ sig) (Fin 3) 𝕄 where
  duties g r := if g.1.2 = .tc then (match ofSem g.2 with | some k => if r < rounds k then duties k else ∅ | none => ∅) else ∅
  amount g _ _ := match ofSem g.2 with | some k => amt k | none => 1
  payload g r d := match ofSem g.2 with | some k => pay m ρ g.1.1 k r d | none => iprop(emp)
  amount_pos g r d _ := by
    split
    · exact amt_pos _
    · exact Nat.one_pos

instance Sch_storable (g : GSem nD τ sig) (r : ℕ) (d : Fin 3) : BI.Storable (upEmb : UEmb _ 𝕄) ((Sch m ρ).payload g r d) := by
  show BI.Storable upEmb (match ofSem g.2 with | some k => pay m ρ g.1.1 k r d | none => iprop(emp))
  split <;> infer_instance

theorem Sch_duties (c : Dev nD) (k : CK) (r : ℕ) (h : r < rounds k) : (Sch m ρ).duties (cell c k) r = duties k := by
  show (if ((c : Thread nD τ)).2 = .tc then (match ofSem (sem k) with | some k => if r < rounds k then duties k else ∅ | none => ∅) else ∅) = _
  rw [if_pos rfl, ofSem_sem]; exact if_pos h
theorem Sch_duties_later (c : Dev nD) (k : CK) (r : ℕ) (h : rounds k ≤ r) : (Sch m ρ).duties (cell c k) r = ∅ := by
  show (if ((c : Thread nD τ)).2 = .tc then (match ofSem (sem k) with | some k => if r < rounds k then duties k else ∅ | none => ∅) else ∅) = _
  rw [if_pos rfl, ofSem_sem]; exact if_neg (Nat.not_lt.mpr h)
theorem Sch_amount (c : Dev nD) (k : CK) (r : ℕ) (d : Fin 3) : (Sch m ρ).amount (cell c k) r d = amt k := by
  show (match ofSem (sem k) with | some k => amt k | none => 1) = _
  rw [ofSem_sem]
theorem Sch_payload (c : Dev nD) (k : CK) (r : ℕ) (d : Fin 3) : (Sch m ρ).payload (cell c k) r d = pay m ρ c k r d := by
  show (match ofSem (sem k) with | some k => pay m ρ c k r d | none => iprop(emp)) = _
  rw [ofSem_sem]

/-- The units a round takes in all. -/
def need (k : CK) : ℕ := (duties k).card * amt k

theorem Sch_expect (c : Dev nD) (k : CK) (r : ℕ) (h : r < rounds k) : (Sch m ρ).expect (cell c k) r = need k := by
  unfold Schedule.expect Schedule.amountOf
  rw [Sch_duties m ρ c k r h, Finset.sum_congr rfl fun d _ => Sch_amount m ρ c k r d, Finset.sum_const, smul_eq_mul]; rfl

/-- All a round hands over. -/
def got (c : Dev nD) : CK → ℕ → sProp 𝕄
  | bar, r => iprop(pay m ρ c bar r 0 ∗ pay m ρ c bar r 1 ∗ pay m ρ c bar r 2)
  | k, r => pay m ρ c k r 0

theorem Sch_got (c : Dev nD) (k : CK) (r : ℕ) (h : r < rounds k) :
    bigSep ((Sch m ρ).duties (cell c k) r \ ∅) (fun d => (Sch m ρ).payload (cell c k) r d) = got m ρ c k r := by
  rw [Finset.sdiff_empty, Sch_duties m ρ c k r h]
  simp only [Sch_payload]
  cases k with
  | bar =>
    exact bigSep_univ_eq_bigSepL ([0, 1, 2] : List (Fin 3)) (by decide) (by decide) (fun d => pay m ρ c bar r d)
  | _ => exact bigSep_singleton

/-! ## Levels -/

/-- The level facts' index: the rounds, at the cells of the device's own program. -/
def L (g : GSem nD τ sig) : Finset ℕ := if g.1.2 = .tc then Finset.range 8 else ∅
def lv (g : GSem nD τ sig) (r : ℕ) : ℕ := match ofSem g.2 with | some k => lvl k r | none => 0

theorem L_of_ne (g : GSem nD τ sig) (h : g.1.2 ≠ .tc) : L g = ∅ := if_neg h
theorem L_tc (c : Dev nD) (s : SemLoc sig) : L ((c : Thread nD τ), s) = Finset.range 8 := if_pos rfl
theorem lv_cell (c : Dev nD) (k : CK) (r : ℕ) : lv (cell c k) r = lvl k r := by
  show (match ofSem (sem k) with | some k => lvl k r | none => 0) = _
  rw [ofSem_sem]

/-! ## What is owed -/

/-- The units of `i`, at the cell it pays. -/
def owe1 (c : Dev nD) (i : Item) : CellTallies nD τ sig ℕ := tallyAt (cell (tgt i.k i.d c) i.k) i.r (amt i.k)
/-- What a device still owes, the next payment the last summand. -/
def owesL (c : Dev nD) : List Item → CellTallies nD τ sig ℕ
  | [] => 0
  | i :: l => owesL c l + owe1 c i

theorem owesL_pos (c : Dev nD) : ∀ (l : List Item) {g : GSem nD τ sig} {u : ℕ}, 0 < owesL c l g u →
    ∃ i ∈ l, g = cell (tgt i.k i.d c) i.k ∧ u = i.r
  | [], g, u, h => absurd h (Nat.lt_irrefl 0)
  | i :: l, g, u, h => by
    unfold owesL at h
    rw [Pi.add_apply, Finsupp.add_apply] at h
    by_cases hi : g = cell (tgt i.k i.d c) i.k ∧ u = i.r
    · exact ⟨i, List.mem_cons_self, hi⟩
    · have : owe1 c i g u = 0 := by unfold owe1; rw [tallyAt_apply, if_neg hi]
      rw [this, Nat.add_zero] at h
      obtain ⟨j, hj, hh⟩ := owesL_pos c l h
      exact ⟨j, List.mem_cons_of_mem _ hj, hh⟩

theorem items_r (i : Item) (h : i ∈ items) : i.r < 8 := by revert i; decide

/-- A wait on a round below all that is still owed. -/
theorem mayWait (c : Dev nD) (k : CK) (r p : ℕ) (hr : r < 8) (h : mayW k r p = true) :
    (levAts L lv : sProp 𝕄) ⊢ MayWait (c : Thread nD τ) (sem k) r (owesL c (items.drop p)) :=
  MayOwe.of_cut (L := L) (lev := lv) (lvl k r)
    (fun q hq => by rw [Finset.mem_singleton.mp hq, L_tc]; exact Finset.mem_range.mpr hr)
    (fun g u hg => by
      obtain ⟨i, hi, rfl, rfl⟩ := owesL_pos c _ hg
      rw [L_tc]; exact Finset.mem_range.mpr (items_r i (List.mem_of_mem_drop hi)))
    (fun q hq => by rw [Finset.mem_singleton.mp hq]; exact le_of_eq (lv_cell c k r))
    (fun g u hg => by
      obtain ⟨i, hi, rfl, rfl⟩ := owesL_pos c _ hg
      rw [lv_cell]
      have := List.all_eq_true.mp h i hi
      exact of_decide_eq_true this)

/-- A wait on a semaphore that stages an operand. -/
theorem mayWait_stage (c : Dev nD) (s : SemLoc sig) (hs : ofSem s = none) (p : ℕ) :
    (levAts L lv : sProp 𝕄) ⊢ MayWait (c : Thread nD τ) s 0 (owesL c (items.drop p)) :=
  MayOwe.of_cut (L := L) (lev := lv) 0
    (fun q hq => by rw [Finset.mem_singleton.mp hq, L_tc]; exact Finset.mem_range.mpr (by show 0 < 8; decide))
    (fun g u hg => by
      obtain ⟨i, hi, rfl, rfl⟩ := owesL_pos c _ hg
      rw [L_tc]; exact Finset.mem_range.mpr (items_r i (List.mem_of_mem_drop hi)))
    (fun q hq => by
      rw [Finset.mem_singleton.mp hq]; show (match ofSem s with | some k => lvl k 0 | none => 0) ≤ 0; rw [hs])
    (fun g u hg => by
      obtain ⟨i, hi, rfl, rfl⟩ := owesL_pos c _ hg
      rw [lv_cell]
      have : ∀ j ∈ items, 0 < lvl j.k j.r := by decide
      exact this i (List.mem_of_mem_drop hi))

end Cert.KernelIdealProof
-- ==== Proof.I.Steps.lean ====
/-
# `Steps`: one rule per kind of step of the protocol

What a device holds of the protocol is two propositions: `Todo c p`, what it still has to pay after its first `p`
payments with the tokens to pay with; and `Poss c w`, where its own cells stand after its first `w` waits with the credit
for the waits to come. A signal or a copy takes `Todo` one payment further, a wait takes `Poss` one wait further.
-/
module

public import proofs.«01_k».proof.Proof.I.Sched

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

abbrev 𝒱₀ : Variants := Variants.none

/-- Running a piece of device `c`'s program. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem bsl_cons {I : Type} (i : I) (l : List I) (Φ : I → sProp 𝕄) : bigSepL (i :: l) Φ = iprop(Φ i ∗ bigSepL l Φ) := bigSepL_cons i l Φ
theorem bs_erase {I : Type} [DecidableEq I] {s : Finset I} {i : I} (hi : i ∈ s) (Φ : I → sProp 𝕄) :
    bigSep s Φ = iprop(Φ i ∗ bigSep (s.erase i) Φ) := BI.bigSep_erase hi
theorem bs_elim {I : Type} [DecidableEq I] {s : Finset I} {i : I} (hi : i ∈ s) (Φ : I → sProp 𝕄) : bigSep s Φ ⊢ Φ i := bigSep_elim hi

/-! ## What all devices share -/

abbrev kcell (dk : Dev nD × CK) : GSem nD τ sig := cell dk.1 dk.2

/-- All cells' invariants at the names `K`, that each cell has reached round 0, and the level facts. -/
def HI (K : Dev nD × CK → ℕ) : sProp 𝕄 :=
  iprop((bigSep Finset.univ fun dk : Dev nD × CK => cellInv ER (Sch m ρ) (K dk) (kcell dk))
    ∗ (bigSep Finset.univ fun dk : Dev nD × CK => reached ER (kcell dk) 0) ∗ levAts L lv)

instance HI_persistent (K : Dev nD × CK → ℕ) : BI.Persistent (HI m ρ K) := by unfold HI; infer_instance

variable (K : Dev nD × CK → ℕ)

theorem HI_inv (c : Dev nD) (k : CK) : HI m ρ K ⊢ cellInv ER (Sch m ρ) (K (c, k)) (cell c k) := by
  unfold HI
  iintro ⟨#H, -, -⟩
  iapply (bs_elim (Finset.mem_univ (c, k)) (fun dk : Dev nD × CK => (cellInv ER (Sch m ρ) (K dk) (kcell dk) : sProp 𝕄)))
  iexact H
theorem HI_reached (c : Dev nD) (k : CK) : HI m ρ K ⊢ reached ER (cell c k) 0 := by
  unfold HI
  iintro ⟨-, #H, -⟩
  iapply (bs_elim (Finset.mem_univ (c, k)) (fun dk : Dev nD × CK => (reached ER (kcell dk) 0 : sProp 𝕄)))
  iexact H
theorem HI_lev : HI m ρ K ⊢ levAts L lv := by
  unfold HI
  iintro ⟨-, -, #H⟩
  iexact H

/-! ## What a device still has to pay, and where its own cells stand -/

/-- The tokens of one payment: the duty paid, and the duty of the own send cell where the payment is a copy. -/
def itok (c : Dev nD) (i : Item) : sProp 𝕄 :=
  iprop(dutyTok ER (cell (tgt i.k i.d c) i.k) i.r i.d
    ∗ match i.own with | some kr => dutyTok ER (cell c kr.1) kr.2 0 | none => iprop(emp))

def Todo (c : Dev nD) (p : ℕ) : sProp 𝕄 :=
  iprop((∃ W, owes (c : Thread nD τ) (owesL c (items.drop p)) W) ∗ bigSepL (items.drop p) (itok c))

/-- The credit for one wait on a cell that others pay. -/
def wcred (c : Dev nD) (kr : CK × ℕ) : sProp 𝕄 :=
  if launched kr.1 then cred (tallyAt (cell c kr.1) kr.2 (need kr.1)) else iprop(emp)

def Poss (c : Dev nD) (w : ℕ) : sProp 𝕄 :=
  iprop((bigSep Finset.univ fun k : CK => iprop(atPos ER (cell c k) (posAt w k) ∅ 0 ∗ reached ER (cell c k) (posAt w k)))
    ∗ bigSepL (waits.drop w) (wcred c))

theorem Poss_reached (c : Dev nD) (w : ℕ) (k : CK) (r : ℕ) (hr : posAt w k = r) :
    (Poss c w : sProp 𝕄) ⊢ iprop(reached ER (cell c k) r ∗ Poss c w) := by
  subst hr
  unfold Poss
  rw [bs_erase (Finset.mem_univ k)]
  iintro ⟨⟨⟨HA, #HR⟩, HB⟩, HC⟩
  isplitr; · iexact HR
  isplitr [HC]
  · isplitr [HB]
    · isplitl [HA]; · iexact HA
      iexact HR
    iexact HB
  iexact HC

/-- The side conditions of the `w`-th wait, on round `r` of kind `k`, after `p` payments. -/
def okW (w : ℕ) (k : CK) (r p : ℕ) : Bool :=
  decide (waits[w]? = some (k, r)) && decide (posAt w k = r) && decide (r < rounds k) && decide (r < 8) && mayW k r p

theorem drop_of_get {α : Type} {l : List α} {n : ℕ} {a : α} (h : l[n]? = some a) : l.drop n = a :: l.drop (n + 1) := by
  obtain ⟨hn, rfl⟩ := List.getElem?_eq_some_iff.mp h
  exact List.drop_eq_getElem_cons hn

theorem Poss_step (c : Dev nD) (w : ℕ) (k : CK) (r : ℕ) (hw : waits[w]? = some (k, r)) (hr : posAt w k = r) :
    (Poss c w : sProp 𝕄) ⊢ iprop(atPos ER (cell c k) r ∅ 0 ∗ wcred c (k, r)
      ∗ (iprop(atPos ER (cell c k) (r + 1) ∅ 0 ∗ reached ER (cell c k) (r + 1)) -∗ Poss c (w + 1))) := by
  unfold Poss
  rw [bs_erase (Finset.mem_univ k), bs_erase (Finset.mem_univ k) (fun k' : CK => iprop(atPos ER (cell c k') (posAt (w + 1) k') ∅ 0 ∗ reached ER (cell c k') (posAt (w + 1) k'))),
    drop_of_get hw, bsl_cons,
    bigSep_congr (s := Finset.univ.erase k) (Ψ := fun k' : CK => iprop(atPos ER (cell c k') (posAt w k') ∅ 0 ∗ reached ER (cell c k') (posAt w k')))
      (Φ := fun k' : CK => (iprop(atPos ER (cell c k') (posAt (w + 1) k') ∅ 0 ∗ reached ER (cell c k') (posAt (w + 1) k')) : sProp 𝕄))
      (fun k' hk' => by rw [posAt_succ w k r hw, if_neg (Finset.ne_of_mem_erase hk')]),
    posAt_succ w k r hw k, if_pos rfl, hr]
  iintro ⟨⟨⟨HA, -⟩, HB⟩, HC, HD⟩
  isplitl [HA]; · iexact HA
  isplitl [HC]; · iexact HC
  iintro ⟨HA, HR⟩
  isplitr [HD]
  · isplitr [HB]
    · isplitl [HA]; · iexact HA
      iexact HR
    iexact HB
  iexact HD

/-! ## A wait -/

theorem wp_wait_core (c : Dev nD) (w p : ℕ) (k : CK) (r : ℕ) (h : okW w k r p = true) {s : SemLoc sig} {n : ℕ}
    (hs : s = sem k) (hn : n = need k) {e : TpuEff nD τ sig (Elt F) Λ₀ .tc PUnit}
    (he : ∀ Kt : PUnit → sProp 𝕄, wpE (defs₀ (F := F)) 𝒱₀ (c : Thread nD τ) none Set.univ e Kt = waitSpec (c : Thread nD τ) Set.univ s n Kt)
    {α : Type} {kont : PUnit → Prog (TpuEff nD τ sig (Elt F) Λ₀ .tc) α} {Q : α → sProp 𝕄} :
    iprop(HI m ρ K ∗ Todo c p ∗ Poss c w ∗ (wcred c (k, r) -∗ cred (tallyAt (cell c k) r (need k))))
      ⊢ iprop(((Todo c p ∗ Poss c (w + 1) ∗ got m ρ c k r) -∗ WP c (kont ⟨⟩) Q) -∗ WP c (.op e kont) Q) := by
  subst hs hn
  unfold okW at h
  simp only [Bool.and_eq_true, decide_eq_true_eq] at h
  obtain ⟨⟨⟨⟨hw, hr⟩, hlt⟩, h8⟩, hm⟩ := h
  unfold Todo
  iintro ⟨#HH, ⟨⟨%W, HO⟩, HT⟩, HP, Hc⟩ Hk
  ihave HP' := (Poss_step (F := F) c w k r hw hr) $$ HP
  icases HP' with ⟨HA, HC, HB⟩
  ihave HC' := Hc $$ HC
  iapply (Rounds.wp_wait_rest_token 𝒱₀ ER (Sch m ρ) (c : Thread nD τ) none (κ := K (c, k)) he (Set.mem_univ _) r
    (O := owesL c (items.drop p)) (W := W) (R := r) (m := 0) (T := ∅) (by rw [Nat.zero_add, Sch_expect m ρ c k r hlt])) $$ [HC' HO HA]
  · isplitr; · iapply (HI_inv m ρ K c k); iexact HH
    isplitl [HC']; · iexact HC'
    isplitl [HO]; · iexact HO
    isplitr; · iapply (mayWait (F := F) c k r p h8 hm); iapply (HI_lev m ρ K); iexact HH
    iexact HA
  iintro ⟨HO, HA, HR, Hpay⟩
  ihave Hg := (Entails.of_eq (Sch_got m ρ c k r hlt)) $$ Hpay
  iapply Hk
  isplitl [HO HT]
  · isplitl [HO]; · iexists _; iexact HO
    iexact HT
  isplitr [Hg]
  · iapply HB
    isplitl [HA]; · iexact HA
    iexact HR
  iexact Hg

/-- A DMA wait on a cell that another device pays. -/
theorem wp_dwait (c : Dev nD) (w p : ℕ) (k : CK) (r : ℕ) (h : okW w k r p = true) (hl : launched k = true)
    {sp sp' : Space} {sh sh' : Shape} {e e' : EltTy} {s : DmaSem sig} {src : Memref sig .tc sp' sh' e'} {dst : Memref sig .tc sp sh e}
    {hsrc : src.view.WordExact} {hdst : dst.view.WordExact} (hs : SemLoc.dma s = sem k) (hn : dst.view.dmaCredit = need k)
    {α : Type} {kont : PUnit → Prog (TpuEff nD τ sig (Elt F) Λ₀ .tc) α} {Q : α → sProp 𝕄} :
    iprop(HI m ρ K ∗ Todo c p ∗ Poss c w)
      ⊢ iprop(((Todo c p ∗ Poss c (w + 1) ∗ got m ρ c k r) -∗ WP c (kont ⟨⟩) Q) -∗ WP c (.op (.waitDma2 s src dst hsrc hdst) kont) Q) := by
  iintro ⟨HH, HT, HP⟩
  iapply (wp_wait_core m ρ K c w p k r h hs hn (wpE_waitDma2_eq 𝒱₀ (c : Thread nD τ) none Set.univ))
  isplitl [HH]; · iexact HH
  isplitl [HT]; · iexact HT
  isplitl [HP]; · iexact HP
  unfold wcred; rw [if_pos hl]
  iintro H; iexact H

/-- A DMA wait on the cell of one of the device's own copies. -/
theorem wp_owait (c : Dev nD) (w p : ℕ) (k : CK) (r : ℕ) (h : okW w k r p = true)
    {sp sp' : Space} {sh sh' : Shape} {e e' : EltTy} {s : DmaSem sig} {src : Memref sig .tc sp' sh' e'} {dst : Memref sig .tc sp sh e}
    {hsrc : src.view.WordExact} {hdst : dst.view.WordExact} (hs : SemLoc.dma s = sem k) (hn : dst.view.dmaCredit = need k)
    {α : Type} {kont : PUnit → Prog (TpuEff nD τ sig (Elt F) Λ₀ .tc) α} {Q : α → sProp 𝕄} :
    iprop(HI m ρ K ∗ Todo c p ∗ Poss c w ∗ cred (tallyAt (cell c k) r (need k)))
      ⊢ iprop(((Todo c p ∗ Poss c (w + 1) ∗ got m ρ c k r) -∗ WP c (kont ⟨⟩) Q) -∗ WP c (.op (.waitDma2 s src dst hsrc hdst) kont) Q) := by
  iintro ⟨HH, HT, HP, HC⟩
  iapply (wp_wait_core m ρ K c w p k r h hs hn (wpE_waitDma2_eq 𝒱₀ (c : Thread nD τ) none Set.univ))
  isplitl [HH]; · iexact HH
  isplitl [HT]; · iexact HT
  isplitl [HP]; · iexact HP
  iintro -; iexact HC

/-- A wait on a semaphore that others signal. -/
theorem wp_swait (c : Dev nD) (w p : ℕ) (k : CK) (r : ℕ) (h : okW w k r p = true) (hl : launched k = true)
    {s : Sem sig} {n : ℕ} (hs : SemLoc.reg s = sem k) (hn : n = need k)
    {α : Type} {kont : PUnit → Prog (TpuEff nD τ sig (Elt F) Λ₀ .tc) α} {Q : α → sProp 𝕄} :
    iprop(HI m ρ K ∗ Todo c p ∗ Poss c w)
      ⊢ iprop(((Todo c p ∗ Poss c (w + 1) ∗ got m ρ c k r) -∗ WP c (kont ⟨⟩) Q) -∗ WP c (.op (.semWait s n) kont) Q) := by
  iintro ⟨HH, HT, HP⟩
  iapply (wp_wait_core m ρ K c w p k r h hs hn (wpE_semWait_eq 𝒱₀ (c : Thread nD τ) none Set.univ))
  isplitl [HH]; · iexact HH
  isplitl [HT]; · iexact HT
  isplitl [HP]; · iexact HP
  unfold wcred; rw [if_pos hl]
  iintro H; iexact H

/-! ## A signal -/

theorem wp_sig (c : Dev nD) (p : ℕ) (i : Item) (hi : items[p]? = some i) (hown : i.own = none)
    (hd : i.d ∈ duties i.k) (hr : i.r < rounds i.k) {n : Dev nD} (hn : n = tgt i.k i.d c) {s : Sem sig} (hs : SemLoc.reg s = sem i.k)
    {k' : ℕ} (hk : amt i.k = k')
    {α : Type} {kont : PUnit → Prog (TpuEff nD τ sig (Elt F) Λ₀ .tc) α} {Q : α → sProp 𝕄} :
    iprop(HI m ρ K ∗ Todo c p ∗ pay m ρ (tgt i.k i.d c) i.k i.r i.d ∗ reached ER (cell (tgt i.k i.d c) i.k) i.r)
      ⊢ iprop((Todo c (p + 1) -∗ WP c (kont ⟨⟩) Q) -∗ WP c (.op (.semSignal (Dev.tc n : Thread nD τ) s k') kont) Q) := by
  subst hn hk
  have hc : ((tgt i.k i.d c : Thread nD τ), SemLoc.reg s) = cell (tgt i.k i.d c) i.k := by rw [hs]
  unfold Todo
  rw [drop_of_get hi, bsl_cons]
  unfold itok
  rw [hown]
  iintro ⟨#HH, ⟨⟨%W, HO⟩, ⟨⟨Ht, -⟩, HT⟩⟩, Hp, Hr⟩ Hk
  iapply (Rounds.wp_signal 𝒱₀ ER (Sch m ρ) (c : Thread nD τ) none (dst := (tgt i.k i.d c : Thread nD τ)) (sem := s) (r := i.r)
      (κ := K (tgt i.k i.d c, i.k)) (d := i.d) (by rw [hc, Sch_duties m ρ _ _ _ hr]; exact hd) (by rw [hc, Sch_amount]) i.r
      (O₀ := owesL c (i :: items.drop (p + 1))) (owesL c (items.drop (p + 1))) (by rw [hc]; rfl) (W := W)) $$ [HO Ht Hp Hr]
  · rw [hc, Sch_payload]
    isplitr; · iapply (HI_inv m ρ K _ i.k); iexact HH
    isplitl [HO]; · iexact HO
    isplitl [Ht]; · iexact Ht
    isplitl [Hp]; · iexact Hp
    iexact Hr
  iintro HO
  iapply Hk
  isplitl [HO]; · iexists W; iexact HO
  iexact HT

/-! ## A copy to another device -/

theorem wp_put (c : Dev nD) (p w : ℕ) (i : Item) (k₁ : CK) (r₁ : ℕ) (hi : items[p]? = some i) (hown : i.own = some (k₁, r₁))
    (hd : i.d ∈ duties i.k) (hr : i.r < rounds i.k) (hd₁ : (0 : Fin 3) ∈ duties k₁) (hr₁ : r₁ < rounds k₁) (hw : posAt w k₁ = r₁)
    {n : Dev nD} (hn : n = tgt i.k i.d c) {sp sp' : Space} {sh : Shape} {e : EltTy}
    {src : Memref sig .tc sp sh e} {dst : Memref sig .tc sp' sh e} {s₁ s₂ : DmaSem sig} (hs₁ : SemLoc.dma s₁ = sem k₁) (hs₂ : SemLoc.dma s₂ = sem i.k)
    (hN : dst.view.dmaCredit = need k₁) (hN₁ : amt k₁ = need k₁) (hN₂ : amt i.k = need k₁)
    {hsc : dst.view.ref.isScScratch = false}
    {hsrc : src.view.WordExact} {hdst : dst.view.WordExact}
    {hsem : DmaTarget.Typed sp (.dma s₂) (.remote (Dev.tc n : Thread nD τ) dst (.dma s₁) hsc)}
    {q : PosShare TreeShare} (X : sh.Idx → Elt F e) (Fr : sProp 𝕄)
    (hpay₁ : (owns (c : Thread nD τ) src q X : sProp 𝕄) ⊢ pay m ρ c k₁ r₁ 0)
    (hpay₂ : iprop(owns (tgt i.k i.d c : Thread nD τ) dst fullShare X ∗ Fr) ⊢ pay m ρ (tgt i.k i.d c) i.k i.r i.d)
    {α : Type} {kont : PUnit → Prog (TpuEff nD τ sig (Elt F) Λ₀ .tc) α} {Q : α → sProp 𝕄} :
    iprop(HI m ρ K ∗ Todo c p ∗ Poss c w ∗ owns (c : Thread nD τ) src q X ∗ free (tgt i.k i.d c) dst ∗ Fr ∗ reached ER (cell (tgt i.k i.d c) i.k) i.r)
      ⊢ iprop(((Todo c (p + 1) ∗ Poss c w ∗ cred (tallyAt (cell c k₁) r₁ (need k₁))) -∗ WP c (kont ⟨⟩) Q)
          -∗ WP c (.op (.enqueueDma src (.remote (Dev.tc n : Thread nD τ) dst (.dma s₁) hsc) (.dma s₂) hsrc hdst hsem) kont) Q) := by
  subst hn
  have hc₁ : ((c : Thread nD τ), SemLoc.dma s₁) = cell c k₁ := by rw [hs₁]
  have hc₂ : ((tgt i.k i.d c : Thread nD τ), SemLoc.dma s₂) = cell (tgt i.k i.d c) i.k := by rw [hs₂]
  unfold Todo
  rw [drop_of_get hi, bsl_cons]
  unfold itok
  rw [hown]
  unfold free
  iintro ⟨#HH, ⟨⟨%W, HO⟩, ⟨⟨Ht, Ht₁⟩, HT⟩⟩, HP, HX, ⟨%Y, HY⟩, HF, Hr⟩ Hk
  ihave HX' := (show (owns (c : Thread nD τ) src q X : sProp 𝕄) ⊢ iprop(∃ f, ⌜src.view.read (Elt F) f = X⌝ ∗ src.view.loc (c : Thread nD τ) ↦[src.view.set]{q} f) from .rfl) $$ HX
  icases HX' with ⟨%fs, %hfs, HX⟩
  ihave HY' := (show (owns (tgt i.k i.d c : Thread nD τ) dst fullShare Y : sProp 𝕄) ⊢ iprop(∃ f, ⌜dst.view.read (Elt F) f = Y⌝ ∗ dst.view.loc (tgt i.k i.d c : Thread nD τ) ↦[dst.view.set]{fullShare} f) from .rfl) $$ HY
  icases HY' with ⟨%fd, -, HY⟩
  ihave HP' := (Poss_reached (F := F) c w k₁ r₁ hw) $$ HP
  icases HP' with ⟨#Hr₁, HP⟩
  iapply (Rounds.wp_send_pointsTo_with 𝒱₀ ER (Sch m ρ) (c : Thread nD τ) none (c' := (tgt i.k i.d c : Thread nD τ)) (sS := .dma s₁) (sem := .dma s₂) (κ₁ := K (c, k₁)) (κ₂ := K (tgt i.k i.d c, i.k))
      (r₁ := r₁) (r₂ := i.r) (d₁ := 0) (d₂ := i.d) (fs := fs) (fd := fd) (F := Fr) (q := q)
      (by rw [hc₁, Sch_duties m ρ _ _ _ hr₁]; exact hd₁) (by rw [hc₂, Sch_duties m ρ _ _ _ hr]; exact hd)
      i.r r₁ (need k₁) (show dst.view.amount (.dma s₂) = need k₁ from hN) (by rw [hc₁, Sch_amount, hN₁]) (by rw [hc₂, Sch_amount, hN₂])
      (O₀ := owesL c (i :: items.drop (p + 1))) (owesL c (items.drop (p + 1))) (by rw [hc₂, ← hN₂]; rfl) (W := W)
      (by rw [hc₁, Sch_payload]; rw [← hfs] at hpay₁; exact (owns_intro (c : Thread nD τ) src q fs).trans hpay₁)
      (by
        rw [hc₂, Sch_payload]
        refine Entails.trans (sep_mono_left ?_) hpay₂
        refine (owns_intro (tgt i.k i.d c : Thread nD τ) dst fullShare _).trans (Entails.of_eq ?_)
        rw [View.read_write_univ, hfs])) $$ [HX HY HF HO Ht Ht₁ Hr]
  · rw [hc₁, hc₂]
    isplitr; · iapply (HI_inv m ρ K c k₁); iexact HH
    isplitr; · iapply (HI_inv m ρ K _ i.k); iexact HH
    isplitl [HX]; · iexact HX
    isplitl [HY HF]
    · isplitl [HY]; · iexact HY
      iexact HF
    isplitl [HO]; · iexact HO
    isplitl [Ht₁]; · iexact Ht₁
    isplitr; · iexact Hr₁
    isplitl [Ht]; · iexact Ht
    iexact Hr
  rw [hc₁]
  iintro ⟨HC, HO⟩
  iapply Hk
  isplitl [HO HT]
  · isplitl [HO]; · iexists W; iexact HO
    iexact HT
  isplitl [HP]; · iexact HP
  iexact HC

/-! ## A copy within the device: a row block of the weights into the staging buffer -/

theorem wp_wcopy (c : Dev nD) (w : ℕ) (i : Fin 4) (hw : posAt w wd = i.val) {s : DmaSem sig} (hs : SemLoc.dma s = sem wd)
    {src : Memref sig .tc .hbm S1024x1024 .f32} (hsr : src = wsrc i)
    {hsrc : src.view.WordExact} {hdst : (wsM : Memref sig .tc .vmem S1024x1024 .f32).view.WordExact}
    {hsem : DmaTarget.Typed .hbm (.dma s) (.here (wsM : Memref sig .tc .vmem S1024x1024 .f32) : DmaTarget nD τ sig .tc .vmem S1024x1024 .f32)}
    {α : Type} {kont : PUnit → Prog (TpuEff nD τ sig (Elt F) Λ₀ .tc) α} {Q : α → sProp 𝕄} :
    iprop(HI m ρ K ∗ Poss c w ∗ owns (c : Thread nD τ) (wsrc i) fullShare.left (wblk m c i) ∗ free c wsM ∗ dutyTok ER (cell c wd) i.val 0)
      ⊢ iprop(((Poss c w ∗ cred (tallyAt (cell c wd) i.val (need wd))) -∗ WP c (kont ⟨⟩) Q)
          -∗ WP c (.op (.enqueueDma src (.here wsM) (.dma s) hsrc hdst hsem) kont) Q) := by
  subst hsr
  have hc₁ : ((c : Thread nD τ), SemLoc.dma s) = cell c wd := by rw [hs]
  have hi : i.val < rounds wd := i.isLt
  unfold free
  iintro ⟨#HH, HP, HX, ⟨%Y, HY⟩, Ht⟩ Hk
  ihave HX' := (show (owns (c : Thread nD τ) (wsrc i) fullShare.left (wblk m c i) : sProp 𝕄) ⊢ iprop(∃ f, ⌜(wsrc i).view.read (Elt F) f = wblk m c i⌝ ∗ (wsrc i).view.loc (c : Thread nD τ) ↦[(wsrc i).view.set]{fullShare.left} f) from .rfl) $$ HX
  icases HX' with ⟨%fs, %hfs, HX⟩
  ihave HY' := (show (owns (c : Thread nD τ) wsM fullShare Y : sProp 𝕄) ⊢ iprop(∃ f, ⌜(wsM : Memref sig .tc .vmem S1024x1024 .f32).view.read (Elt F) f = Y⌝ ∗ (wsM : Memref sig .tc .vmem S1024x1024 .f32).view.loc (c : Thread nD τ) ↦[(wsM : Memref sig .tc .vmem S1024x1024 .f32).view.set]{fullShare} f) from .rfl) $$ HY
  icases HY' with ⟨%fd, -, HY⟩
  ihave HP' := (Poss_reached (F := F) c w wd i.val hw) $$ HP
  icases HP' with ⟨#Hr₁, HP⟩
  have hmod : (Fin.ofNat 4 i.val : Fin 4) = i := Fin.ext (Nat.mod_eq_of_lt i.isLt)
  iapply (Rounds.wp_copy_pointsTo 𝒱₀ ER (Sch m ρ) (c : Thread nD τ) none (κ := K (c, wd)) (fs := fs) (fd := fd) (q := fullShare.left) (r := i.val) (d := 0)
      (by rw [hc₁, Sch_duties m ρ _ _ _ hi]; exact Finset.mem_singleton_self _) i.val (need wd) (by rfl) (by rw [hc₁, Sch_amount]; exact (Nat.one_mul _).symm)
      (by
        rw [hc₁, Sch_payload]
        show _ ⊢ iprop(owns (c : Thread nD τ) wsM fullShare (wblk m c (Fin.ofNat 4 i.val)) ∗ owns (c : Thread nD τ) (wsrc (Fin.ofNat 4 i.val)) fullShare.left (wblk m c (Fin.ofNat 4 i.val)))
        rw [hmod]
        refine BIClass.sep_mono ?_ ?_
        · refine (owns_intro (c : Thread nD τ) wsM fullShare _).trans (Entails.of_eq ?_)
          rw [View.read_write_univ, hfs]
        · refine (owns_intro (c : Thread nD τ) (wsrc i) fullShare.left _).trans (Entails.of_eq ?_)
          rw [hfs])) $$ [HX HY Ht]
  · rw [hc₁]
    isplitr; · iapply (HI_inv m ρ K c wd); iexact HH
    isplitl [HX]; · iexact HX
    isplitl [HY]; · iexact HY
    isplitl [Ht]; · iexact Ht
    iexact Hr₁
  rw [hc₁]
  iintro HC
  iapply Hk
  isplitl [HP]; · iexact HP
  iexact HC

end Cert.KernelIdealProof
-- ==== Proof.I.Bufs.lean ====
/-
# `Bufs`: loads and stores through owned memrefs
-/
module

public import proofs.«01_k».proof.Proof.I.Steps
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

/-! ## Loads and stores through a memref that is owned -/

theorem owns_ex (c : Dev nD) {sp : Space} {sh : Shape} {e : EltTy} (M : Memref sig .tc sp sh e) (q : PosShare TreeShare) (X : sh.Idx → Elt F e) :
    (owns (c : Thread nD τ) M q X : sProp 𝕄) ⊢ iprop(∃ f, ⌜M.view.read (Elt F) f = X⌝ ∗ M.view.loc (c : Thread nD τ) ↦[M.view.set]{q} f) := .rfl

theorem free_intro (c : Dev nD) {sp : Space} {sh : Shape} {e : EltTy} (M : Memref sig .tc sp sh e) (X : sh.Idx → Elt F e) :
    (owns (c : Thread nD τ) M fullShare X : sProp 𝕄) ⊢ free c M := by
  unfold free; iintro H; iexists X; iexact H

/-- A load through a memref reads its contents at the coordinates asked for. -/
theorem wp_ld (c : Dev nD) {sh : Shape} {e : EltTy} {M : Memref sig .tc .vmem sh e} {q : PosShare TreeShare} {X : sh.Idx → Elt F e}
    {r : LoadRect sh} {hl : M.view.LoadsAt r} {α : Type} {kont : (r.shape.Idx → Elt F e) → Prog (TpuEff nD τ sig (Elt F) Λ₀ .tc) α} {Q : α → sProp 𝕄} :
    (owns (c : Thread nD τ) M q X : sProp 𝕄)
      ⊢ iprop((owns (c : Thread nD τ) M q X -∗ WP c (kont fun i => X (r.idx i)) Q) -∗ WP c (.op (.load (cs := .vmem) M r hl) kont) Q) := by
  iintro H Hk
  ihave H' := (owns_ex (F := F) c M q X) $$ H
  icases H' with ⟨%f, %hf, H⟩
  subst hf
  iapply (wp_load 𝒱₀ (c : Thread nD τ) none Set.univ (m := M) (View.setOn_subset_set _ _)) $$ H
  iintro H
  iapply Hk
  iapply (owns_intro (c : Thread nD τ) M q f); iexact H

/-- A store through a memref puts the vector over its contents. -/
theorem wp_st (c : Dev nD) {sh : Shape} {e : EltTy} {M : Memref sig .tc .vmem sh e} {X : sh.Idx → Elt F e}
    {r : Rect sh} {V : r.shape.Idx → Elt F e} {hx : (M.access r).Stores Finset.univ} {hm : (Finset.univ : Finset r.shape.Idx) = Finset.univ ∨ ∀ a, r.stride a = 1}
    {α : Type} {kont : PUnit → Prog (TpuEff nD τ sig (Elt F) Λ₀ .tc) α} {Q : α → sProp 𝕄} :
    (owns (c : Thread nD τ) M fullShare X : sProp 𝕄)
      ⊢ iprop((owns (c : Thread nD τ) M fullShare (r.overlay X V) -∗ WP c (kont ⟨⟩) Q) -∗ WP c (.op (.store (cs := .vmem) M r V Finset.univ hx hm) kont) Q) := by
  iintro H Hk
  ihave H' := (owns_ex (F := F) c M fullShare X) $$ H
  icases H' with ⟨%f, %hf, H⟩
  iapply (wp_store 𝒱₀ (c : Thread nD τ) none Set.univ (m := M) (r := r) (S := M.view.set) (M.view.set_slice_subset r)) $$ H
  iintro H
  iapply Hk
  have hread : M.view.read (Elt F) ((M.access r).write (Elt F) f V Finset.univ) = r.overlay X V := by
    funext j
    by_cases hj : j ∈ r.set
    · obtain ⟨i, rfl⟩ := r.exists_idx_of_mem hj
      change M.view.read (Elt F) _ (r.emb i) = r.overlay _ _ (r.emb i)
      rw [Rect.overlay_emb, View.read_slice_write_emb r f V (Finset.mem_univ i)]
    · rw [Rect.overlay_of_not_mem _ _ _ hj, View.read_slice_write_of_not_mem r f V _ (by rw [Rect.map_emb_univ]; exact hj), hf]
  rw [← hread]
  iapply (owns_intro (c : Thread nD τ) M fullShare); iexact H

/-- A load of a slot through the buffer it is a slice of. -/
theorem wp_slot_ld (c : Dev nD) {sh s' : Shape} {e : EltTy} {M : Memref sig .tc .vmem sh e} {r : Rect sh} {hr : ∀ a, r.stride a = 1}
    {hq : r.shape.Squeezes s'} (hc : s'.ShapeCasts r.shape) {q : PosShare TreeShare} {X : s'.Idx → Elt F e}
    {hl : M.view.LoadsAt r.toLoadRect} {α : Type} {kont : (r.shape.Idx → Elt F e) → Prog (TpuEff nD τ sig (Elt F) Λ₀ .tc) α} {Q : α → sProp 𝕄} :
    (owns (c : Thread nD τ) ((M.slice r hr).squeeze s' hq) q X : sProp 𝕄)
      ⊢ iprop((owns (c : Thread nD τ) ((M.slice r hr).squeeze s' hq) q X -∗ WP c (kont (shapeCast r.shape X hc)) Q)
          -∗ WP c (.op (.load (cs := .vmem) M r.toLoadRect hl) kont) Q) := by
  iintro H Hk
  ihave H' := (owns_ex (F := F) c ((M.slice r hr).squeeze s' hq) q X) $$ H
  icases H' with ⟨%f, %hf, H⟩
  have hv : shapeCast r.shape X hc = (M.access r).read (Elt F) f := by
    rw [← hf]
    exact shapeCast_shapeCast ((M.access r).read (Elt F) f) hc.symm hc
  rw [hv]
  iapply (wp_load_rect 𝒱₀ (c : Thread nD τ) none Set.univ (m := M) (r := r) (S := ((M.slice r hr).squeeze s' hq).view.set)
    (show (M.access r).set ⊆ _ from (Memref.set_view_squeeze (M.slice r hr) hq).symm.subset)) $$ H
  iintro H
  iapply Hk
  rw [← hf]
  iapply (owns_intro (c : Thread nD τ) ((M.slice r hr).squeeze s' hq) q f); iexact H

/-- A store of a whole slot through the buffer it is a slice of. -/
theorem wp_slot_st (c : Dev nD) {sh s' : Shape} {e : EltTy} {M : Memref sig .tc .vmem sh e} {r : Rect sh} {hr : ∀ a, r.stride a = 1}
    {hq : r.shape.Squeezes s'} (hc : r.shape.ShapeCasts s') {V : r.shape.Idx → Elt F e}
    {hx : (M.access r).Stores Finset.univ} {hm : (Finset.univ : Finset r.shape.Idx) = Finset.univ ∨ ∀ a, r.stride a = 1}
    {α : Type} {kont : PUnit → Prog (TpuEff nD τ sig (Elt F) Λ₀ .tc) α} {Q : α → sProp 𝕄} :
    (free c ((M.slice r hr).squeeze s' hq) : sProp 𝕄)
      ⊢ iprop((owns (c : Thread nD τ) ((M.slice r hr).squeeze s' hq) fullShare (shapeCast s' V hc) -∗ WP c (kont ⟨⟩) Q)
          -∗ WP c (.op (.store (cs := .vmem) M r V Finset.univ hx hm) kont) Q) := by
  unfold free
  iintro ⟨%X, H⟩ Hk
  ihave H' := (owns_ex (F := F) c ((M.slice r hr).squeeze s' hq) fullShare X) $$ H
  icases H' with ⟨%f, -, H⟩
  iapply (wp_store 𝒱₀ (c : Thread nD τ) none Set.univ (m := M) (r := r) (S := ((M.slice r hr).squeeze s' hq).view.set)
    (show (M.access r).set ⊆ _ from (Memref.set_view_squeeze (M.slice r hr) hq).symm.subset)) $$ H
  iintro H
  iapply Hk
  have hread : ((M.slice r hr).squeeze s' hq).view.read (Elt F) ((M.access r).write (Elt F) f V Finset.univ) = shapeCast s' V hc := by
    show shapeCast s' ((M.access r).read (Elt F) _) hc = _
    rw [View.read_write_univ]
  rw [← hread]
  iapply (owns_intro (c : Thread nD τ) ((M.slice r hr).squeeze s' hq) fullShare _); iexact H

end Cert.KernelIdealProof
-- ==== Proof.I.Flow.lean ====
/-
# `Flow`: the steps of a flow
-/
module

public import proofs.«01_k».proof.Proof.I.Bufs
public import Idealize.ShloMosaic.Lib.MemrefSat

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

variable (m : (ℓ : Loc nD τ sig) → Buf (Elt F) ℓ) (ρ : Dev nD → PrngReg) (K : Dev nD × CK → ℕ)

/-! ## Hops, slots and rounds -/

theorem sl_val (n : ℕ) : 2 * (n / 2) + (sl n).val = n := Nat.div_add_mod n 2
theorem sl_succ_val (n : ℕ) : 2 * (n / 2) + (1 - (sl (n + 1)).val) = n := by show 2 * (n / 2) + (1 - (n + 1) % 2) = n; omega
theorem sl_two (n : ℕ) : sl (n + 2) = sl n := Fin.ext (by show (n + 2) % 2 = n % 2; omega)
theorem ofNat8_succ (n : ℕ) : Fin.ofNat 8 (n + 1) = Fin.ofNat 8 n + 1 := by
  apply Fin.ext
  show (n + 1) % 8 = (n % 8 + 1 % 8) % 8
  omega
theorem org_succ (f : Fin 4) (n : ℕ) (c : Dev nD) : org f (Fin.ofNat 8 (n + 1)) (dst f c) = org f (Fin.ofNat 8 n) c := by
  rw [ofNat8_succ, org_dst]
theorem Xc_succ (f : Fin 4) (n : ℕ) (c : Dev nD) : Xc m ρ f (n + 1) (dst f c) = Xc m ρ f n c := by
  unfold Xc; rw [org_succ]

theorem need_snd (f : Fin 4) (s : Fin 2) : need (snd f s) = Nblk := Nat.one_mul _
theorem need_rcv (f : Fin 4) (s : Fin 2) : need (rcv f s) = Nblk := Nat.one_mul _
theorem need_csn (t : Fin 8) : need (csn t) = Nblk := Nat.one_mul _
theorem need_crc (t : Fin 8) : need (crc t) = Nblk := Nat.one_mul _
theorem need_asn (t : Fin 8) : need (asn t) = Nam := Nat.one_mul _
theorem need_arc (t : Fin 8) : need (arc t) = Nam := Nat.one_mul _
theorem need_wd : need wd = Nw := Nat.one_mul _
theorem need_cap (f : Fin 4) : need (cap f) = 1 := Nat.one_mul _

theorem credit_slot (f : Fin 4) (s : Fin 2) : (slotM f s).view.dmaCredit = Nblk := rfl
theorem credit_ch (t : Fin 8) : (chM t).view.dmaCredit = Nblk := rfl

theorem halves_split (c : Dev nD) {sp : Space} {sh : Shape} {e : EltTy} (M : Memref sig .tc sp sh e) (q : PosShare TreeShare) (X : sh.Idx → Elt F e) :
    (owns (c : Thread nD τ) M q X : sProp 𝕄) ⊢ iprop(owns (c : Thread nD τ) M q.left X ∗ owns (c : Thread nD τ) M q.right X) :=
  (owns_halves (c : Thread nD τ) M q X).1
theorem halves_join (c : Dev nD) {sp : Space} {sh : Shape} {e : EltTy} (M : Memref sig .tc sp sh e) (q : PosShare TreeShare) (X : sh.Idx → Elt F e) :
    iprop(owns (c : Thread nD τ) M q.left X ∗ owns (c : Thread nD τ) M q.right X) ⊢ (owns (c : Thread nD τ) M q X : sProp 𝕄) :=
  (owns_halves (c : Thread nD τ) M q X).2

/-! ## One hop of a flow -/

/-- The credit for the wait on the send cell of hop `n` of flow `f`. -/
abbrev Cs (c : Dev nD) (f : Fin 4) (n : ℕ) : sProp 𝕄 := cred (tallyAt (cell c (snd f (sl n))) (n / 2) (need (snd f (sl n))))
/-- What is kept of the slot that hop `n` sends from while it is under way: half of it, less a quarter where a chord copy reads it too. -/
abbrev Sh (c : Dev nD) (f : Fin 4) (n : ℕ) (b : Bool) : sProp 𝕄 :=
  owns (c : Thread nD τ) (slotM f (sl n)) (if b then fullShare.right.right else fullShare.right) (Xc m ρ f n c)

def okHop (p w : ℕ) (f : Fin 4) (n : ℕ) : Bool :=
  decide (items[p]? = some (iHop f n)) && decide (n / 2 < rounds (rcv f (sl (n + 1)))) && decide (n / 2 < rounds (snd f (sl n)))
    && decide (posAt w (snd f (sl n)) = n / 2)

/-- The start of hop `n` of flow `f`. -/
theorem wp_hop (c : Dev nD) (p w : ℕ) (f : Fin 4) (n : ℕ) (h : okHop p w f n = true)
    {d : Dev nD} (hd : d = dst f c) {src dst' : Memref sig .tc .vmem S128x4096 .bf16} (hsr : src = slotM f (sl n)) (hds : dst' = slotM f (sl (n + 1)))
    {s₁ s₂ : DmaSem sig} (hs₁ : SemLoc.dma s₁ = sem (snd f (sl n))) (hs₂ : SemLoc.dma s₂ = sem (rcv f (sl (n + 1))))
    {hsc : dst'.view.ref.isScScratch = false} {hsrc : src.view.WordExact} {hdst : dst'.view.WordExact}
    {hsem : DmaTarget.Typed .vmem (.dma s₂) (.remote (Dev.tc d : Thread nD τ) dst' (.dma s₁) hsc)}
    {α : Type} {kont : PUnit → Prog (TpuEff nD τ sig (Elt F) Λ₀ .tc) α} {Q : α → sProp 𝕄} :
    iprop(HI m ρ K ∗ Todo c p ∗ Poss c w ∗ owns (c : Thread nD τ) (slotM f (sl n)) fullShare.left (Xc m ρ f n c)
        ∗ free (dst f c) (slotM f (sl (n + 1))) ∗ reached ER (cell c (cap f)) n ∗ chain f n (org f (Fin.ofNat 8 n) c)
        ∗ reached ER (cell (dst f c) (rcv f (sl (n + 1)))) (n / 2))
      ⊢ iprop(((Todo c (p + 1) ∗ Poss c w ∗ Cs c f n) -∗ WP c (kont ⟨⟩) Q)
          -∗ WP c (.op (.enqueueDma src (.remote (Dev.tc d : Thread nD τ) dst' (.dma s₁) hsc) (.dma s₂) hsrc hdst hsem) kont) Q) := by
  subst hsr hds
  unfold okHop at h
  simp only [Bool.and_eq_true, decide_eq_true_eq] at h
  obtain ⟨⟨⟨hi, hr⟩, hr₁⟩, hw⟩ := h
  iintro ⟨HH, HT, HP, HX, HY, HC, HF, HR⟩
  iapply (wp_put m ρ K c p w (iHop f n) (snd f (sl n)) (n / 2) hi rfl (Finset.mem_singleton_self _) hr (Finset.mem_singleton_self _) hr₁ hw
    (show d = tgt (rcv f (sl (n + 1))) 0 c from hd) hs₁ hs₂ ((credit_slot f (sl (n + 1))).trans (need_snd f (sl n)).symm) (need_snd f (sl n)).symm (need_snd f (sl n)).symm
    (X := Xc m ρ f n c) (q := fullShare.left) (Fr := iprop(reached ER (cell c (cap f)) n ∗ chain f n (org f (Fin.ofNat 8 n) c)))
    (by
      show _ ⊢ owns (c : Thread nD τ) (slotM f (sl n)) fullShare.left (Xc m ρ f (2 * (n / 2) + (sl n).val) c)
      rw [sl_val])
    (by
      show _ ⊢ iprop(owns (dst f c : Thread nD τ) (slotM f (sl (n + 1))) fullShare (Xc m ρ f (2 * (n / 2) + (1 - (sl (n + 1)).val) + 1) (dst f c))
        ∗ reached ER (cell (up f (dst f c)) (cap f)) (2 * (n / 2) + (1 - (sl (n + 1)).val))
        ∗ chain f (2 * (n / 2) + (1 - (sl (n + 1)).val)) (org f (Fin.ofNat 8 (2 * (n / 2) + (1 - (sl (n + 1)).val) + 1)) (dst f c)))
      rw [sl_succ_val, Xc_succ, up_dst, org_succ]; exact .rfl)) $$ [HH HT HP HX HY HC HF HR]
  isplitl [HH]; · iexact HH
  isplitl [HT]; · iexact HT
  isplitl [HP]; · iexact HP
  isplitl [HX]; · iexact HX
  isplitl [HY]; · iexact HY
  isplitl [HC HF]
  · isplitl [HC]; · iexact HC
    iexact HF
  iexact HR

/-- The free row that flow `f` leaves at `c` with its hop `n`. -/
def headR (f : Fin 4) (n : ℕ) (c : Dev nD) : sProp 𝕄 :=
  if f = 0 ∧ n < 4 ∨ f = 2 ∧ n < 3 then R (F := F) (org f (Fin.ofNat 8 (n + 1)) c) c else iprop(emp)

theorem chain_nil (f : Fin 4) (n : ℕ) (o : Dev nD) (h : chainL f n = []) : chain (F := F) f n o = iprop(emp) := by
  unfold chain; rw [h]; exact bigSepL_nil _

theorem chain_head (f : Fin 4) (n : ℕ) (hn : n < 5) (c : Dev nD) :
    chain (F := F) f n (org f (Fin.ofNat 8 (n + 1)) c) ⊢ iprop(headR f n c ∗ chain f (n + 1) (org f (Fin.ofNat 8 (n + 1)) c)) := by
  have key : ∀ (f : Fin 4) (n : Fin 5) (c : Dev nD), if f = 0 ∧ n.val < 4 ∨ f = 2 ∧ n.val < 3 then
      ∃ k ∈ chainL f n.val, chainL f n.val = k :: chainL f (n.val + 1) ∧ rot k (org f (Fin.ofNat 8 (n.val + 1)) c) = c
    else chainL f n.val = [] ∧ chainL f (n.val + 1) = [] := by decide +kernel
  have := key f ⟨n, hn⟩ c
  unfold headR
  by_cases hc : f = 0 ∧ n < 4 ∨ f = 2 ∧ n < 3
  · rw [if_pos hc] at this ⊢
    obtain ⟨k, -, h1, h2⟩ := this
    change chainL f n = k :: chainL f (n + 1) at h1
    change rot k (org f (Fin.ofNat 8 (n + 1)) c) = c at h2
    show chain f n _ ⊢ _
    unfold chain
    rw [h1, bsl_cons, h2]
  · rw [if_neg hc] at this ⊢
    rw [chain_nil f n _ this.1, chain_nil f (n + 1) _ this.2]
    iintro -
    isplitr <;> iempintro

/-! ## What an iteration does with one flow -/

theorem pay_cap (c : Dev nD) (f : Fin 4) (h : ℕ) :
    iprop(free c (slotM f (sl h)) ∗ reached ER (cell c (rcv f (sl h))) ((h + 1) / 2)) ⊢ pay m ρ (up f c) (cap f) h 0 := by
  show _ ⊢ iprop(free (dst f (up f c)) (slotM f (sl h)) ∗ reached ER (cell (dst f (up f c)) (rcv f (sl h))) ((h + 1) / 2))
  rw [dst_up]

def okFlow (p w : ℕ) (f : Fin 4) (h : ℕ) : Bool :=
  okW w (snd f (sl h)) (h / 2) p && okW (w + 1) (rcv f (sl (h + 1))) (h / 2) p && okW (w + 2) (cap f) h (p + 1)
    && decide (items[p]? = some (iCap f h)) && decide (h < 4) && okHop (p + 1) (w + 3) f (h + 1)
    && decide (posAt (w + 2) (rcv f (sl h)) = (h + 1) / 2) && decide (posAt (w + 3) (cap f) = h + 1)

/-- Hop `h` has left and hop `h` has landed; the slot it left from is handed back upstream; with the credit from downstream
    hop `h + 1` starts. -/
theorem wp_flow (c : Dev nD) (p w : ℕ) (f : Fin 4) (h : ℕ) (ok : okFlow p w f h = true)
    {d u : Dev nD} (hd : d = dst f c) (hu : u = up f c)
    {src dst' w₁ w₂ w₃ w₄ : Memref sig .tc .vmem S128x4096 .bf16} (hsr : src = slotM f (sl (h + 1))) (hds : dst' = slotM f (sl (h + 2)))
    (hw₂ : w₂.view.dmaCredit = Nblk) (hw₄ : w₄.view.dmaCredit = Nblk)
    {s₁ s₂ s₃ s₄ : DmaSem sig} {sc sc' : Sem sig} (hs₁ : SemLoc.dma s₁ = sem (snd f (sl (h + 1)))) (hs₂ : SemLoc.dma s₂ = sem (rcv f (sl (h + 2))))
    (hs₃ : SemLoc.dma s₃ = sem (snd f (sl h))) (hs₄ : SemLoc.dma s₄ = sem (rcv f (sl (h + 1)))) (hsc₁ : SemLoc.reg sc = sem (cap f)) (hsc₂ : SemLoc.reg sc' = sem (cap f))
    {k₁ k₂ : ℕ} (hk₁ : 1 = k₁) (hk₂ : k₂ = 1)
    {e₁ : w₁.view.WordExact} {e₂ : w₂.view.WordExact} {e₃ : w₃.view.WordExact} {e₄ : w₄.view.WordExact}
    {hsc : dst'.view.ref.isScScratch = false} {hsrc : src.view.WordExact} {hdst : dst'.view.WordExact}
    {hsem : DmaTarget.Typed .vmem (.dma s₂) (.remote (Dev.tc d : Thread nD τ) dst' (.dma s₁) hsc)}
    {α : Type} {kont : PUnit → Prog (TpuEff nD τ sig (Elt F) Λ₀ .tc) α} {Q : α → sProp 𝕄} :
    iprop(HI m ρ K ∗ Todo c p ∗ Poss c w ∗ Sh m ρ c f h false ∗ Cs c f h)
      ⊢ iprop(((Todo c (p + 2) ∗ Poss c (w + 3) ∗ Sh m ρ c f (h + 1) false ∗ Cs c f (h + 1) ∗ headR f h c) -∗ WP c (kont ⟨⟩) Q)
          -∗ WP c (.op (.waitDma2 s₃ w₁ w₂ e₁ e₂) fun _ => .op (.waitDma2 s₄ w₃ w₄ e₃ e₄) fun _ =>
              .op (.semSignal (Dev.tc u : Thread nD τ) sc k₁) fun _ => .op (.semWait sc' k₂) fun _ =>
              .op (.enqueueDma src (.remote (Dev.tc d : Thread nD τ) dst' (.dma s₁) hsc) (.dma s₂) hsrc hdst hsem) kont) Q) := by
  subst hk₂
  unfold okFlow at ok
  simp only [Bool.and_eq_true, decide_eq_true_eq] at ok
  obtain ⟨⟨⟨⟨⟨⟨⟨ok₁, ok₂⟩, ok₃⟩, hit⟩, h4⟩, ok₄⟩, hp₁⟩, hp₂⟩ := ok
  iintro ⟨#HH, HT, HP, HS, HC⟩ Hk
  iapply (wp_owait m ρ K c w p (snd f (sl h)) (h / 2) ok₁ hs₃ (hw₂.trans (need_snd f (sl h)).symm)) $$ [HT HP HC]
  · isplitr; · iexact HH
    isplitl [HT]; · iexact HT
    isplitl [HP]; · iexact HP
    iexact HC
  iintro ⟨HT, HP, HG⟩
  iapply (wp_dwait m ρ K c (w + 1) p (rcv f (sl (h + 1))) (h / 2) ok₂ rfl hs₄ (hw₄.trans (need_rcv f (sl (h + 1))).symm)) $$ [HT HP]
  · isplitr; · iexact HH
    isplitl [HT]; · iexact HT
    iexact HP
  iintro ⟨HT, HP, HV⟩
  ihave HG' := (show got m ρ c (snd f (sl h)) (h / 2) ⊢ owns (c : Thread nD τ) (slotM f (sl h)) fullShare.left (Xc m ρ f h c) from
    (show _ ⊢ owns (c : Thread nD τ) (slotM f (sl h)) fullShare.left (Xc m ρ f (2 * (h / 2) + (sl h).val) c) from .rfl).trans (by rw [sl_val])) $$ HG
  ihave HV' := (show got m ρ c (rcv f (sl (h + 1))) (h / 2) ⊢ iprop(owns (c : Thread nD τ) (slotM f (sl (h + 1))) fullShare (Xc m ρ f (h + 1) c)
        ∗ reached ER (cell (up f c) (cap f)) h ∗ chain f h (org f (Fin.ofNat 8 (h + 1)) c)) from
    (show _ ⊢ iprop(owns (c : Thread nD τ) (slotM f (sl (h + 1))) fullShare (Xc m ρ f (2 * (h / 2) + (1 - (sl (h + 1)).val) + 1) c)
        ∗ reached ER (cell (up f c) (cap f)) (2 * (h / 2) + (1 - (sl (h + 1)).val))
        ∗ chain f (2 * (h / 2) + (1 - (sl (h + 1)).val)) (org f (Fin.ofNat 8 (2 * (h / 2) + (1 - (sl (h + 1)).val) + 1)) c)) from .rfl).trans (by rw [sl_succ_val])) $$ HV
  icases HV' with ⟨HV, HRc, HCh⟩
  ihave HF := (halves_join (F := F) c (slotM f (sl h)) fullShare (Xc m ρ f h c)) $$ [HG' HS]
  · isplitl [HG']; · iexact HG'
    iexact HS
  ihave HP' := (Poss_reached (F := F) c (w + 2) (rcv f (sl h)) ((h + 1) / 2) hp₁) $$ HP
  icases HP' with ⟨Hrr, HP⟩
  iapply (wp_sig m ρ K c p (iCap f h) hit rfl (Finset.mem_singleton_self _) h4 (show u = tgt (cap f) 0 c from hu) hsc₁ (show 1 = k₁ from hk₁)) $$ [HT HF HRc Hrr]
  · isplitr; · iexact HH
    isplitl [HT]; · iexact HT
    isplitl [HF Hrr]
    · iapply (pay_cap m ρ c f h)
      isplitl [HF]; · iapply (free_intro (F := F) c (slotM f (sl h))); iexact HF
      iexact Hrr
    iexact HRc
  iintro HT
  iapply (wp_swait m ρ K c (w + 2) (p + 1) (cap f) h ok₃ rfl hsc₂ (need_cap f).symm) $$ [HT HP]
  · isplitr; · iexact HH
    isplitl [HT]; · iexact HT
    iexact HP
  iintro ⟨HT, HP, HG⟩
  ihave HG' := (show got m ρ c (cap f) h ⊢ iprop(free (dst f c) (slotM f (sl (h + 2))) ∗ reached ER (cell (dst f c) (rcv f (sl (h + 2)))) ((h + 1) / 2)) from by
    rw [sl_two]; exact .rfl) $$ HG
  icases HG' with ⟨HD, HDr⟩
  ihave HP' := (Poss_reached (F := F) c (w + 3) (cap f) (h + 1) hp₂) $$ HP
  icases HP' with ⟨Hrr, HP⟩
  ihave HCh' := (chain_head (F := F) f h (by omega) c) $$ HCh
  icases HCh' with ⟨Hhd, HCh⟩
  ihave HV' := (halves_split (F := F) c (slotM f (sl (h + 1))) fullShare (Xc m ρ f (h + 1) c)) $$ HV
  icases HV' with ⟨HVl, HVr⟩
  iapply (wp_hop m ρ K c (p + 1) (w + 3) f (h + 1) ok₄ hd hsr hds hs₁ hs₂) $$ [HT HP HVl HD Hrr HCh HDr]
  · isplitr; · iexact HH
    isplitl [HT]; · iexact HT
    isplitl [HP]; · iexact HP
    isplitl [HVl]; · iexact HVl
    isplitl [HD]; · iexact HD
    isplitl [Hrr]; · iexact Hrr
    isplitl [HCh]; · iexact HCh
    iexact HDr
  iintro ⟨HT, HP, HCs⟩
  iapply Hk
  isplitl [HT]; · iexact HT
  isplitl [HP]; · iexact HP
  isplitl [HVr]; · iexact HVr
  isplitl [HCs]; · iexact HCs
  iexact Hhd

end Cert.KernelIdealProof
-- ==== Proof.I.Blocks.lean ====
/-
# `Blocks`: chord copies, products and the last hop
-/
module

public import proofs.«01_k».proof.Proof.I.Flow

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

variable (m : (ℓ : Loc nD τ sig) → Buf (Elt F) ℓ) (ρ : Dev nD → PrngReg) (K : Dev nD × CK → ℕ)

/-! ## The blocks of the product already stored -/

theorem inb_o (p : Dev nD × Fin 4) : ∀ a, ![512 * p.1.val + 128 * p.2.val, 0] a + S128x1024.size a ≤ S4096x1024.size a := by
  revert p; decide

/-- The rows of the result that block `p` fills. -/
abbrev oR (p : Dev nD × Fin 4) : Rect S4096x1024 := Rect.unit (s := S4096x1024) ![512 * p.1.val + 128 * p.2.val, 0] S128x1024.size (inb_o p)

/-- The result buffer, holding the products of the blocks of the list. -/
def Out (c : Dev nD) (l : List (Dev nD × Fin 4)) : sProp 𝕄 :=
  iprop(∃ X, ⌜∀ p ∈ l, ∀ i, X ((oR p).emb i) = Yb m ρ c p i⌝ ∗ owns (c : Thread nD τ) oM fullShare X)

theorem oR_disj (p p' : Dev nD × Fin 4) (h : p' ≠ p) (i : S128x1024.Idx) : (oR p').emb i ∉ (oR p).set := by
  intro hm
  obtain ⟨j, hj⟩ := (oR p).exists_idx_of_mem hm
  have h0 := congrArg (fun x : S4096x1024.Idx => (x 0).val) hj
  change 512 * p.1.val + 128 * p.2.val + 1 * (j 0).val = 512 * p'.1.val + 128 * p'.2.val + 1 * (i 0).val at h0
  have hi : (i 0).val < 128 := (i 0).isLt
  have hj' : (j 0).val < 128 := (j 0).isLt
  have h2 := p.2.isLt; have h2' := p'.2.isLt
  apply h
  apply Prod.ext <;> apply Fin.ext <;> omega

/-- Storing a block's product adds it to the list. -/
theorem Out_store (c : Dev nD) (l : List (Dev nD × Fin 4)) (p : Dev nD × Fin 4) {off : Fin 2 → ℕ} {inb : ∀ a, off a + S128x1024.size a ≤ S4096x1024.size a}
    (hoff : off = ![512 * p.1.val + 128 * p.2.val, 0]) {V : S128x1024.Idx → Elt F .f32} (hV : V = Yb m ρ c p)
    {hx : ((oM : Memref sig .tc .vmem S4096x1024 .f32).access (Rect.unit (s := S4096x1024) off S128x1024.size inb)).Stores Finset.univ}
    {hm : (Finset.univ : Finset (Rect.unit (s := S4096x1024) off S128x1024.size inb).shape.Idx) = Finset.univ ∨ ∀ a, (Rect.unit (s := S4096x1024) off S128x1024.size inb).stride a = 1}
    {α : Type} {kont : PUnit → Prog (TpuEff nD τ sig (Elt F) Λ₀ .tc) α} {Q : α → sProp 𝕄} :
    (Out m ρ c l : sProp 𝕄)
      ⊢ iprop((Out m ρ c (p :: l) -∗ WP c (kont ⟨⟩) Q)
          -∗ WP c (.op (.store (cs := .vmem) oM (Rect.unit (s := S4096x1024) off S128x1024.size inb) V Finset.univ hx hm) kont) Q) := by
  subst hoff hV
  unfold Out
  iintro ⟨%X, %hX, H⟩ Hk
  iapply (wp_st c (M := oM) (r := oR p)) $$ H
  iintro H
  iapply Hk
  iexists _
  isplitr
  rotate_left
  · iexact H
  · ipureintro
    intro p' hp' i
    by_cases e : p' = p
    · subst e; exact Rect.overlay_emb _ _ _ _
    · rw [Rect.overlay_of_not_mem _ _ _ (oR_disj p p' e i)]
      exact hX p' ((List.mem_cons.mp hp').resolve_left e) i

/-- A load from the result buffer, its value unused. -/
theorem Out_dead (c : Dev nD) (l : List (Dev nD × Fin 4)) {r : LoadRect S4096x1024} {hl : (oM : Memref sig .tc .vmem S4096x1024 .f32).view.LoadsAt r}
    {α : Type} {kont : Prog (TpuEff nD τ sig (Elt F) Λ₀ .tc) α} {Q : α → sProp 𝕄} :
    (Out m ρ c l : sProp 𝕄) ⊢ iprop((Out m ρ c l -∗ WP c kont Q) -∗ WP c (.op (.load (cs := .vmem) oM r hl) fun _ => kont) Q) := by
  unfold Out
  iintro ⟨%X, %hX, H⟩ Hk
  iapply (wp_ld c (M := oM)) $$ H
  iintro H
  iapply Hk
  iexists X
  isplitr; · ipureintro; exact hX
  iexact H

/-- One product: a block is loaded from a slot, multiplied and stored. -/
theorem wp_dot (c : Dev nD) (l : List (Dev nD × Fin 4)) (p : Dev nD × Fin 4) {sh : Shape} {M : Memref sig .tc .vmem sh .bf16} {r : Rect sh}
    {hr : ∀ a, r.stride a = 1} {hq : r.shape.Squeezes S128x4096} (hc : S128x4096.ShapeCasts r.shape) {q : PosShare TreeShare} {X : Vec F S128x4096 .bf16}
    (hX : Yb m ρ c p = k0_pay12 (Wb m c) X)
    {off : Fin 2 → ℕ} {inb inb' : ∀ a, off a + S128x1024.size a ≤ S4096x1024.size a} (hoff : off = ![512 * p.1.val + 128 * p.2.val, 0])
    {V : (r.shape.Idx → Elt F .bf16) → S128x1024.Idx → Elt F .f32} (hV : ∀ v, V v = k0_pay12 (Wb m c) (shapeCast S128x4096 v hc.symm))
    {r' : Rect sh} (hrr : r' = r) {hl : M.view.LoadsAt r.toLoadRect} {hl' : (oM : Memref sig .tc .vmem S4096x1024 .f32).view.LoadsAt (Rect.unit (s := S4096x1024) off S128x1024.size inb').toLoadRect}
    {hx : ((oM : Memref sig .tc .vmem S4096x1024 .f32).access (Rect.unit (s := S4096x1024) off S128x1024.size inb)).Stores Finset.univ}
    {hm : (Finset.univ : Finset (Rect.unit (s := S4096x1024) off S128x1024.size inb).shape.Idx) = Finset.univ ∨ ∀ a, (Rect.unit (s := S4096x1024) off S128x1024.size inb).stride a = 1}
    {α : Type} {kont : (r.shape.Idx → Elt F .bf16) → Prog (TpuEff nD τ sig (Elt F) Λ₀ .tc) α} {Q : α → sProp 𝕄} :
    iprop(owns (c : Thread nD τ) ((M.slice r hr).squeeze S128x4096 hq) q X ∗ Out m ρ c l)
      ⊢ iprop(((owns (c : Thread nD τ) ((M.slice r hr).squeeze S128x4096 hq) q X ∗ Out m ρ c (p :: l)) -∗ WP c (kont (shapeCast r.shape X hc)) Q)
          -∗ WP c (.op (.load (cs := .vmem) M r.toLoadRect hl) fun v =>
              .op (.load (cs := .vmem) oM (Rect.unit (s := S4096x1024) off S128x1024.size inb').toLoadRect hl') fun _ =>
              .op (.store (cs := .vmem) oM (Rect.unit (s := S4096x1024) off S128x1024.size inb) (V v) Finset.univ hx hm) fun _ => kont v) Q) := by
  iintro ⟨HX, HO⟩ Hk
  iapply (wp_slot_ld c (M := M) (r := r) (hr := hr) (hq := hq) hc) $$ HX
  iintro HX
  iapply (Out_dead m ρ c l) $$ HO
  iintro HO
  iapply (Out_store m ρ c l p hoff (by rw [hV, shapeCast_shapeCast, hX])) $$ HO
  iintro HO
  iapply Hk
  isplitl [HX]; · iexact HX
  iexact HO

/-- A product of a block of the device's own rows. -/
theorem wp_dotX (c : Dev nD) (l : List (Dev nD × Fin 4)) (q : Fin 4) {r : Rect S512x4096} (hr : r = xR q)
    {off : Fin 2 → ℕ} {inb inb' : ∀ a, off a + S128x1024.size a ≤ S4096x1024.size a} (hoff : off = ![512 * c.val + 128 * q.val, 0])
    {V : (r.shape.Idx → Elt F .f32) → S128x1024.Idx → Elt F .f32} (hV : ∀ v : Vec F S512x4096 .f32, V (fun i => v (r.toLoadRect.idx i)) = k0_pay12 (Wb m c) (k0_pay11 fun i => v ((xR q).toLoadRect.idx i)))
    {hl : (xM : Memref sig .tc .vmem S512x4096 .f32).view.LoadsAt r.toLoadRect} {hl' : (oM : Memref sig .tc .vmem S4096x1024 .f32).view.LoadsAt (Rect.unit (s := S4096x1024) off S128x1024.size inb').toLoadRect}
    {hx : ((oM : Memref sig .tc .vmem S4096x1024 .f32).access (Rect.unit (s := S4096x1024) off S128x1024.size inb)).Stores Finset.univ}
    {hm : (Finset.univ : Finset (Rect.unit (s := S4096x1024) off S128x1024.size inb).shape.Idx) = Finset.univ ∨ ∀ a, (Rect.unit (s := S4096x1024) off S128x1024.size inb).stride a = 1}
    {α : Type} {kont : (r.shape.Idx → Elt F .f32) → Prog (TpuEff nD τ sig (Elt F) Λ₀ .tc) α} {Q : α → sProp 𝕄} :
    iprop(owns (c : Thread nD τ) xM fullShare (xstg m ρ c) ∗ Out m ρ c l)
      ⊢ iprop(((owns (c : Thread nD τ) xM fullShare (xstg m ρ c) ∗ Out m ρ c ((c, q) :: l)) -∗ WP c (kont fun i => xstg m ρ c (r.toLoadRect.idx i)) Q)
          -∗ WP c (.op (.load (cs := .vmem) xM r.toLoadRect hl) fun v =>
              .op (.load (cs := .vmem) oM (Rect.unit (s := S4096x1024) off S128x1024.size inb').toLoadRect hl') fun _ =>
              .op (.store (cs := .vmem) oM (Rect.unit (s := S4096x1024) off S128x1024.size inb) (V v) Finset.univ hx hm) fun _ => kont v) Q) := by
  iintro ⟨HX, HO⟩ Hk
  iapply (wp_ld c (M := xM)) $$ HX
  iintro HX
  iapply (Out_dead m ρ c l) $$ HO
  iintro HO
  iapply (Out_store m ρ c l (c, q) hoff (by rw [hV]; rfl)) $$ HO
  iintro HO
  iapply Hk
  isplitl [HX]; · iexact HX
  iexact HO

/-! ## The chord copies -/

/-- The two chord copies of iteration `h`. -/
abbrev tA (h : ℕ) : Fin 8 := Fin.ofNat 8 (2 * h)
abbrev tB (h : ℕ) : Fin 8 := Fin.ofNat 8 (2 * h + 1)

/-- Whether a chord copy of iteration `h` reads the slot of flow `f`. -/
def lent (c : Dev nD) (h : ℕ) (f : Fin 4) : Bool := decide (f = fl c (tA h)) || decide (f = fl c (tB h))
def none4 (f : Fin 4) : Bool := false

/-- The four flows' slots while hop `n` is under way, the flows marked by `β` less a quarter. -/
def Sh4 (c : Dev nD) (n : ℕ) (β : Fin 4 → Bool) : sProp 𝕄 :=
  iprop(Sh m ρ c 0 n (β 0) ∗ Sh m ρ c 1 n (β 1) ∗ Sh m ρ c 2 n (β 2) ∗ Sh m ρ c 3 n (β 3))

theorem fl_cases (c : Dev nD) (h : Fin 4) : (fl c (tA h.val) = 2 ∧ fl c (tB h.val) = 3) ∨ (fl c (tA h.val) = 0 ∧ fl c (tB h.val) = 1) := by
  revert c h; decide

abbrev Cc (c : Dev nD) (t : Fin 8) : sProp 𝕄 := cred (tallyAt (cell c (csn t)) 0 (need (csn t)))

def okChord (p w : ℕ) (t : Fin 8) : Bool := decide (items[p]? = some (iChord t)) && decide (posAt w (csn t) = 0)

theorem Sh_lend (c : Dev nD) (f : Fin 4) (n : ℕ) :
    (Sh m ρ c f n false : sProp 𝕄) ⊢ iprop(owns (c : Thread nD τ) (slotM f (sl n)) fullShare.right.left (Xc m ρ f n c) ∗ Sh m ρ c f n true) :=
  halves_split (F := F) c (slotM f (sl n)) fullShare.right (Xc m ρ f n c)

/-- One chord copy: a quarter of the slot it reads goes with it. -/
theorem wp_chord (c : Dev nD) (p w : ℕ) (t : Fin 8) (n : ℕ) (ok : okChord p w t = true) (hn : t.val / 2 + 1 = n)
    {d : Dev nD} (hd : d = chord c) {src dst' : Memref sig .tc .vmem S128x4096 .bf16} (hsr : src = slotM (fl c t) (sl n)) (hds : dst' = chM t)
    {s₁ s₂ : DmaSem sig} (hs₁ : SemLoc.dma s₁ = sem (csn t)) (hs₂ : SemLoc.dma s₂ = sem (crc t))
    {hsc : dst'.view.ref.isScScratch = false} {hsrc : src.view.WordExact} {hdst : dst'.view.WordExact}
    {hsem : DmaTarget.Typed .vmem (.dma s₂) (.remote (Dev.tc d : Thread nD τ) dst' (.dma s₁) hsc)}
    {α : Type} {kont : PUnit → Prog (TpuEff nD τ sig (Elt F) Λ₀ .tc) α} {Q : α → sProp 𝕄} :
    iprop(HI m ρ K ∗ Todo c p ∗ Poss c w ∗ Sh m ρ c (fl c t) n false ∗ free (chord c) (chM t))
      ⊢ iprop(((Todo c (p + 1) ∗ Poss c w ∗ Sh m ρ c (fl c t) n true ∗ Cc c t) -∗ WP c (kont ⟨⟩) Q)
          -∗ WP c (.op (.enqueueDma src (.remote (Dev.tc d : Thread nD τ) dst' (.dma s₁) hsc) (.dma s₂) hsrc hdst hsem) kont) Q) := by
  subst hsr hds hn
  unfold okChord at ok
  simp only [Bool.and_eq_true, decide_eq_true_eq] at ok
  obtain ⟨hi, hw⟩ := ok
  iintro ⟨#HH, HT, HP, HS, HY⟩ Hk
  ihave HS' := (Sh_lend m ρ c (fl c t) (t.val / 2 + 1)) $$ HS
  icases HS' with ⟨HL, HR⟩
  iapply (wp_put m ρ K c p w (iChord t) (csn t) 0 hi rfl (Finset.mem_singleton_self _) (show 0 < 1 from Nat.one_pos) (Finset.mem_singleton_self _) (show 0 < 1 from Nat.one_pos) hw
    (show d = tgt (crc t) 0 c from hd) hs₁ hs₂ ((credit_ch t).trans (need_csn t).symm) (need_csn t).symm (need_csn t).symm
    (X := Xc m ρ (fl c t) (t.val / 2 + 1) c) (q := fullShare.right.left) (Fr := iprop(emp)) .rfl
    (by
      show _ ⊢ owns (chord c : Thread nD τ) (chM t) fullShare (Xb m ρ (bCh (chord c) t).1 (bCh (chord c) t).2)
      unfold bCh
      rw [chord_chord]
      iintro ⟨H, -⟩; iexact H)) $$ [HT HP HL HY]
  · isplitr; · iexact HH
    isplitl [HT]; · iexact HT
    isplitl [HP]; · iexact HP
    isplitl [HL]; · iexact HL
    isplitl [HY]; · iexact HY
    isplitr; · iempintro
    iapply (HI_reached m ρ K _ (crc t)); iexact HH
  iintro ⟨HT, HP, HC⟩
  iapply Hk
  isplitl [HT]; · iexact HT
  isplitl [HP]; · iexact HP
  isplitl [HR]; · iexact HR
  iexact HC

/-- The two chord copies of iteration `h`. -/
theorem wp_chords (c : Dev nD) (p w h : ℕ) (h4 : h < 4) (ok : okChord p w (tA h) = true) (ok' : okChord (p + 1) w (tB h) = true)
    {d d' : Dev nD} (hd : d = chord c) (hd' : d' = chord c) {src src' dst₁ dst₂ : Memref sig .tc .vmem S128x4096 .bf16}
    (hsr : src = slotM (fl c (tA h)) (sl (h + 1))) (hsr' : src' = slotM (fl c (tB h)) (sl (h + 1))) (hds : dst₁ = chM (tA h)) (hds' : dst₂ = chM (tB h))
    {s₁ s₂ s₃ s₄ : DmaSem sig} (hs₁ : SemLoc.dma s₁ = sem (csn (tA h))) (hs₂ : SemLoc.dma s₂ = sem (crc (tA h)))
    (hs₃ : SemLoc.dma s₃ = sem (csn (tB h))) (hs₄ : SemLoc.dma s₄ = sem (crc (tB h)))
    {hsc : dst₁.view.ref.isScScratch = false} {hsrc : src.view.WordExact} {hdst : dst₁.view.WordExact}
    {hsem : DmaTarget.Typed .vmem (.dma s₂) (.remote (Dev.tc d : Thread nD τ) dst₁ (.dma s₁) hsc)}
    {hsc' : dst₂.view.ref.isScScratch = false} {hsrc' : src'.view.WordExact} {hdst' : dst₂.view.WordExact}
    {hsem' : DmaTarget.Typed .vmem (.dma s₄) (.remote (Dev.tc d' : Thread nD τ) dst₂ (.dma s₃) hsc')}
    {α : Type} {kont : PUnit → Prog (TpuEff nD τ sig (Elt F) Λ₀ .tc) α} {Q : α → sProp 𝕄} :
    iprop(HI m ρ K ∗ Todo c p ∗ Poss c w ∗ Sh4 m ρ c (h + 1) none4 ∗ free (chord c) (chM (tA h)) ∗ free (chord c) (chM (tB h)))
      ⊢ iprop(((Todo c (p + 2) ∗ Poss c w ∗ Sh4 m ρ c (h + 1) (lent c h) ∗ Cc c (tA h) ∗ Cc c (tB h)) -∗ WP c (kont ⟨⟩) Q)
          -∗ WP c (.op (.enqueueDma src (.remote (Dev.tc d : Thread nD τ) dst₁ (.dma s₁) hsc) (.dma s₂) hsrc hdst hsem) fun _ =>
              .op (.enqueueDma src' (.remote (Dev.tc d' : Thread nD τ) dst₂ (.dma s₃) hsc') (.dma s₄) hsrc' hdst' hsem') kont) Q) := by
  have hnA : (tA h).val / 2 + 1 = h + 1 := by show 2 * h % 8 / 2 + 1 = h + 1; omega
  have hnB : (tB h).val / 2 + 1 = h + 1 := by show (2 * h + 1) % 8 / 2 + 1 = h + 1; omega
  unfold Sh4 none4
  have hfl := fl_cases c ⟨h, h4⟩
  change (fl c (tA h) = 2 ∧ fl c (tB h) = 3) ∨ (fl c (tA h) = 0 ∧ fl c (tB h) = 1) at hfl
  iintro ⟨#HH, HT, HP, ⟨H0, H1, H2, H3⟩, HA, HB⟩ Hk
  rcases hfl with ⟨hA, hB⟩ | ⟨hA, hB⟩
  · have e0 : lent c h 0 = false := by unfold lent; rw [hA, hB]; rfl
    have e1 : lent c h 1 = false := by unfold lent; rw [hA, hB]; rfl
    have e2 : lent c h 2 = true := by unfold lent; rw [hA, hB]; rfl
    have e3 : lent c h 3 = true := by unfold lent; rw [hA, hB]; rfl
    rw [e0, e1, e2, e3]
    iapply (wp_chord m ρ K c p w (tA h) (h + 1) ok hnA hd hsr hds hs₁ hs₂) $$ [HT HP H2 HA]
    · rw [hA]
      isplitr; · iexact HH
      isplitl [HT]; · iexact HT
      isplitl [HP]; · iexact HP
      isplitl [H2]; · iexact H2
      iexact HA
    rw [hA]
    iintro ⟨HT, HP, H2, HCA⟩
    iapply (wp_chord m ρ K c (p + 1) w (tB h) (h + 1) ok' hnB hd' hsr' hds' hs₃ hs₄) $$ [HT HP H3 HB]
    · rw [hB]
      isplitr; · iexact HH
      isplitl [HT]; · iexact HT
      isplitl [HP]; · iexact HP
      isplitl [H3]; · iexact H3
      iexact HB
    rw [hB]
    iintro ⟨HT, HP, H3, HCB⟩
    iapply Hk
    isplitl [HT]; · iexact HT
    isplitl [HP]; · iexact HP
    isplitr [HCA HCB]
    · isplitl [H0]; · iexact H0
      isplitl [H1]; · iexact H1
      isplitl [H2]; · iexact H2
      iexact H3
    isplitl [HCA]; · iexact HCA
    iexact HCB
  · have e0 : lent c h 0 = true := by unfold lent; rw [hA, hB]; rfl
    have e1 : lent c h 1 = true := by unfold lent; rw [hA, hB]; rfl
    have e2 : lent c h 2 = false := by unfold lent; rw [hA, hB]; rfl
    have e3 : lent c h 3 = false := by unfold lent; rw [hA, hB]; rfl
    rw [e0, e1, e2, e3]
    iapply (wp_chord m ρ K c p w (tA h) (h + 1) ok hnA hd hsr hds hs₁ hs₂) $$ [HT HP H0 HA]
    · rw [hA]
      isplitr; · iexact HH
      isplitl [HT]; · iexact HT
      isplitl [HP]; · iexact HP
      isplitl [H0]; · iexact H0
      iexact HA
    rw [hA]
    iintro ⟨HT, HP, H0, HCA⟩
    iapply (wp_chord m ρ K c (p + 1) w (tB h) (h + 1) ok' hnB hd' hsr' hds' hs₃ hs₄) $$ [HT HP H1 HB]
    · rw [hB]
      isplitr; · iexact HH
      isplitl [HT]; · iexact HT
      isplitl [HP]; · iexact HP
      isplitl [H1]; · iexact H1
      iexact HB
    rw [hB]
    iintro ⟨HT, HP, H1, HCB⟩
    iapply Hk
    isplitl [HT]; · iexact HT
    isplitl [HP]; · iexact HP
    isplitr [HCA HCB]
    · isplitl [H0]; · iexact H0
      isplitl [H1]; · iexact H1
      isplitl [H2]; · iexact H2
      iexact H3
    isplitl [HCA]; · iexact HCA
    iexact HCB

/-- What a chord copy's send cell hands back makes the slot's kept part whole again. -/
theorem Sh_home (c : Dev nD) (t : Fin 8) (n : ℕ) (hn : t.val / 2 + 1 = n) (f : Fin 4) (hf : fl c t = f) :
    iprop(got m ρ c (csn t) 0 ∗ Sh m ρ c f n true) ⊢ (Sh m ρ c f n false : sProp 𝕄) := by
  subst hn hf
  exact halves_join (F := F) c (slotM (fl c t) (sl (t.val / 2 + 1))) fullShare.right (Xc m ρ (fl c t) (t.val / 2 + 1) c)

/-- The waits for the two chord copies of iteration `h` to have left. -/
theorem wp_csns (c : Dev nD) (p w h : ℕ) (h4 : h < 4) (ok : okW w (csn (tA h)) 0 p = true) (ok' : okW (w + 1) (csn (tB h)) 0 p = true)
    {w₁ w₂ w₃ w₄ : Memref sig .tc .vmem S128x4096 .bf16} (hw₂ : w₂.view.dmaCredit = Nblk) (hw₄ : w₄.view.dmaCredit = Nblk)
    {s₁ s₂ : DmaSem sig} (hs₁ : SemLoc.dma s₁ = sem (csn (tA h))) (hs₂ : SemLoc.dma s₂ = sem (csn (tB h)))
    {e₁ : w₁.view.WordExact} {e₂ : w₂.view.WordExact} {e₃ : w₃.view.WordExact} {e₄ : w₄.view.WordExact}
    {α : Type} {kont : PUnit → Prog (TpuEff nD τ sig (Elt F) Λ₀ .tc) α} {Q : α → sProp 𝕄} :
    iprop(HI m ρ K ∗ Todo c p ∗ Poss c w ∗ Sh4 m ρ c (h + 1) (lent c h) ∗ Cc c (tA h) ∗ Cc c (tB h))
      ⊢ iprop(((Todo c p ∗ Poss c (w + 2) ∗ Sh4 m ρ c (h + 1) none4) -∗ WP c (kont ⟨⟩) Q)
          -∗ WP c (.op (.waitDma2 s₁ w₁ w₂ e₁ e₂) fun _ => .op (.waitDma2 s₂ w₃ w₄ e₃ e₄) kont) Q) := by
  have hnA : (tA h).val / 2 + 1 = h + 1 := by show 2 * h % 8 / 2 + 1 = h + 1; omega
  have hnB : (tB h).val / 2 + 1 = h + 1 := by show (2 * h + 1) % 8 / 2 + 1 = h + 1; omega
  have hfl := fl_cases c ⟨h, h4⟩
  change (fl c (tA h) = 2 ∧ fl c (tB h) = 3) ∨ (fl c (tA h) = 0 ∧ fl c (tB h) = 1) at hfl
  iintro ⟨#HH, HT, HP, HS, HA, HB⟩ Hk
  iapply (wp_owait m ρ K c w p (csn (tA h)) 0 ok hs₁ (hw₂.trans (need_csn (tA h)).symm)) $$ [HT HP HA]
  · isplitr; · iexact HH
    isplitl [HT]; · iexact HT
    isplitl [HP]; · iexact HP
    iexact HA
  iintro ⟨HT, HP, HGA⟩
  iapply (wp_owait m ρ K c (w + 1) p (csn (tB h)) 0 ok' hs₂ (hw₄.trans (need_csn (tB h)).symm)) $$ [HT HP HB]
  · isplitr; · iexact HH
    isplitl [HT]; · iexact HT
    isplitl [HP]; · iexact HP
    iexact HB
  iintro ⟨HT, HP, HGB⟩
  iapply Hk
  isplitl [HT]; · iexact HT
  isplitl [HP]; · iexact HP
  unfold Sh4 none4
  icases HS with ⟨H0, H1, H2, H3⟩
  rcases hfl with ⟨hA, hB⟩ | ⟨hA, hB⟩
  · have e0 : lent c h 0 = false := by unfold lent; rw [hA, hB]; rfl
    have e1 : lent c h 1 = false := by unfold lent; rw [hA, hB]; rfl
    have e2 : lent c h 2 = true := by unfold lent; rw [hA, hB]; rfl
    have e3 : lent c h 3 = true := by unfold lent; rw [hA, hB]; rfl
    rw [e0, e1, e2, e3]
    isplitl [H0]; · iexact H0
    isplitl [H1]; · iexact H1
    isplitl [H2 HGA]
    · iapply (Sh_home m ρ c (tA h) (h + 1) hnA 2 hA)
      isplitl [HGA]; · iexact HGA
      iexact H2
    iapply (Sh_home m ρ c (tB h) (h + 1) hnB 3 hB)
    isplitl [HGB]; · iexact HGB
    iexact H3
  · have e0 : lent c h 0 = true := by unfold lent; rw [hA, hB]; rfl
    have e1 : lent c h 1 = true := by unfold lent; rw [hA, hB]; rfl
    have e2 : lent c h 2 = false := by unfold lent; rw [hA, hB]; rfl
    have e3 : lent c h 3 = false := by unfold lent; rw [hA, hB]; rfl
    rw [e0, e1, e2, e3]
    isplitl [H0 HGA]
    · iapply (Sh_home m ρ c (tA h) (h + 1) hnA 0 hA)
      isplitl [HGA]; · iexact HGA
      iexact H0
    isplitl [H1 HGB]
    · iapply (Sh_home m ρ c (tB h) (h + 1) hnB 1 hB)
      isplitl [HGB]; · iexact HGB
      iexact H1
    isplitl [H2]; · iexact H2
    iexact H3

/-! ## A chord block that has landed -/

/-- The wait for a chord copy and the product of its block. -/
theorem wp_crc (c : Dev nD) (p w : ℕ) (t : Fin 8) (ok : okW w (crc t) 0 p = true) (l : List (Dev nD × Fin 4))
    {w₁ w₂ : Memref sig .tc .vmem S128x4096 .bf16} (hw₂ : w₂.view.dmaCredit = Nblk) {s₁ : DmaSem sig} (hs₁ : SemLoc.dma s₁ = sem (crc t))
    {e₁ : w₁.view.WordExact} {e₂ : w₂.view.WordExact} {r : Rect S8x128x4096} (hr : r = chR t) (hc : S128x4096.ShapeCasts r.shape)
    {off : Fin 2 → ℕ} {inb inb' : ∀ a, off a + S128x1024.size a ≤ S4096x1024.size a} (hoff : off = ![512 * (bCh c t).1.val + 128 * (bCh c t).2.val, 0])
    {V : (r.shape.Idx → Elt F .bf16) → S128x1024.Idx → Elt F .f32} (hV : ∀ v, V v = k0_pay12 (Wb m c) (shapeCast S128x4096 v hc.symm))
    {hl : (coM : Memref sig .tc .vmem S8x128x4096 .bf16).view.LoadsAt r.toLoadRect} {hl' : (oM : Memref sig .tc .vmem S4096x1024 .f32).view.LoadsAt (Rect.unit (s := S4096x1024) off S128x1024.size inb').toLoadRect}
    {hx : ((oM : Memref sig .tc .vmem S4096x1024 .f32).access (Rect.unit (s := S4096x1024) off S128x1024.size inb)).Stores Finset.univ}
    {hm : (Finset.univ : Finset (Rect.unit (s := S4096x1024) off S128x1024.size inb).shape.Idx) = Finset.univ ∨ ∀ a, (Rect.unit (s := S4096x1024) off S128x1024.size inb).stride a = 1}
    {α : Type} {kont : (r.shape.Idx → Elt F .bf16) → Prog (TpuEff nD τ sig (Elt F) Λ₀ .tc) α} {Q : α → sProp 𝕄} :
    iprop(HI m ρ K ∗ Todo c p ∗ Poss c w ∗ Out m ρ c l)
      ⊢ iprop(((Todo c p ∗ Poss c (w + 1) ∗ free c (chM t) ∗ Out m ρ c (bCh c t :: l)) -∗ WP c (kont (shapeCast r.shape (Xb m ρ (bCh c t).1 (bCh c t).2) hc)) Q)
          -∗ WP c (.op (.waitDma2 s₁ w₁ w₂ e₁ e₂) fun _ => .op (.load (cs := .vmem) coM r.toLoadRect hl) fun v =>
              .op (.load (cs := .vmem) oM (Rect.unit (s := S4096x1024) off S128x1024.size inb').toLoadRect hl') fun _ =>
              .op (.store (cs := .vmem) oM (Rect.unit (s := S4096x1024) off S128x1024.size inb) (V v) Finset.univ hx hm) fun _ => kont v) Q) := by
  subst hr
  iintro ⟨#HH, HT, HP, HO⟩ Hk
  iapply (wp_dwait m ρ K c w p (crc t) 0 ok rfl hs₁ (hw₂.trans (need_crc t).symm)) $$ [HT HP]
  · isplitr; · iexact HH
    isplitl [HT]; · iexact HT
    iexact HP
  iintro ⟨HT, HP, HG⟩
  iapply (wp_dot m ρ c l (bCh c t) (M := coM) (r := chR t) (hr := fun _ => rfl) (hq := squeezes_S1x128x4096_S128x4096) hc (q := fullShare)
    (X := Xb m ρ (bCh c t).1 (bCh c t).2) rfl hoff hV rfl) $$ [HG HO]
  · isplitl [HG]
    · iapply (show got m ρ c (crc t) 0 ⊢ owns (c : Thread nD τ) (chM t) fullShare (Xb m ρ (bCh c t).1 (bCh c t).2) from .rfl); iexact HG
    iexact HO
  iintro ⟨HG, HO⟩
  iapply Hk
  isplitl [HT]; · iexact HT
  isplitl [HP]; · iexact HP
  isplitl [HG]; · iapply (free_intro (F := F) c (chM t)); iexact HG
  iexact HO

/-! ## The last hop -/

/-- The last hop has left and landed: both slots of the flow are at home. -/
theorem wp_last (c : Dev nD) (p w : ℕ) (f : Fin 4) (ok₁ : okW w (snd f (sl 4)) 2 p = true) (ok₂ : okW (w + 1) (rcv f (sl 5)) 2 p = true)
    {w₁ w₂ w₃ w₄ : Memref sig .tc .vmem S128x4096 .bf16} (hw₂ : w₂.view.dmaCredit = Nblk) (hw₄ : w₄.view.dmaCredit = Nblk)
    {s₃ s₄ : DmaSem sig} (hs₃ : SemLoc.dma s₃ = sem (snd f (sl 4))) (hs₄ : SemLoc.dma s₄ = sem (rcv f (sl 5)))
    {e₁ : w₁.view.WordExact} {e₂ : w₂.view.WordExact} {e₃ : w₃.view.WordExact} {e₄ : w₄.view.WordExact}
    {α : Type} {kont : PUnit → Prog (TpuEff nD τ sig (Elt F) Λ₀ .tc) α} {Q : α → sProp 𝕄} :
    iprop(HI m ρ K ∗ Todo c p ∗ Poss c w ∗ Cs c f 4)
      ⊢ iprop(((Todo c p ∗ Poss c (w + 2) ∗ owns (c : Thread nD τ) (slotM f (sl 4)) fullShare.left (Xc m ρ f 4 c)
              ∗ owns (c : Thread nD τ) (slotM f (sl 5)) fullShare (Xc m ρ f 5 c)) -∗ WP c (kont ⟨⟩) Q)
          -∗ WP c (.op (.waitDma2 s₃ w₁ w₂ e₁ e₂) fun _ => .op (.waitDma2 s₄ w₃ w₄ e₃ e₄) kont) Q) := by
  iintro ⟨#HH, HT, HP, HC⟩ Hk
  iapply (wp_owait m ρ K c w p (snd f (sl 4)) 2 ok₁ hs₃ (hw₂.trans (need_snd f (sl 4)).symm)) $$ [HT HP HC]
  · isplitr; · iexact HH
    isplitl [HT]; · iexact HT
    isplitl [HP]; · iexact HP
    iexact HC
  iintro ⟨HT, HP, HG⟩
  iapply (wp_dwait m ρ K c (w + 1) p (rcv f (sl 5)) 2 ok₂ rfl hs₄ (hw₄.trans (need_rcv f (sl 5)).symm)) $$ [HT HP]
  · isplitr; · iexact HH
    isplitl [HT]; · iexact HT
    iexact HP
  iintro ⟨HT, HP, HV⟩
  ihave HV' := (show got m ρ c (rcv f (sl 5)) 2 ⊢ iprop(owns (c : Thread nD τ) (slotM f (sl 5)) fullShare (Xc m ρ f 5 c)
        ∗ reached ER (cell (up f c) (cap f)) 4 ∗ chain f 4 (org f (Fin.ofNat 8 5) c)) from .rfl) $$ HV
  icases HV' with ⟨HV, -, -⟩
  iapply Hk
  isplitl [HT]; · iexact HT
  isplitl [HP]; · iexact HP
  isplitl [HG]
  · iapply (show got m ρ c (snd f (sl 4)) 2 ⊢ owns (c : Thread nD τ) (slotM f (sl 4)) fullShare.left (Xc m ρ f 4 c) from .rfl); iexact HG
  iexact HV

end Cert.KernelIdealProof
-- ==== Proof.I.W.lean ====
/-
# `W`: the weights in bf16, and what passes between iterations
-/
module

public import proofs.«01_k».proof.Proof.I.Blocks

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

variable (m : (ℓ : Loc nD τ sig) → Buf (Elt F) ℓ) (ρ : Dev nD → PrngReg) (K : Dev nD × CK → ℕ)

/-! ## The weights in bf16 -/

/-- The bf16 copy of the weights, its first `n` row blocks filled. -/
def Wst (c : Dev nD) (n : ℕ) : sProp 𝕄 :=
  iprop(∃ X, ⌜∀ i : S4096x1024.Idx, (i 0).val < 1024 * n → X i = Wb m c i⌝ ∗ owns (c : Thread nD τ) wbM fullShare X)

theorem Wst_zero (c : Dev nD) (X : S4096x1024.Idx → Elt F .bf16) : (owns (c : Thread nD τ) wbM fullShare X : sProp 𝕄) ⊢ Wst m c 0 := by
  unfold Wst
  iintro H
  iexists X
  isplitr
  · ipureintro; intro i hi; exact absurd hi (by rw [Nat.mul_zero]; exact Nat.not_lt_zero _)
  iexact H

theorem Wb_block (c : Dev nD) (i : Fin 4) (j : S1024x1024.Idx) : Wb m c ((wR i).emb j) = truncf .bf16 (wblk m c i) bitsLt_bf16_f32 j := rfl

/-- A row block of the weights goes through the staging buffer into the bf16 copy. -/
theorem wp_wblk (c : Dev nD) (n : Fin 4) {k k' : ℕ} (hk : n.val = k) (hk' : k + 1 = k') {r : Rect S1024x1024}
    {rw' : Rect S4096x1024} (hrw : rw' = wR n)
    {V : (r.shape.Idx → Elt F .f32) → rw'.shape.Idx → Elt F .bf16} (hV : HEq (V fun i => wblk m c n (r.toLoadRect.idx i)) (truncf .bf16 (wblk m c n) bitsLt_bf16_f32))
    {hl : (wsM : Memref sig .tc .vmem S1024x1024 .f32).view.LoadsAt r.toLoadRect} {rd : LoadRect S4096x1024} {hl' : (wbM : Memref sig .tc .vmem S4096x1024 .bf16).view.LoadsAt rd}
    {hx : ((wbM : Memref sig .tc .vmem S4096x1024 .bf16).access rw').Stores Finset.univ}
    {hm : (Finset.univ : Finset rw'.shape.Idx) = Finset.univ ∨ ∀ a, rw'.stride a = 1}
    {α : Type} {kont : Prog (TpuEff nD τ sig (Elt F) Λ₀ .tc) α} {Q : α → sProp 𝕄} :
    iprop(owns (c : Thread nD τ) wsM fullShare (wblk m c n) ∗ Wst m c k)
      ⊢ iprop(((free c wsM ∗ Wst m c k') -∗ WP c kont Q)
          -∗ WP c (.op (.load (cs := .vmem) wsM r.toLoadRect hl) fun v => .op (.load (cs := .vmem) wbM rd hl') fun _ =>
              .op (.store (cs := .vmem) wbM rw' (V v) Finset.univ hx hm) fun _ => kont) Q) := by
  subst hrw hk hk'
  unfold Wst
  iintro ⟨HS, %X, %hX, HW⟩ Hk
  iapply (wp_ld c (M := wsM)) $$ HS
  iintro HS
  iapply (wp_ld c (M := wbM)) $$ HW
  iintro HW
  iapply (wp_st c (M := wbM)) $$ HW
  iintro HW
  iapply Hk
  isplitl [HS]; · iapply (free_intro (F := F) c wsM); iexact HS
  iexists _
  isplitr
  rotate_left
  · iexact HW
  · ipureintro
    intro i hi
    by_cases h : i ∈ (wR n).set
    · obtain ⟨j, rfl⟩ := (wR n).exists_idx_of_mem h
      rw [eq_of_heq hV]
      exact (Rect.overlay_emb _ _ _ _).trans (Wb_block m c n j).symm
    · rw [Rect.overlay_of_not_mem _ _ _ h]
      apply hX
      by_contra hlt
      apply h
      rw [Rect.mem_set_unit]
      intro a
      fin_cases a
      · show 1024 * n.val ≤ (i 0).val ∧ (i 0).val < 1024 * n.val + 1024
        omega
      · exact ⟨Nat.zero_le _, by show (i 1).val < 0 + 1024; have := (i 1).isLt; change (i 1).val < 1024 at this; omega⟩

/-- All four row blocks stored, the whole copy is loaded. -/
theorem wp_wload (c : Dev nD) {r : Rect S4096x1024} (hr : r = Rect.unit (s := S4096x1024) ![0, 0] S4096x1024.size inb_S4096x1024_S4096x1024_0_0)
    {hl : (wbM : Memref sig .tc .vmem S4096x1024 .bf16).view.LoadsAt r.toLoadRect}
    {α : Type} {kont : (r.shape.Idx → Elt F .bf16) → Prog (TpuEff nD τ sig (Elt F) Λ₀ .tc) α} {Q : α → sProp 𝕄} :
    (Wst m c 4 : sProp 𝕄)
      ⊢ iprop((owns (c : Thread nD τ) wbM fullShare (Wb m c) -∗ WP c (kont fun i => Wb m c (r.toLoadRect.idx i)) Q)
          -∗ WP c (.op (.load (cs := .vmem) wbM r.toLoadRect hl) kont) Q) := by
  unfold Wst
  iintro ⟨%X, %hX, HW⟩ Hk
  have e : X = Wb m c := funext fun i => hX i (by have := (i 0).isLt; change (i 0).val < 4096 at this; omega)
  subst e
  iapply (wp_ld c (M := wbM)) $$ HW
  iintro HW
  iapply Hk
  iexact HW

theorem whole_idx_big (X : S4096x1024.Idx → Elt F .bf16) :
    (fun i => X ((Rect.unit (s := S4096x1024) ![0, 0] S4096x1024.size inb_S4096x1024_S4096x1024_0_0).toLoadRect.idx i)) = X := by
  funext i
  congr 1
  funext a
  apply Fin.ext
  fin_cases a
  · show 0 + 1 * (i 0).val = (i 0).val; omega
  · show 0 + 1 * (i 1).val = (i 1).val; omega

theorem whole_idx_blk (X : S1024x1024.Idx → Elt F .f32) :
    (fun i => X ((Rect.unit (s := S1024x1024) ![0, 0] S1024x1024.size inb_S1024x1024_S1024x1024_0_0).toLoadRect.idx i)) = X := by
  funext i
  congr 1
  funext a
  apply Fin.ext
  fin_cases a
  · show 0 + 1 * (i 0).val = (i 0).val; omega
  · show 0 + 1 * (i 1).val = (i 1).val; omega

/-! ## What passes from one iteration to the next -/

/-- The send credits of the four flows' hops `n`. -/
def Cs4 (c : Dev nD) (n : ℕ) : sProp 𝕄 := iprop(Cs c 0 n ∗ Cs c 1 n ∗ Cs c 2 n ∗ Cs c 3 n)
/-- The chord slots of the neighbour across not yet written to. -/
def Chf (c : Dev nD) (h : ℕ) : sProp 𝕄 := bigSepL (([0, 1, 2, 3, 4, 5, 6, 7] : List (Fin 8)).drop (2 * h)) fun t => free (F := F) (chord c) (chM t)
/-- The free rows of the amax table that hop `h` leaves. -/
def Heads (c : Dev nD) (h : ℕ) : sProp 𝕄 := iprop(headR 0 h c ∗ headR 2 h c)

theorem Chf_step (c : Dev nD) (h : ℕ) (h4 : h < 4) : Chf c h ⊢ iprop(free (F := F) (chord c) (chM (tA h)) ∗ free (chord c) (chM (tB h)) ∗ Chf c (h + 1)) := by
  have key : ∀ h : Fin 4, ([0, 1, 2, 3, 4, 5, 6, 7] : List (Fin 8)).drop (2 * h.val)
      = tA h.val :: tB h.val :: ([0, 1, 2, 3, 4, 5, 6, 7] : List (Fin 8)).drop (2 * (h.val + 1)) := by decide
  have := key ⟨h, h4⟩
  unfold Chf
  change ([0, 1, 2, 3, 4, 5, 6, 7] : List (Fin 8)).drop (2 * h) = _ at this
  rw [this, bsl_cons, bsl_cons]

/-- Everything between iteration `h - 1` and iteration `h`. -/
def Mid (c : Dev nD) (p w h : ℕ) (l : List (Dev nD × Fin 4)) (β : Fin 4 → Bool) : sProp 𝕄 :=
  iprop(Todo c p ∗ Poss c w ∗ Sh4 m ρ c h β ∗ Cs4 c h ∗ Chf c h ∗ Out m ρ c l)

theorem wp_val (c : Dev nD) {α β : Type} {kont : β → Prog (TpuEff nD τ sig (Elt F) Λ₀ .tc) α} {Q : α → sProp 𝕄} {g g' : β} (h : g = g') :
    (WP c (kont g') Q : sProp 𝕄) ⊢ WP c (kont g) Q := by rw [h]

/-- The product of the block that flow `f` brought with its hop `n - 1`. -/
theorem wp_dotF (c : Dev nD) (l : List (Dev nD × Fin 4)) (f : Fin 4) (n : ℕ) {q : PosShare TreeShare}
    {off : Fin 2 → ℕ} {inb inb' : ∀ a, off a + S128x1024.size a ≤ S4096x1024.size a} (hoff : off = ![512 * (bFl c f n).1.val + 128 * (bFl c f n).2.val, 0])
    {V : (S1x1x128x4096.Idx → Elt F .bf16) → S128x1024.Idx → Elt F .f32} (hV : ∀ v, V v = k0_pay12 (Wb m c) (shapeCast S128x4096 v shapeCasts_S128x4096_S1x1x128x4096.symm))
    {hl : (flM : Memref sig .tc .vmem S4x2x128x4096 .bf16).view.LoadsAt (slR f (sl n)).toLoadRect} {hl' : (oM : Memref sig .tc .vmem S4096x1024 .f32).view.LoadsAt (Rect.unit (s := S4096x1024) off S128x1024.size inb').toLoadRect}
    {hx : ((oM : Memref sig .tc .vmem S4096x1024 .f32).access (Rect.unit (s := S4096x1024) off S128x1024.size inb)).Stores Finset.univ}
    {hm : (Finset.univ : Finset (Rect.unit (s := S4096x1024) off S128x1024.size inb).shape.Idx) = Finset.univ ∨ ∀ a, (Rect.unit (s := S4096x1024) off S128x1024.size inb).stride a = 1}
    {α : Type} {kont : (S1x1x128x4096.Idx → Elt F .bf16) → Prog (TpuEff nD τ sig (Elt F) Λ₀ .tc) α} {Q : α → sProp 𝕄} :
    iprop(owns (c : Thread nD τ) (slotM f (sl n)) q (Xc m ρ f n c) ∗ Out m ρ c l)
      ⊢ iprop(((owns (c : Thread nD τ) (slotM f (sl n)) q (Xc m ρ f n c) ∗ Out m ρ c (bFl c f n :: l))
              -∗ WP c (kont (shapeCast S1x1x128x4096 (Xc m ρ f n c) shapeCasts_S128x4096_S1x1x128x4096)) Q)
          -∗ WP c (.op (.load (cs := .vmem) flM (slR f (sl n)).toLoadRect hl) fun v =>
              .op (.load (cs := .vmem) oM (Rect.unit (s := S4096x1024) off S128x1024.size inb').toLoadRect hl') fun _ =>
              .op (.store (cs := .vmem) oM (Rect.unit (s := S4096x1024) off S128x1024.size inb) (V v) Finset.univ hx hm) fun _ => kont v) Q) :=
  wp_dot m ρ c l (bFl c f n) (M := flM) (r := slR f (sl n)) (hr := fun _ => rfl) (hq := squeezes_S1x1x128x4096_S128x4096)
    shapeCasts_S128x4096_S1x1x128x4096 rfl hoff hV rfl

/-- The product of the block that chord `t` brought. -/
theorem wp_crcF (c : Dev nD) (p w : ℕ) (t : Fin 8) (ok : okW w (crc t) 0 p = true) (l : List (Dev nD × Fin 4))
    {w₁ w₂ : Memref sig .tc .vmem S128x4096 .bf16} (hw₂ : w₂.view.dmaCredit = Nblk) {s₁ : DmaSem sig} (hs₁ : SemLoc.dma s₁ = sem (crc t))
    {e₁ : w₁.view.WordExact} {e₂ : w₂.view.WordExact}
    {off : Fin 2 → ℕ} {inb inb' : ∀ a, off a + S128x1024.size a ≤ S4096x1024.size a} (hoff : off = ![512 * (bCh c t).1.val + 128 * (bCh c t).2.val, 0])
    {V : (S1x128x4096.Idx → Elt F .bf16) → S128x1024.Idx → Elt F .f32} (hV : ∀ v, V v = k0_pay12 (Wb m c) (shapeCast S128x4096 v shapeCasts_S1x128x4096_S128x4096))
    {hl : (coM : Memref sig .tc .vmem S8x128x4096 .bf16).view.LoadsAt (chR t).toLoadRect} {hl' : (oM : Memref sig .tc .vmem S4096x1024 .f32).view.LoadsAt (Rect.unit (s := S4096x1024) off S128x1024.size inb').toLoadRect}
    {hx : ((oM : Memref sig .tc .vmem S4096x1024 .f32).access (Rect.unit (s := S4096x1024) off S128x1024.size inb)).Stores Finset.univ}
    {hm : (Finset.univ : Finset (Rect.unit (s := S4096x1024) off S128x1024.size inb).shape.Idx) = Finset.univ ∨ ∀ a, (Rect.unit (s := S4096x1024) off S128x1024.size inb).stride a = 1}
    {α : Type} {kont : (S1x128x4096.Idx → Elt F .bf16) → Prog (TpuEff nD τ sig (Elt F) Λ₀ .tc) α} {Q : α → sProp 𝕄} :
    iprop(HI m ρ K ∗ Todo c p ∗ Poss c w ∗ Out m ρ c l)
      ⊢ iprop(((Todo c p ∗ Poss c (w + 1) ∗ free c (chM t) ∗ Out m ρ c (bCh c t :: l))
              -∗ WP c (kont (shapeCast S1x128x4096 (Xb m ρ (bCh c t).1 (bCh c t).2) shapeCasts_S1x128x4096_S128x4096.symm)) Q)
          -∗ WP c (.op (.waitDma2 s₁ w₁ w₂ e₁ e₂) fun _ => .op (.load (cs := .vmem) coM (chR t).toLoadRect hl) fun v =>
              .op (.load (cs := .vmem) oM (Rect.unit (s := S4096x1024) off S128x1024.size inb').toLoadRect hl') fun _ =>
              .op (.store (cs := .vmem) oM (Rect.unit (s := S4096x1024) off S128x1024.size inb) (V v) Finset.univ hx hm) fun _ => kont v) Q) :=
  wp_crc m ρ K c p w t ok l hw₂ hs₁ (r := chR t) rfl shapeCasts_S1x128x4096_S128x4096.symm hoff hV

/-! ## The running maximum -/

theorem amx_nil (c : Dev nD) : amx m ρ c [] = Scalar.ofBits .f32 0#32 := rfl
theorem amx_cons (c : Dev nD) (p : Dev nD × Fin 4) (l : List (Dev nD × Fin 4)) : amx m ρ c (p :: l) = mx (amx m ρ c l) (Yb m ρ c p) := rfl
theorem blks_zero (c : Dev nD) : blks c 0 = [bFl c 3 1, bFl c 2 1, bFl c 1 1, bFl c 0 1, (c, 3), (c, 2), (c, 1), (c, 0)] := rfl
theorem blks_succ (c : Dev nD) (h : ℕ) : blks c (h + 1)
    = bCh c (tB h) :: bCh c (tA h) :: bFl c 3 (h + 2) :: bFl c 2 (h + 2) :: bFl c 1 (h + 2) :: bFl c 0 (h + 2) :: blks c h := rfl
theorem Yb_bFl (c : Dev nD) (f : Fin 4) (n : ℕ) : Yb m ρ c (bFl c f n) = k0_pay12 (Wb m c) (Xc m ρ f n c) := rfl
theorem Yb_own (c : Dev nD) (q : Fin 4) : Yb m ρ c (c, q) = k0_pay12 (Wb m c) (k0_pay11 fun i => xstg m ρ c ((xR q).toLoadRect.idx i)) := rfl
theorem Yb_bCh (c : Dev nD) (t : Fin 8) : Yb m ρ c (bCh c t) = k0_pay12 (Wb m c) (Xb m ρ (bCh c t).1 (bCh c t).2) := rfl

end Cert.KernelIdealProof
-- ==== Proof.I.Seg0.lean ====
/-
# `Seg0`: the prologue
-/
module

public import proofs.«01_k».proof.Proof.I.W

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

variable (K : Dev nD × CK → ℕ)

/-! ## The barrier and the weights' copies -/

/-- The three payments of the barrier: each neighbour gets this device's slots that it writes to first. -/
theorem pay_bar0 (c : Dev nD) : iprop(free (F := F) c (slotM 0 1) ∗ free c (slotM 1 1)) ⊢ pay m ρ (tgt bar 0 c) bar 0 0 := by
  have h : right (left c) = c := by revert c; decide
  show _ ⊢ iprop(free (F := F) (right (left c)) (slotM 0 1) ∗ free (right (left c)) (slotM 1 1))
  rw [h]
theorem pay_bar1 (c : Dev nD) : iprop(free (F := F) c (slotM 2 1) ∗ free c (slotM 3 1)) ⊢ pay m ρ (tgt bar 1 c) bar 0 1 := by
  have h : left (right c) = c := by revert c; decide
  show _ ⊢ iprop(free (F := F) (left (right c)) (slotM 2 1) ∗ free (left (right c)) (slotM 3 1))
  rw [h]
theorem pay_bar2 (c : Dev nD) : (bigSepL [0, 1, 2, 3, 4, 5, 6, 7] fun t => free (F := F) c (chM t)) ⊢ pay m ρ (tgt bar 2 c) bar 0 2 := by
  show _ ⊢ (bigSepL [0, 1, 2, 3, 4, 5, 6, 7] fun t => free (F := F) (chord (chord c)) (chM t) : sProp 𝕄)
  rw [chord_chord]

theorem got_bar (c : Dev nD) : (got m ρ c bar 0 : sProp 𝕄)
    ⊢ iprop((free (right c) (slotM 0 1) ∗ free (right c) (slotM 1 1)) ∗ (free (left c) (slotM 2 1) ∗ free (left c) (slotM 3 1)) ∗ Chf c 0) := .rfl

theorem got_wd (c : Dev nD) (i : Fin 4) : (got m ρ c wd i.val : sProp 𝕄) ⊢ owns (c : Thread nD τ) wsM fullShare (wblk m c i) := by
  have hmod : (Fin.ofNat 4 i.val : Fin 4) = i := Fin.ext (Nat.mod_eq_of_lt i.isLt)
  show iprop(owns (c : Thread nD τ) wsM fullShare (wblk m c (Fin.ofNat 4 i.val)) ∗ owns (c : Thread nD τ) (wsrc (Fin.ofNat 4 i.val)) fullShare.left (wblk m c (Fin.ofNat 4 i.val))) ⊢ _
  rw [hmod]
  iintro ⟨H, -⟩
  iexact H

/-- The wait for row block `i` of the weights. -/
theorem wp_wwait (c : Dev nD) (w p : ℕ) (i : Fin 4) (h : okW w wd i.val p = true)
    {sp' : Space} {sh' : Shape} {e' : EltTy} {s : DmaSem sig} {src : Memref sig .tc sp' sh' e'}
    {hsrc : src.view.WordExact} {hdst : (wsM : Memref sig .tc .vmem S1024x1024 .f32).view.WordExact} (hs : SemLoc.dma s = sem wd)
    {α : Type} {kont : PUnit → Prog (TpuEff nD τ sig (Elt F) Λ₀ .tc) α} {Q : α → sProp 𝕄} :
    iprop(HI m ρ K ∗ Todo c p ∗ Poss c w ∗ cred (tallyAt (cell c wd) i.val (need wd)))
      ⊢ iprop(((Todo c p ∗ Poss c (w + 1) ∗ owns (c : Thread nD τ) wsM fullShare (wblk m c i)) -∗ WP c (kont ⟨⟩) Q)
          -∗ WP c (.op (.waitDma2 s src wsM hsrc hdst) kont) Q) := by
  iintro ⟨#HH, HT, HP, HC⟩ Hk
  iapply (wp_owait m ρ K c w p wd i.val h hs (by rfl)) $$ [HT HP HC]
  · isplitr; · iexact HH
    isplitl [HT]; · iexact HT
    isplitl [HP]; · iexact HP
    iexact HC
  iintro ⟨HT, HP, HG⟩
  ihave HG := (got_wd m ρ c i) $$ HG
  iapply Hk
  isplitl [HT]; · iexact HT
  isplitl [HP]; · iexact HP
  iexact HG

/-- The device's own number. -/
theorem wp_dev (c : Dev nD) {α : Type} {kont : Dev nD → Prog (TpuEff nD τ sig (Elt F) Λ₀ .tc) α} {Q : α → sProp 𝕄} :
    (WP c (kont c) Q : sProp 𝕄) ⊢ WP c (.op .deviceId kont) Q :=
  Entails.of_eq (wp_deviceId 𝒱₀ (c : Thread nD τ) none Set.univ).symm

/-! ## The first hops -/

theorem Xc_zero (c : Dev nD) (f : Fin 4) : Xc m ρ f 0 c = k0_pay11 (fun i => xstg m ρ c ((xR f).toLoadRect.idx i)) := by
  unfold Xc
  rw [show (Fin.ofNat 8 0 : Fin 8) = 0 from rfl, org_zero]
  rfl

/-- Slot 0 of a flow is filled. -/
theorem wp_fill (c : Dev nD) (f : Fin 4) {V : S1x1x128x4096.Idx → Elt F .bf16}
    {hx : ((flM : Memref sig .tc .vmem S4x2x128x4096 .bf16).access (slR f (sl 0))).Stores Finset.univ}
    {hm : (Finset.univ : Finset (slR f (sl 0)).shape.Idx) = Finset.univ ∨ ∀ a, (slR f (sl 0)).stride a = 1}
    {α : Type} {kont : PUnit → Prog (TpuEff nD τ sig (Elt F) Λ₀ .tc) α} {Q : α → sProp 𝕄} :
    (free c (slotM f (sl 0)) : sProp 𝕄)
      ⊢ iprop((owns (c : Thread nD τ) (slotM f (sl 0)) fullShare (shapeCast S128x4096 V shapeCasts_S128x4096_S1x1x128x4096.symm) -∗ WP c (kont ⟨⟩) Q)
          -∗ WP c (.op (.store (cs := .vmem) flM (slR f (sl 0)) V Finset.univ hx hm) kont) Q) :=
  wp_slot_st c (M := flM) (r := slR f (sl 0)) (hr := fun _ => rfl) (hq := squeezes_S1x1x128x4096_S128x4096) shapeCasts_S128x4096_S1x1x128x4096.symm

/-- A quarter of the device's own rows goes into slot 0 of its flow, and the flow's first hop starts. -/
theorem wp_start (c : Dev nD) (p w : ℕ) (f : Fin 4) (ok : okHop p w f 0 = true) {r : Rect S512x4096} (hr : r = xR f)
    {V : (r.shape.Idx → Elt F .f32) → S1x1x128x4096.Idx → Elt F .bf16}
    (hV : ∀ v : Vec F S512x4096 .f32, V (fun i => v (r.toLoadRect.idx i)) = shapeCast S1x1x128x4096 (k0_pay11 fun i => v ((xR f).toLoadRect.idx i)) shapeCasts_S128x4096_S1x1x128x4096)
    {d : Dev nD} (hd : d = dst f c) {src dst' : Memref sig .tc .vmem S128x4096 .bf16} (hsr : src = slotM f (sl 0)) (hds : dst' = slotM f (sl 1))
    {s₁ s₂ : DmaSem sig} (hs₁ : SemLoc.dma s₁ = sem (snd f (sl 0))) (hs₂ : SemLoc.dma s₂ = sem (rcv f (sl 1)))
    {hl : (xM : Memref sig .tc .vmem S512x4096 .f32).view.LoadsAt r.toLoadRect} {hl' : (flM : Memref sig .tc .vmem S4x2x128x4096 .bf16).view.LoadsAt (slR f (sl 0)).toLoadRect}
    {hx : ((flM : Memref sig .tc .vmem S4x2x128x4096 .bf16).access (slR f (sl 0))).Stores Finset.univ}
    {hm : (Finset.univ : Finset (slR f (sl 0)).shape.Idx) = Finset.univ ∨ ∀ a, (slR f (sl 0)).stride a = 1}
    {hsc : dst'.view.ref.isScScratch = false} {hsrc : src.view.WordExact} {hdst : dst'.view.WordExact}
    {hsem : DmaTarget.Typed .vmem (.dma s₂) (.remote (Dev.tc d : Thread nD τ) dst' (.dma s₁) hsc)}
    {α : Type} {kont : PUnit → Prog (TpuEff nD τ sig (Elt F) Λ₀ .tc) α} {Q : α → sProp 𝕄} :
    iprop(HI m ρ K ∗ Todo c p ∗ Poss c w ∗ owns (c : Thread nD τ) xM fullShare (xstg m ρ c) ∗ free c (slotM f (sl 0)) ∗ free (dst f c) (slotM f (sl 1)) ∗ chain f 0 c)
      ⊢ iprop(((Todo c (p + 1) ∗ Poss c w ∗ owns (c : Thread nD τ) xM fullShare (xstg m ρ c) ∗ Sh m ρ c f 0 false ∗ Cs c f 0) -∗ WP c (kont ⟨⟩) Q)
          -∗ WP c (.op (.load (cs := .vmem) xM r.toLoadRect hl) fun v => .op (.load (cs := .vmem) flM (slR f (sl 0)).toLoadRect hl') fun _ =>
              .op (.store (cs := .vmem) flM (slR f (sl 0)) (V v) Finset.univ hx hm) fun _ =>
              .op (.enqueueDma src (.remote (Dev.tc d : Thread nD τ) dst' (.dma s₁) hsc) (.dma s₂) hsrc hdst hsem) kont) Q) := by
  iintro ⟨#HH, HT, HP, HX, HF, HD, HC⟩ Hk
  iapply (wp_ld c (M := xM)) $$ HX
  iintro HX
  ihave HF' := (show free (F := F) c (slotM f (sl 0)) ⊢ iprop(∃ X, owns (c : Thread nD τ) (slotM f (sl 0)) fullShare X) from .rfl) $$ HF
  icases HF' with ⟨%X, HF⟩
  iapply (wp_slot_ld c (M := flM) (r := slR f (sl 0)) (hr := fun _ => rfl) (hq := squeezes_S1x1x128x4096_S128x4096) shapeCasts_S128x4096_S1x1x128x4096) $$ HF
  iintro HF
  ihave HF := (free_intro (F := F) c (slotM f (sl 0)) X) $$ HF
  iapply (wp_fill (F := F) c f) $$ HF
  rw [hV, shapeCast_shapeCast, ← Xc_zero]
  iintro HF
  ihave HF := (halves_split (F := F) c (slotM f (sl 0)) fullShare (Xc m ρ f 0 c)) $$ HF
  icases HF with ⟨HL, HR⟩
  iapply (wp_hop m ρ K c p w f 0 ok hd hsr hds hs₁ hs₂) $$ [HT HP HL HD HC]
  · isplitr; · iexact HH
    isplitl [HT]; · iexact HT
    isplitl [HP]; · iexact HP
    isplitl [HL]; · iexact HL
    isplitl [HD]; · iexact HD
    isplitr; · iapply (HI_reached m ρ K c (cap f)); iexact HH
    isplitl [HC]; · rw [show org f (Fin.ofNat 8 0) c = c from org_zero f c]; iexact HC
    iapply (HI_reached m ρ K (dst f c) (rcv f (sl 1))); iexact HH
  iintro ⟨HT, HP, HS⟩
  iapply Hk
  isplitl [HT]; · iexact HT
  isplitl [HP]; · iexact HP
  isplitl [HX]; · iexact HX
  isplitl [HR]; · iexact HR
  iexact HS

/-- What a device starts with: its own slots, its chord slots, the rows of its table that travel, its weights by blocks
    with the tokens of their copies, and its operands. -/
def Start (c : Dev nD) : sProp 𝕄 :=
  iprop((free (F := F) c (slotM 0 0) ∗ free c (slotM 1 0) ∗ free c (slotM 2 0) ∗ free c (slotM 3 0))
    ∗ (free c (slotM 0 1) ∗ free c (slotM 1 1)) ∗ (free c (slotM 2 1) ∗ free c (slotM 3 1))
    ∗ (bigSepL [0, 1, 2, 3, 4, 5, 6, 7] fun t => free c (chM t)) ∗ (chain 0 0 c ∗ chain 2 0 c)
    ∗ ((owns (c : Thread nD τ) (wsrc 0) fullShare.left (wblk m c 0) ∗ dutyTok ER (cell c wd) 0 0) ∗ (owns (c : Thread nD τ) (wsrc 1) fullShare.left (wblk m c 1) ∗ dutyTok ER (cell c wd) 1 0)
      ∗ (owns (c : Thread nD τ) (wsrc 2) fullShare.left (wblk m c 2) ∗ dutyTok ER (cell c wd) 2 0) ∗ (owns (c : Thread nD τ) (wsrc 3) fullShare.left (wblk m c 3) ∗ dutyTok ER (cell c wd) 3 0))
    ∗ free c wsM ∗ free c wbM ∗ owns (c : Thread nD τ) xM fullShare (xstg m ρ c) ∗ Out m ρ c [])

/-- Parts 1 to 6 of the body, before a continuation. -/
def prog0 (hx : xM.IsWhole) (hw : wM.IsWhole) (ho : oM.IsWhole) (hwb : wbM.IsWhole) (hws : wsM.IsWhole)
    (hfl : flM.IsWhole) (hco : coM.IsWhole) (haa : aaM.IsWhole)
    {α : Type} (kont : Dev nD → BitVec 32 → BitVec 32 → BitVec 32 → BitVec 32 → BitVec 32 → Prog (TpuEff nD τ sig (Elt F) Λ₀ .tc) α) : Prog (TpuEff nD τ sig (Elt F) Λ₀ .tc) α := do
    let ⟨d0, v2, v16, v28⟩ : Σ' (d0 : Dev nD) (v2 : BitVec 32) (v16 : BitVec 32), BitVec 32 ← k0_part1 xM hx wM hw oM ho wbM hwb wsM hws flM hfl coM hco aaM haa cc0_scratch5 cc0_scratch6 cc0_scratch7 cc0_scratch8 cc0_scratch9 cc0_scratch10 cc0_scratch11 cc0_scratch12
    let ⟨v30, v44, v56, v57⟩ : Σ' (v30 : BitVec 32) (v44 : BitVec 32) (v56 : BitVec 32), BitVec 1 ← k0_part2 xM hx wM hw oM ho wbM hwb wsM hws flM hfl coM hco aaM haa cc0_scratch5 cc0_scratch6 cc0_scratch7 cc0_scratch8 cc0_scratch9 cc0_scratch10 cc0_scratch11 cc0_scratch12 v2 v28
    let v58 : BitVec 32 ← k0_part3 xM hx wM hw oM ho wbM hwb wsM hws flM hfl coM hco aaM haa cc0_scratch5 cc0_scratch6 cc0_scratch7 cc0_scratch8 cc0_scratch9 cc0_scratch10 cc0_scratch11 cc0_scratch12 d0 v16 v30 v44 v56 v57
    k0_part4 xM hx wM hw oM ho wbM hwb wsM hws flM hfl coM hco aaM haa cc0_scratch5 cc0_scratch6 cc0_scratch7 cc0_scratch8 cc0_scratch9 cc0_scratch10 cc0_scratch11 cc0_scratch12 d0 v30
    k0_part5 xM hx wM hw oM ho wbM hwb wsM hws flM hfl coM hco aaM haa cc0_scratch5 cc0_scratch6 cc0_scratch7 cc0_scratch8 cc0_scratch9 cc0_scratch10 cc0_scratch11 cc0_scratch12 d0 v16 v30
    k0_part6 xM hx wM hw oM ho wbM hwb wsM hws flM hfl coM hco aaM haa cc0_scratch5 cc0_scratch6 cc0_scratch7 cc0_scratch8 cc0_scratch9 cc0_scratch10 cc0_scratch11 cc0_scratch12
    kont d0 v2 v16 v30 v44 v58

set_option maxHeartbeats 4000000 in
/-- The prologue: the barrier, the first hops, the first three row blocks of the weights, and the copy of the fourth. -/
theorem seg0 (c : Dev nD) (hx : xM.IsWhole) (hw : wM.IsWhole) (ho : oM.IsWhole) (hwb : wbM.IsWhole) (hws : wsM.IsWhole)
    (hfl : flM.IsWhole) (hco : coM.IsWhole) (haa : aaM.IsWhole)
    {α : Type} {kont : Dev nD → BitVec 32 → BitVec 32 → BitVec 32 → BitVec 32 → BitVec 32 → Prog (TpuEff nD τ sig (Elt F) Λ₀ .tc) α} {Q : α → sProp 𝕄} :
    iprop(HI m ρ K ∗ Todo c 0 ∗ Poss c 0 ∗ Start m ρ c)
      ⊢ iprop((∀ v2 v16 v30 v44 v58, (Mid m ρ c 7 5 0 [] none4 ∗ owns (c : Thread nD τ) wsM fullShare (wblk m c 3) ∗ Wst m c 3 ∗ owns (c : Thread nD τ) xM fullShare (xstg m ρ c))
            -∗ WP c (kont c v2 v16 v30 v44 v58) Q)
          -∗ WP c (prog0 hx hw ho hwb hws hfl hco haa kont) Q) := by
  unfold prog0
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret]
  unfold Start
  iintro ⟨#HH, HT, HP, ⟨A0, A1, A2, A3⟩, HB0, HB1, HB2, ⟨HC0, HC2⟩, ⟨⟨W0, T0⟩, ⟨W1, T1⟩, ⟨W2, T2⟩, ⟨W3, T3⟩⟩, HS, HW, HX, HO⟩ Hk
  ihave HW := (show free (F := F) c wbM ⊢ iprop(∃ X, owns (c : Thread nD τ) wbM fullShare X) from .rfl) $$ HW
  icases HW with ⟨%Xw, HW⟩
  ihave HW := (Wst_zero (F := F) m c Xw) $$ HW
  iapply (wp_dev (F := F) c)
  iapply (wp_wcopy m ρ K c 0 0 (by decide +kernel) (by rfl) (by rfl)) $$ [HP W0 HS T0]
  · isplitr; · iexact HH
    isplitl [HP]; · iexact HP
    isplitl [W0]; · iexact W0
    isplitl [HS]; · iexact HS
    iexact T0
  iintro ⟨HP, HD⟩
  iapply (wp_sig m ρ K c 0 ⟨bar, 0, 0, none⟩ (by decide +kernel) (by rfl) (by decide) (by decide) (Fin.ext (by clear * -; revert c; decide +kernel)) (by rfl) (by rfl)) $$ [HT HB0]
  · isplitr; · iexact HH
    isplitl [HT]; · iexact HT
    isplitl [HB0]; · iapply (pay_bar0 m ρ c); iexact HB0
    iapply (HI_reached m ρ K (tgt bar 0 c) bar); iexact HH
  iintro HT
  iapply (wp_sig m ρ K c 1 ⟨bar, 0, 1, none⟩ (by decide +kernel) (by rfl) (by decide) (by decide) (Fin.ext (by clear * -; revert c; decide +kernel)) (by rfl) (by rfl)) $$ [HT HB1]
  · isplitr; · iexact HH
    isplitl [HT]; · iexact HT
    isplitl [HB1]; · iapply (pay_bar1 m ρ c); iexact HB1
    iapply (HI_reached m ρ K (tgt bar 1 c) bar); iexact HH
  iintro HT
  iapply (wp_sig m ρ K c 2 ⟨bar, 0, 2, none⟩ (by decide +kernel) (by rfl) (by decide) (by decide) (Fin.ext (by clear * -; revert c; decide +kernel)) (by rfl) (by rfl)) $$ [HT HB2]
  · isplitr; · iexact HH
    isplitl [HT]; · iexact HT
    isplitl [HB2]; · iapply (pay_bar2 m ρ c); iexact HB2
    iapply (HI_reached m ρ K (tgt bar 2 c) bar); iexact HH
  iintro HT
  iapply (wp_swait m ρ K c 0 3 bar 0 (by decide +kernel) (by rfl) (by rfl) (by rfl)) $$ [HT HP]
  · isplitr; · iexact HH
    isplitl [HT]; · iexact HT
    iexact HP
  iintro ⟨HT, HP, HG⟩
  ihave HG := (got_bar (F := F) m ρ c) $$ HG
  icases HG with ⟨⟨D0, D1⟩, ⟨D2, D3⟩, HF⟩
  ihave HC1 := (show (emp : sProp 𝕄) ⊢ chain (F := F) 1 0 c from by rw [chain_nil 1 0 c rfl]) $$ []
  · iempintro
  ihave HC3 := (show (emp : sProp 𝕄) ⊢ chain (F := F) 3 0 c from by rw [chain_nil 3 0 c rfl]) $$ []
  · iempintro
  iapply (wp_start m ρ K c 3 1 0 (by decide +kernel) (by rfl) (by intro v; rfl) (Fin.ext (by clear * -; revert c; decide +kernel)) (by rfl) (by rfl) (by rfl) (by rfl)) $$ [HT HP HX A0 D0 HC0]
  · isplitr; · iexact HH
    isplitl [HT]; · iexact HT
    isplitl [HP]; · iexact HP
    isplitl [HX]; · iexact HX
    isplitl [A0]; · iexact A0
    isplitl [D0]; · iexact D0
    iexact HC0
  iintro ⟨HT, HP, HX, HS0, HK0⟩
  iapply (wp_start m ρ K c 4 1 2 (by decide +kernel) (by rfl) (by intro v; rfl) (Fin.ext (by clear * -; revert c; decide +kernel)) (by rfl) (by rfl) (by rfl) (by rfl)) $$ [HT HP HX A2 D2 HC2]
  · isplitr; · iexact HH
    isplitl [HT]; · iexact HT
    isplitl [HP]; · iexact HP
    isplitl [HX]; · iexact HX
    isplitl [A2]; · iexact A2
    isplitl [D2]; · iexact D2
    iexact HC2
  iintro ⟨HT, HP, HX, HS2, HK2⟩
  iapply (wp_start m ρ K c 5 1 1 (by decide +kernel) (by rfl) (by intro v; rfl) (Fin.ext (by clear * -; revert c; decide +kernel)) (by rfl) (by rfl) (by rfl) (by rfl)) $$ [HT HP HX A1 D1 HC1]
  · isplitr; · iexact HH
    isplitl [HT]; · iexact HT
    isplitl [HP]; · iexact HP
    isplitl [HX]; · iexact HX
    isplitl [A1]; · iexact A1
    isplitl [D1]; · iexact D1
    iexact HC1
  iintro ⟨HT, HP, HX, HS1, HK1⟩
  iapply (wp_start m ρ K c 6 1 3 (by decide +kernel) (by rfl) (by intro v; rfl) (Fin.ext (by clear * -; revert c; decide +kernel)) (by rfl) (by rfl) (by rfl) (by rfl)) $$ [HT HP HX A3 D3 HC3]
  · isplitr; · iexact HH
    isplitl [HT]; · iexact HT
    isplitl [HP]; · iexact HP
    isplitl [HX]; · iexact HX
    isplitl [A3]; · iexact A3
    isplitl [D3]; · iexact D3
    iexact HC3
  iintro ⟨HT, HP, HX, HS3, HK3⟩
  iapply (wp_wwait m ρ K c 1 7 0 (by decide +kernel) (by rfl)) $$ [HT HP HD]
  · isplitr; · iexact HH
    isplitl [HT]; · iexact HT
    isplitl [HP]; · iexact HP
    iexact HD
  iintro ⟨HT, HP, HS⟩
  iapply (wp_wblk m c 0 (k := 0) (k' := 1) rfl rfl rfl (heq_of_eq (by rw [whole_idx_blk]; exact shapeCast_self _ _))) $$ [HS HW]
  · isplitl [HS]; · iexact HS
    iexact HW
  iintro ⟨HS, HW⟩
  iapply (wp_wcopy m ρ K c 2 1 (by decide +kernel) (by rfl) (by rfl)) $$ [HP W1 HS T1]
  · isplitr; · iexact HH
    isplitl [HP]; · iexact HP
    isplitl [W1]; · iexact W1
    isplitl [HS]; · iexact HS
    iexact T1
  iintro ⟨HP, HD⟩
  iapply (wp_wwait m ρ K c 2 7 1 (by decide +kernel) (by rfl)) $$ [HT HP HD]
  · isplitr; · iexact HH
    isplitl [HT]; · iexact HT
    isplitl [HP]; · iexact HP
    iexact HD
  iintro ⟨HT, HP, HS⟩
  iapply (wp_wblk m c 1 (k := 1) (k' := 2) rfl rfl rfl (heq_of_eq (by rw [whole_idx_blk]; exact shapeCast_self _ _))) $$ [HS HW]
  · isplitl [HS]; · iexact HS
    iexact HW
  iintro ⟨HS, HW⟩
  iapply (wp_wcopy m ρ K c 3 2 (by decide +kernel) (by rfl) (by rfl)) $$ [HP W2 HS T2]
  · isplitr; · iexact HH
    isplitl [HP]; · iexact HP
    isplitl [W2]; · iexact W2
    isplitl [HS]; · iexact HS
    iexact T2
  iintro ⟨HP, HD⟩
  iapply (wp_wwait m ρ K c 3 7 2 (by decide +kernel) (by rfl)) $$ [HT HP HD]
  · isplitr; · iexact HH
    isplitl [HT]; · iexact HT
    isplitl [HP]; · iexact HP
    iexact HD
  iintro ⟨HT, HP, HS⟩
  iapply (wp_wblk m c 2 (k := 2) (k' := 3) rfl rfl rfl (heq_of_eq (by rw [whole_idx_blk]; exact shapeCast_self _ _))) $$ [HS HW]
  · isplitl [HS]; · iexact HS
    iexact HW
  iintro ⟨HS, HW⟩
  iapply (wp_wcopy m ρ K c 4 3 (by decide +kernel) (by rfl) (by rfl)) $$ [HP W3 HS T3]
  · isplitr; · iexact HH
    isplitl [HP]; · iexact HP
    isplitl [W3]; · iexact W3
    isplitl [HS]; · iexact HS
    iexact T3
  iintro ⟨HP, HD⟩
  iapply (wp_wwait m ρ K c 4 7 3 (by decide +kernel) (by rfl)) $$ [HT HP HD]
  · isplitr; · iexact HH
    isplitl [HT]; · iexact HT
    isplitl [HP]; · iexact HP
    iexact HD
  iintro ⟨HT, HP, HS⟩
  iapply Hk
  unfold Mid Sh4 none4 Cs4
  isplitr [HS HW HX]
  · isplitl [HT]; · iexact HT
    isplitl [HP]; · iexact HP
    isplitl [HS0 HS1 HS2 HS3]
    · isplitl [HS0]; · iexact HS0
      isplitl [HS1]; · iexact HS1
      isplitl [HS2]; · iexact HS2
      iexact HS3
    isplitl [HK0 HK1 HK2 HK3]
    · isplitl [HK0]; · iexact HK0
      isplitl [HK1]; · iexact HK1
      isplitl [HK2]; · iexact HK2
      iexact HK3
    isplitl [HF]; · iexact HF
    iexact HO
  isplitl [HS]; · iexact HS
  isplitl [HW]; · iexact HW
  iexact HX

end Cert.KernelIdealProof
-- ==== Proof.I.Seg1.lean ====
/-
# `Seg1`: the first iteration
-/
module

public import proofs.«01_k».proof.Proof.I.W

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

variable (m : (ℓ : Loc nD τ sig) → Buf (Elt F) ℓ) (ρ : Dev nD → PrngReg) (K : Dev nD × CK → ℕ)

/-- Parts 7 to 17 of the body, before a continuation. -/
def prog1 (c : Dev nD) (v2 v16 v30 v44 v58 : BitVec 32) (hx : xM.IsWhole) (hw : wM.IsWhole) (ho : oM.IsWhole) (hwb : wbM.IsWhole) (hws : wsM.IsWhole)
    (hfl : flM.IsWhole) (hco : coM.IsWhole) (haa : aaM.IsWhole)
    {α : Type} (kont : Vec F S4096x1024 .bf16 → F .f32 → Prog (TpuEff nD τ sig (Elt F) Λ₀ .tc) α) : Prog (TpuEff nD τ sig (Elt F) Λ₀ .tc) α := do
    let ⟨v158, v175⟩ : Σ' (v158 : Vec F S4096x1024 .bf16), BitVec 32 ← k0_part7 xM hx wM hw oM ho wbM hwb wsM hws flM hfl coM hco aaM haa cc0_scratch5 cc0_scratch6 cc0_scratch7 cc0_scratch8 cc0_scratch9 cc0_scratch10 cc0_scratch11 cc0_scratch12 v16 v30
    k0_part8 xM hx wM hw oM ho wbM hwb wsM hws flM hfl coM hco aaM haa cc0_scratch5 cc0_scratch6 cc0_scratch7 cc0_scratch8 cc0_scratch9 cc0_scratch10 cc0_scratch11 cc0_scratch12 c v16 v175
    k0_part9 xM hx wM hw oM ho wbM hwb wsM hws flM hfl coM hco aaM haa cc0_scratch5 cc0_scratch6 cc0_scratch7 cc0_scratch8 cc0_scratch9 cc0_scratch10 cc0_scratch11 cc0_scratch12 c v16 v30
    k0_part10 xM hx wM hw oM ho wbM hwb wsM hws flM hfl coM hco aaM haa cc0_scratch5 cc0_scratch6 cc0_scratch7 cc0_scratch8 cc0_scratch9 cc0_scratch10 cc0_scratch11 cc0_scratch12 c v16 v30
    k0_part11 xM hx wM hw oM ho wbM hwb wsM hws flM hfl coM hco aaM haa cc0_scratch5 cc0_scratch6 cc0_scratch7 cc0_scratch8 cc0_scratch9 cc0_scratch10 cc0_scratch11 cc0_scratch12 c v16 v30
    let v287 : FVec F S128x4096 .bf16 ← k0_part12 xM hx wM hw oM ho wbM hwb wsM hws flM hfl coM hco aaM haa cc0_scratch5 cc0_scratch6 cc0_scratch7 cc0_scratch8 cc0_scratch9 cc0_scratch10 cc0_scratch11 cc0_scratch12 c v16 v30 v44 v58
    let ⟨v312, v324⟩ : Σ' (v312 : F .f32), FVec F S1x1x1 .f32 ← k0_part13 xM hx wM hw oM ho wbM hwb wsM hws flM hfl coM hco aaM haa cc0_scratch5 cc0_scratch6 cc0_scratch7 cc0_scratch8 cc0_scratch9 cc0_scratch10 cc0_scratch11 cc0_scratch12 c v2 v158 v287
    let ⟨v340, v354, v356, cst_403⟩ : Σ' (v340 : F .f32) (v354 : BitVec 32) (v356 : FVec F S128x4096 .bf16), FVec F S128x1024 .f32 ← k0_part14 xM hx wM hw oM ho wbM hwb wsM hws flM hfl coM hco aaM haa cc0_scratch5 cc0_scratch6 cc0_scratch7 cc0_scratch8 cc0_scratch9 cc0_scratch10 cc0_scratch11 cc0_scratch12 c v2 v158 v312 v324
    let ⟨v367, v384⟩ : Σ' (v367 : F .f32), FVec F S128x1024 .f32 ← k0_part15 xM hx wM hw oM ho wbM hwb wsM hws flM hfl coM hco aaM haa cc0_scratch5 cc0_scratch6 cc0_scratch7 cc0_scratch8 cc0_scratch9 cc0_scratch10 cc0_scratch11 cc0_scratch12 c v2 v158 v340 v354 v356 cst_403
    let v421 : F .f32 ← k0_part16 xM hx wM hw oM ho wbM hwb wsM hws flM hfl coM hco aaM haa cc0_scratch5 cc0_scratch6 cc0_scratch7 cc0_scratch8 cc0_scratch9 cc0_scratch10 cc0_scratch11 cc0_scratch12 c v2 v158 v367 v384
    let v448 : F .f32 ← k0_part17 xM hx wM hw oM ho wbM hwb wsM hws flM hfl coM hco aaM haa cc0_scratch5 cc0_scratch6 cc0_scratch7 cc0_scratch8 cc0_scratch9 cc0_scratch10 cc0_scratch11 cc0_scratch12 c v2 v158 v421
    kont v158 v448

set_option maxHeartbeats 4000000 in
/-- Iteration 0: the last row block of the weights, hop 0 of every flow, the first two chord copies, the device's own rows
    and the four blocks that hop 0 brought. -/
theorem seg1 (c : Dev nD) (v2 v16 v30 v44 v58 : BitVec 32) (hx : xM.IsWhole) (hw : wM.IsWhole) (ho : oM.IsWhole) (hwb : wbM.IsWhole) (hws : wsM.IsWhole)
    (hfl : flM.IsWhole) (hco : coM.IsWhole) (haa : aaM.IsWhole)
    {α : Type} {kont : Vec F S4096x1024 .bf16 → F .f32 → Prog (TpuEff nD τ sig (Elt F) Λ₀ .tc) α} {Q : α → sProp 𝕄} :
    iprop(HI m ρ K ∗ Mid m ρ c 7 5 0 [] none4 ∗ owns (c : Thread nD τ) wsM fullShare (wblk m c 3) ∗ Wst m c 3 ∗ owns (c : Thread nD τ) xM fullShare (xstg m ρ c))
      ⊢ iprop(((Mid m ρ c 17 17 1 (blks c 0) (lent c 0) ∗ Heads c 0 ∗ Cc c (tA 0) ∗ Cc c (tB 0)
            ∗ free c wsM ∗ free c wbM ∗ owns (c : Thread nD τ) xM fullShare (xstg m ρ c)) -∗ WP c (kont (Wb m c) (amx m ρ c (blks c 0))) Q)
          -∗ WP c (prog1 c v2 v16 v30 v44 v58 hx hw ho hwb hws hfl hco haa kont) Q) := by
  unfold prog1
  simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part7_skel k0_part8_skel k0_part9_skel k0_part10_skel k0_part11_skel k0_part12_skel k0_part13_skel k0_part14_skel k0_part15_skel k0_part16_skel k0_part17_skel
  simp only [semSignalWord, semWaitWord, Prog.lift, Prog.bind_op, Prog.bind_ret, Prog.pure_eq_ret]
  rcases hp : even c
  case' false =>
    have h2 : k0_cond2 c = 1#1 := by clear * - hp; revert c; decide +kernel
    have h1 : ¬ k0_cond1 c = 1#1 := by clear * - hp; revert c; decide +kernel
    simp only [dif_pos h2, dif_neg h1, Prog.bind_op, Prog.bind_ret]
  case' true =>
    have h1 : k0_cond1 c = 1#1 := by clear * - hp; revert c; decide +kernel
    have h2 : ¬ k0_cond2 c = 1#1 := by clear * - hp; revert c; decide +kernel
    simp only [dif_pos h1, dif_neg h2, Prog.bind_op, Prog.bind_ret]
  all_goals
    unfold Mid Sh4 none4 Cs4
    iintro ⟨#HH, ⟨HT, HP, ⟨HS0, HS1, HS2, HS3⟩, ⟨HC0, HC1, HC2, HC3⟩, HF, HO⟩, HS, HW, HX⟩ Hk
    iapply (wp_wblk m c 3 (k := 3) (k' := 4) rfl rfl rfl (heq_of_eq (by rw [whole_idx_blk]; exact shapeCast_self _ _))) $$ [HS HW]
    · isplitl [HS]; · iexact HS
      iexact HW
    iintro ⟨HS, HW⟩
    iapply (wp_wload m c rfl) $$ HW
    rw [whole_idx_big]
    iintro HW
    iapply (wp_flow m ρ K c 7 5 0 0 (by decide +kernel) (Fin.ext (by clear * -; revert c; decide +kernel)) (Fin.ext (by clear * -; revert c; decide +kernel)) (by rfl) (by rfl) (by rfl) (by rfl) (by rfl) (by rfl)
      (by rfl) (by rfl) (by rfl) (by rfl) (by rfl) (by rfl)) $$ [HT HP HS0 HC0]
    · isplitr; · iexact HH
      isplitl [HT]; · iexact HT
      isplitl [HP]; · iexact HP
      isplitl [HS0]; · iexact HS0
      iexact HC0
    iintro ⟨HT, HP, HS0, HC0, HR00⟩
    iapply (wp_flow m ρ K c 9 8 2 0 (by decide +kernel) (Fin.ext (by clear * -; revert c; decide +kernel)) (Fin.ext (by clear * -; revert c; decide +kernel)) (by rfl) (by rfl) (by rfl) (by rfl) (by rfl) (by rfl)
      (by rfl) (by rfl) (by rfl) (by rfl) (by rfl) (by rfl)) $$ [HT HP HS2 HC2]
    · isplitr; · iexact HH
      isplitl [HT]; · iexact HT
      isplitl [HP]; · iexact HP
      isplitl [HS2]; · iexact HS2
      iexact HC2
    iintro ⟨HT, HP, HS2, HC2, HR20⟩
    iapply (wp_flow m ρ K c 11 11 1 0 (by decide +kernel) (Fin.ext (by clear * -; revert c; decide +kernel)) (Fin.ext (by clear * -; revert c; decide +kernel)) (by rfl) (by rfl) (by rfl) (by rfl) (by rfl) (by rfl)
      (by rfl) (by rfl) (by rfl) (by rfl) (by rfl) (by rfl)) $$ [HT HP HS1 HC1]
    · isplitr; · iexact HH
      isplitl [HT]; · iexact HT
      isplitl [HP]; · iexact HP
      isplitl [HS1]; · iexact HS1
      iexact HC1
    iintro ⟨HT, HP, HS1, HC1, HR10⟩
    iapply (wp_flow m ρ K c 13 14 3 0 (by decide +kernel) (Fin.ext (by clear * -; revert c; decide +kernel)) (Fin.ext (by clear * -; revert c; decide +kernel)) (by rfl) (by rfl) (by rfl) (by rfl) (by rfl) (by rfl)
      (by rfl) (by rfl) (by rfl) (by rfl) (by rfl) (by rfl)) $$ [HT HP HS3 HC3]
    · isplitr; · iexact HH
      isplitl [HT]; · iexact HT
      isplitl [HP]; · iexact HP
      isplitl [HS3]; · iexact HS3
      iexact HC3
    iintro ⟨HT, HP, HS3, HC3, HR30⟩
    ihave HF' := (Chf_step (F := F) c 0 (by decide)) $$ HF
    icases HF' with ⟨HA, HB, HF⟩
    iapply (wp_chords m ρ K c 15 17 0 (by decide) (by decide +kernel) (by decide +kernel) (Fin.ext (by clear * - hp; revert c; decide +kernel)) (Fin.ext (by clear * - hp; revert c; decide +kernel))
      (by unfold fl; rw [hp]; rfl) (by unfold fl; rw [hp]; rfl) (by rfl) (by rfl) (by rfl) (by rfl) (by rfl) (by rfl)) $$ [HT HP HS0 HS1 HS2 HS3 HA HB]
    · unfold Sh4 none4
      isplitr; · iexact HH
      isplitl [HT]; · iexact HT
      isplitl [HP]; · iexact HP
      isplitl [HS0 HS1 HS2 HS3]
      · isplitl [HS0]; · iexact HS0
        isplitl [HS1]; · iexact HS1
        isplitl [HS2]; · iexact HS2
        iexact HS3
      isplitl [HA]; · iexact HA
      iexact HB
    iintro ⟨HT, HP, HS4, HCA, HCB⟩
    unfold Sh4
    icases HS4 with ⟨HS0, HS1, HS2, HS3⟩
    iapply (wp_dotX m ρ c _ 0 (by rfl) (by clear * -; revert c; decide +kernel) (by intro v; rfl)) $$ [HX HO]
    · isplitl [HX]; · iexact HX
      iexact HO
    iintro ⟨HX, HO⟩
    iapply (wp_dotX m ρ c _ 1 (by rfl) (by clear * -; revert c; decide +kernel) (by intro v; rfl)) $$ [HX HO]
    · isplitl [HX]; · iexact HX
      iexact HO
    iintro ⟨HX, HO⟩
    iapply (wp_dotX m ρ c _ 2 (by rfl) (by clear * -; revert c; decide +kernel) (by intro v; rfl)) $$ [HX HO]
    · isplitl [HX]; · iexact HX
      iexact HO
    iintro ⟨HX, HO⟩
    iapply (wp_dotX m ρ c _ 3 (by rfl) (by clear * -; revert c; decide +kernel) (by intro v; rfl)) $$ [HX HO]
    · isplitl [HX]; · iexact HX
      iexact HO
    iintro ⟨HX, HO⟩
    iapply (wp_dotF m ρ c _ 0 1 (by clear * -; revert c; decide +kernel) (by intro v; rfl)) $$ [HS0 HO]
    · isplitl [HS0]; · iexact HS0
      iexact HO
    iintro ⟨HS0, HO⟩
    iapply (wp_dotF m ρ c _ 1 1 (by clear * -; revert c; decide +kernel) (by intro v; rfl)) $$ [HS1 HO]
    · isplitl [HS1]; · iexact HS1
      iexact HO
    iintro ⟨HS1, HO⟩
    iapply (wp_dotF m ρ c _ 2 1 (by clear * -; revert c; decide +kernel) (by intro v; rfl)) $$ [HS2 HO]
    · isplitl [HS2]; · iexact HS2
      iexact HO
    iintro ⟨HS2, HO⟩
    iapply (wp_dotF m ρ c _ 3 1 (by clear * -; revert c; decide +kernel) (by intro v; rfl)) $$ [HS3 HO]
    · isplitl [HS3]; · iexact HS3
      iexact HO
    iintro ⟨HS3, HO⟩
    iapply (wp_val c (kont := kont (Wb m c)) (g' := amx m ρ c (blks c 0)) (by
      rw [blks_zero]
      simp only [amx_cons, amx_nil, Yb_bFl, Yb_own]
      unfold mx k0_pay26 k0_pay25 k0_pay24 k0_pay23 k0_pay22 k0_pay21 k0_pay20 k0_pay19 k0_pay18 k0_pay17 k0_pay16 k0_pay15 k0_pay14 k0_pay13 k0_pay12 k0_pay11
      simp only [shapeCast_shapeCast]
      rfl))
    iapply Hk
    unfold Heads
    isplitl [HT HP HS0 HS1 HS2 HS3 HC0 HC1 HC2 HC3 HF HO]
    · isplitl [HT]; · iexact HT
      isplitl [HP]; · iexact HP
      isplitl [HS0 HS1 HS2 HS3]
      · isplitl [HS0]; · iexact HS0
        isplitl [HS1]; · iexact HS1
        isplitl [HS2]; · iexact HS2
        iexact HS3
      isplitl [HC0 HC1 HC2 HC3]
      · isplitl [HC0]; · iexact HC0
        isplitl [HC1]; · iexact HC1
        isplitl [HC2]; · iexact HC2
        iexact HC3
      isplitl [HF]; · iexact HF
      iexact HO
    isplitl [HR00 HR20]
    · isplitl [HR00]; · iexact HR00
      iexact HR20
    isplitl [HCA]; · iexact HCA
    isplitl [HCB]; · iexact HCB
    isplitl [HS]; · iexact HS
    isplitl [HW]; · iapply (free_intro (F := F) c wbM); iexact HW
    iexact HX

end Cert.KernelIdealProof
-- ==== Proof.I.Seg2.lean ====
/-
# `Seg2`: the second iteration
-/
module

public import proofs.«01_k».proof.Proof.I.W

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

variable (m : (ℓ : Loc nD τ sig) → Buf (Elt F) ℓ) (ρ : Dev nD → PrngReg) (K : Dev nD × CK → ℕ)

/-- Parts 18 to 31 of the body, before a continuation. -/
def prog2 (c : Dev nD) (v2 v16 v30 v44 v58 : BitVec 32) (w : Vec F S4096x1024 .bf16) (a : F .f32) (hx : xM.IsWhole) (hw : wM.IsWhole) (ho : oM.IsWhole) (hwb : wbM.IsWhole) (hws : wsM.IsWhole)
    (hfl : flM.IsWhole) (hco : coM.IsWhole) (haa : aaM.IsWhole)
    {α : Type} (kont : F .f32 → Prog (TpuEff nD τ sig (Elt F) Λ₀ .tc) α) : Prog (TpuEff nD τ sig (Elt F) Λ₀ .tc) α := do
    k0_part18 xM hx wM hw oM ho wbM hwb wsM hws flM hfl coM hco aaM haa cc0_scratch5 cc0_scratch6 cc0_scratch7 cc0_scratch8 cc0_scratch9 cc0_scratch10 cc0_scratch11 cc0_scratch12 v16
    k0_part19 xM hx wM hw oM ho wbM hwb wsM hws flM hfl coM hco aaM haa cc0_scratch5 cc0_scratch6 cc0_scratch7 cc0_scratch8 cc0_scratch9 cc0_scratch10 cc0_scratch11 cc0_scratch12 c v16 v30
    k0_part20 xM hx wM hw oM ho wbM hwb wsM hws flM hfl coM hco aaM haa cc0_scratch5 cc0_scratch6 cc0_scratch7 cc0_scratch8 cc0_scratch9 cc0_scratch10 cc0_scratch11 cc0_scratch12 c v16 v30
    let c1_i32_625 : BitVec 32 ← k0_part21 xM hx wM hw oM ho wbM hwb wsM hws flM hfl coM hco aaM haa cc0_scratch5 cc0_scratch6 cc0_scratch7 cc0_scratch8 cc0_scratch9 cc0_scratch10 cc0_scratch11 cc0_scratch12 c v16
    k0_part22 xM hx wM hw oM ho wbM hwb wsM hws flM hfl coM hco aaM haa cc0_scratch5 cc0_scratch6 cc0_scratch7 cc0_scratch8 cc0_scratch9 cc0_scratch10 cc0_scratch11 cc0_scratch12 c v16 v30 c1_i32_625
    let v581 : BitVec 1 ← k0_part23 xM hx wM hw oM ho wbM hwb wsM hws flM hfl coM hco aaM haa cc0_scratch5 cc0_scratch6 cc0_scratch7 cc0_scratch8 cc0_scratch9 cc0_scratch10 cc0_scratch11 cc0_scratch12 c v16 v30 v58
    let v611 : FVec F S1x1x1 .f32 ← k0_part24 xM hx wM hw oM ho wbM hwb wsM hws flM hfl coM hco aaM haa cc0_scratch5 cc0_scratch6 cc0_scratch7 cc0_scratch8 cc0_scratch9 cc0_scratch10 cc0_scratch11 cc0_scratch12 c v2 v44 v58 w v581
    let ⟨v640, v642, c2_i32_747⟩ : Σ' (v640 : F .f32) (v642 : BitVec 32), BitVec 32 ← k0_part25 xM hx wM hw oM ho wbM hwb wsM hws flM hfl coM hco aaM haa cc0_scratch5 cc0_scratch6 cc0_scratch7 cc0_scratch8 cc0_scratch9 cc0_scratch10 cc0_scratch11 cc0_scratch12 c v2 w a v611
    let ⟨v667, v673, c4_i32_775⟩ : Σ' (v667 : F .f32) (v673 : BitVec 32), BitVec 32 ← k0_part26 xM hx wM hw oM ho wbM hwb wsM hws flM hfl coM hco aaM haa cc0_scratch5 cc0_scratch6 cc0_scratch7 cc0_scratch8 cc0_scratch9 cc0_scratch10 cc0_scratch11 cc0_scratch12 c v2 w v640 v642 c2_i32_747
    let ⟨v694, v703⟩ : Σ' (v694 : F .f32), BitVec 1 ← k0_part27 xM hx wM hw oM ho wbM hwb wsM hws flM hfl coM hco aaM haa cc0_scratch5 cc0_scratch6 cc0_scratch7 cc0_scratch8 cc0_scratch9 cc0_scratch10 cc0_scratch11 cc0_scratch12 c v2 v44 v58 w v667 v673 c4_i32_775
    let ⟨v732, c0_i32_834⟩ : Σ' (v732 : BitVec 32), BitVec 32 ← k0_part28 xM hx wM hw oM ho wbM hwb wsM hws flM hfl coM hco aaM haa cc0_scratch5 cc0_scratch6 cc0_scratch7 cc0_scratch8 cc0_scratch9 cc0_scratch10 cc0_scratch11 cc0_scratch12 v2 v703
    let ⟨v748, v757, v761, v762⟩ : Σ' (v748 : F .f32) (v757 : BitVec 1) (v761 : BitVec 32), BitVec 1 ← k0_part29 xM hx wM hw oM ho wbM hwb wsM hws flM hfl coM hco aaM haa cc0_scratch5 cc0_scratch6 cc0_scratch7 cc0_scratch8 cc0_scratch9 cc0_scratch10 cc0_scratch11 cc0_scratch12 c v2 v44 v58 w v694 v732 c0_i32_834
    let ⟨v786, v788, v791⟩ : Σ' (v786 : BitVec 32) (v788 : BitVec 32), FVec F S128x1024 .f32 ← k0_part30 xM hx wM hw oM ho wbM hwb wsM hws flM hfl coM hco aaM haa cc0_scratch5 cc0_scratch6 cc0_scratch7 cc0_scratch8 cc0_scratch9 cc0_scratch10 cc0_scratch11 cc0_scratch12 v2 v58 w v757 v761 v762
    let v802 : F .f32 ← k0_part31 xM hx wM hw oM ho wbM hwb wsM hws flM hfl coM hco aaM haa cc0_scratch5 cc0_scratch6 cc0_scratch7 cc0_scratch8 cc0_scratch9 cc0_scratch10 cc0_scratch11 cc0_scratch12 c v748 v786 v788 v791
    kont v802

set_option maxHeartbeats 4000000 in
/-- Iteration 1, and the waits at the start of iteration 2. -/
theorem seg2 (c : Dev nD) (v2 v16 v30 v44 v58 : BitVec 32) (hx : xM.IsWhole) (hw : wM.IsWhole) (ho : oM.IsWhole) (hwb : wbM.IsWhole) (hws : wsM.IsWhole)
    (hfl : flM.IsWhole) (hco : coM.IsWhole) (haa : aaM.IsWhole)
    {α : Type} {kont : F .f32 → Prog (TpuEff nD τ sig (Elt F) Λ₀ .tc) α} {Q : α → sProp 𝕄} :
    iprop(HI m ρ K ∗ Mid m ρ c 17 17 1 (blks c 0) (lent c 0) ∗ Cc c (tA 0) ∗ Cc c (tB 0))
      ⊢ iprop(((Mid m ρ c 27 35 2 (blks c 1) none4 ∗ Heads c 1 ∗ free c (chM (tA 0)) ∗ free c (chM (tB 0))) -∗ WP c (kont (amx m ρ c (blks c 1))) Q)
          -∗ WP c (prog2 c v2 v16 v30 v44 v58 (Wb m c) (amx m ρ c (blks c 0)) hx hw ho hwb hws hfl hco haa kont) Q) := by
  unfold prog2
  simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold k0_part18_skel k0_part19_skel k0_part20_skel k0_part21_skel k0_part22_skel k0_part23_skel k0_part24_skel k0_part25_skel k0_part26_skel k0_part27_skel k0_part28_skel k0_part29_skel k0_part30_skel k0_part31_skel
  simp only [semSignalWord, semWaitWord, Prog.lift, Prog.bind_op, Prog.bind_ret, Prog.pure_eq_ret]
  rcases hp : even c
  case' false =>
    have h4 : k0_cond4 c = 1#1 := by clear * - hp; revert c; decide +kernel
    have h3 : ¬ k0_cond3 c = 1#1 := by clear * - hp; revert c; decide +kernel
    simp only [dif_pos h4, dif_neg h3, Prog.bind_op, Prog.bind_ret]
  case' true =>
    have h3 : k0_cond3 c = 1#1 := by clear * - hp; revert c; decide +kernel
    have h4 : ¬ k0_cond4 c = 1#1 := by clear * - hp; revert c; decide +kernel
    simp only [dif_pos h3, dif_neg h4, Prog.bind_op, Prog.bind_ret]
  all_goals
    unfold Mid Sh4 Cs4
    iintro ⟨#HH, ⟨HT, HP, ⟨HS0, HS1, HS2, HS3⟩, ⟨HC0, HC1, HC2, HC3⟩, HF, HO⟩, HCA, HCB⟩ Hk
    iapply (wp_csns m ρ K c 17 17 0 (by decide) (by decide +kernel) (by decide +kernel) (by rfl) (by rfl) (by rfl) (by rfl)) $$ [HT HP HS0 HS1 HS2 HS3 HCA HCB]
    · unfold Sh4
      isplitr; · iexact HH
      isplitl [HT]; · iexact HT
      isplitl [HP]; · iexact HP
      isplitl [HS0 HS1 HS2 HS3]
      · isplitl [HS0]; · iexact HS0
        isplitl [HS1]; · iexact HS1
        isplitl [HS2]; · iexact HS2
        iexact HS3
      isplitl [HCA]; · iexact HCA
      iexact HCB
    iintro ⟨HT, HP, HS4⟩
    unfold Sh4 none4
    icases HS4 with ⟨HS0, HS1, HS2, HS3⟩
    iapply (wp_flow m ρ K c 17 19 0 1 (by decide +kernel) (Fin.ext (by clear * -; revert c; decide +kernel)) (Fin.ext (by clear * -; revert c; decide +kernel)) (by rfl) (by rfl) (by rfl) (by rfl) (by rfl) (by rfl)
      (by rfl) (by rfl) (by rfl) (by rfl) (by rfl) (by rfl)) $$ [HT HP HS0 HC0]
    · isplitr; · iexact HH
      isplitl [HT]; · iexact HT
      isplitl [HP]; · iexact HP
      isplitl [HS0]; · iexact HS0
      iexact HC0
    iintro ⟨HT, HP, HS0, HC0, HR01⟩
    iapply (wp_flow m ρ K c 19 22 2 1 (by decide +kernel) (Fin.ext (by clear * -; revert c; decide +kernel)) (Fin.ext (by clear * -; revert c; decide +kernel)) (by rfl) (by rfl) (by rfl) (by rfl) (by rfl) (by rfl)
      (by rfl) (by rfl) (by rfl) (by rfl) (by rfl) (by rfl)) $$ [HT HP HS2 HC2]
    · isplitr; · iexact HH
      isplitl [HT]; · iexact HT
      isplitl [HP]; · iexact HP
      isplitl [HS2]; · iexact HS2
      iexact HC2
    iintro ⟨HT, HP, HS2, HC2, HR21⟩
    iapply (wp_flow m ρ K c 21 25 1 1 (by decide +kernel) (Fin.ext (by clear * -; revert c; decide +kernel)) (Fin.ext (by clear * -; revert c; decide +kernel)) (by rfl) (by rfl) (by rfl) (by rfl) (by rfl) (by rfl)
      (by rfl) (by rfl) (by rfl) (by rfl) (by rfl) (by rfl)) $$ [HT HP HS1 HC1]
    · isplitr; · iexact HH
      isplitl [HT]; · iexact HT
      isplitl [HP]; · iexact HP
      isplitl [HS1]; · iexact HS1
      iexact HC1
    iintro ⟨HT, HP, HS1, HC1, HR11⟩
    iapply (wp_flow m ρ K c 23 28 3 1 (by decide +kernel) (Fin.ext (by clear * -; revert c; decide +kernel)) (Fin.ext (by clear * -; revert c; decide +kernel)) (by rfl) (by rfl) (by rfl) (by rfl) (by rfl) (by rfl)
      (by rfl) (by rfl) (by rfl) (by rfl) (by rfl) (by rfl)) $$ [HT HP HS3 HC3]
    · isplitr; · iexact HH
      isplitl [HT]; · iexact HT
      isplitl [HP]; · iexact HP
      isplitl [HS3]; · iexact HS3
      iexact HC3
    iintro ⟨HT, HP, HS3, HC3, HR31⟩
    ihave HF' := (Chf_step (F := F) c 1 (by decide)) $$ HF
    icases HF' with ⟨HA, HB, HF⟩
    iapply (wp_chords m ρ K c 25 31 1 (by decide) (by decide +kernel) (by decide +kernel) (Fin.ext (by clear * - hp; revert c; decide +kernel)) (Fin.ext (by clear * - hp; revert c; decide +kernel))
      (by unfold fl; rw [hp]; rfl) (by unfold fl; rw [hp]; rfl) (by rfl) (by rfl) (by rfl) (by rfl) (by rfl) (by rfl)) $$ [HT HP HS0 HS1 HS2 HS3 HA HB]
    · unfold Sh4 none4
      isplitr; · iexact HH
      isplitl [HT]; · iexact HT
      isplitl [HP]; · iexact HP
      isplitl [HS0 HS1 HS2 HS3]
      · isplitl [HS0]; · iexact HS0
        isplitl [HS1]; · iexact HS1
        isplitl [HS2]; · iexact HS2
        iexact HS3
      isplitl [HA]; · iexact HA
      iexact HB
    iintro ⟨HT, HP, HS4, HCA, HCB⟩
    unfold Sh4
    icases HS4 with ⟨HS0, HS1, HS2, HS3⟩
    iapply (wp_dotF m ρ c _ 0 2 (by clear * -; revert c; decide +kernel) (by intro v; rfl)) $$ [HS0 HO]
    · isplitl [HS0]; · iexact HS0
      iexact HO
    iintro ⟨HS0, HO⟩
    iapply (wp_dotF m ρ c _ 1 2 (by clear * -; revert c; decide +kernel) (by intro v; rfl)) $$ [HS1 HO]
    · isplitl [HS1]; · iexact HS1
      iexact HO
    iintro ⟨HS1, HO⟩
    iapply (wp_dotF m ρ c _ 2 2 (by clear * -; revert c; decide +kernel) (by intro v; rfl)) $$ [HS2 HO]
    · isplitl [HS2]; · iexact HS2
      iexact HO
    iintro ⟨HS2, HO⟩
    iapply (wp_dotF m ρ c _ 3 2 (by clear * -; revert c; decide +kernel) (by intro v; rfl)) $$ [HS3 HO]
    · isplitl [HS3]; · iexact HS3
      iexact HO
    iintro ⟨HS3, HO⟩
    iapply (wp_crcF m ρ K c 27 31 (tA 0) (by decide +kernel) _ (by rfl) (by rfl) (by clear * -; revert c; decide +kernel) (by intro v; rfl)) $$ [HT HP HO]
    · isplitr; · iexact HH
      isplitl [HT]; · iexact HT
      isplitl [HP]; · iexact HP
      iexact HO
    iintro ⟨HT, HP, HA0, HO⟩
    iapply (wp_crcF m ρ K c 27 32 (tB 0) (by decide +kernel) _ (by rfl) (by rfl) (by clear * -; revert c; decide +kernel) (by intro v; rfl)) $$ [HT HP HO]
    · isplitr; · iexact HH
      isplitl [HT]; · iexact HT
      isplitl [HP]; · iexact HP
      iexact HO
    iintro ⟨HT, HP, HB0, HO⟩
    iapply (wp_csns m ρ K c 27 33 1 (by decide) (by decide +kernel) (by decide +kernel) (by rfl) (by rfl) (by rfl) (by rfl)) $$ [HT HP HS0 HS1 HS2 HS3 HCA HCB]
    · unfold Sh4
      isplitr; · iexact HH
      isplitl [HT]; · iexact HT
      isplitl [HP]; · iexact HP
      isplitl [HS0 HS1 HS2 HS3]
      · isplitl [HS0]; · iexact HS0
        isplitl [HS1]; · iexact HS1
        isplitl [HS2]; · iexact HS2
        iexact HS3
      isplitl [HCA]; · iexact HCA
      iexact HCB
    iintro ⟨HT, HP, HS4⟩
    unfold Sh4 none4
    icases HS4 with ⟨HS0, HS1, HS2, HS3⟩
    iapply (wp_val c (kont := kont) (g' := amx m ρ c (blks c 1)) (by
      rw [show blks c 1 = _ from blks_succ c 0]
      simp only [amx_cons, Yb_bFl, Yb_bCh, Nat.reduceAdd]
      unfold mx k0_pay38 k0_pay37 k0_pay36 k0_pay35 k0_pay34 k0_pay33 k0_pay32 k0_pay31 k0_pay30 k0_pay29 k0_pay28 k0_pay27 k0_pay12
      simp only [shapeCast_shapeCast]
      try rfl))
    iapply Hk
    unfold Heads
    isplitl [HT HP HS0 HS1 HS2 HS3 HC0 HC1 HC2 HC3 HF HO]
    · isplitl [HT]; · iexact HT
      isplitl [HP]; · iexact HP
      isplitl [HS0 HS1 HS2 HS3]
      · isplitl [HS0]; · iexact HS0
        isplitl [HS1]; · iexact HS1
        isplitl [HS2]; · iexact HS2
        iexact HS3
      isplitl [HC0 HC1 HC2 HC3]
      · isplitl [HC0]; · iexact HC0
        isplitl [HC1]; · iexact HC1
        isplitl [HC2]; · iexact HC2
        iexact HC3
      isplitl [HF]; · iexact HF
      iexact HO
    isplitl [HR01 HR21]
    · isplitl [HR01]; · iexact HR01
      iexact HR21
    isplitl [HA0]; · iexact HA0
    iexact HB0

end Cert.KernelIdealProof
-- ==== Proof.I.Seg3.lean ====
/-
# `Seg3`: the third and fourth iterations
-/
module

public import proofs.«01_k».proof.Proof.I.W

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

variable (m : (ℓ : Loc nD τ sig) → Buf (Elt F) ℓ) (ρ : Dev nD → PrngReg) (K : Dev nD × CK → ℕ)

/-- Parts 32 to 57 of the body, before a continuation. -/
def prog3 (c : Dev nD) (v2 v16 v30 v44 v58 : BitVec 32) (w : Vec F S4096x1024 .bf16) (a : F .f32) (hx : xM.IsWhole) (hw : wM.IsWhole) (ho : oM.IsWhole) (hwb : wbM.IsWhole) (hws : wsM.IsWhole)
    (hfl : flM.IsWhole) (hco : coM.IsWhole) (haa : aaM.IsWhole)
    {α : Type} (kont : F .f32 → FVec F S1x128x1024 .f32 → Prog (TpuEff nD τ sig (Elt F) Λ₀ .tc) α) : Prog (TpuEff nD τ sig (Elt F) Λ₀ .tc) α := do
    k0_part32 xM hx wM hw oM ho wbM hwb wsM hws flM hfl coM hco aaM haa cc0_scratch5 cc0_scratch6 cc0_scratch7 cc0_scratch8 cc0_scratch9 cc0_scratch10 cc0_scratch11 cc0_scratch12 c v16 v30
    k0_part33 xM hx wM hw oM ho wbM hwb wsM hws flM hfl coM hco aaM haa cc0_scratch5 cc0_scratch6 cc0_scratch7 cc0_scratch8 cc0_scratch9 cc0_scratch10 cc0_scratch11 cc0_scratch12 c v30
    k0_part34 xM hx wM hw oM ho wbM hwb wsM hws flM hfl coM hco aaM haa cc0_scratch5 cc0_scratch6 cc0_scratch7 cc0_scratch8 cc0_scratch9 cc0_scratch10 cc0_scratch11 cc0_scratch12 c v16 v30
    k0_part35 xM hx wM hw oM ho wbM hwb wsM hws flM hfl coM hco aaM haa cc0_scratch5 cc0_scratch6 cc0_scratch7 cc0_scratch8 cc0_scratch9 cc0_scratch10 cc0_scratch11 cc0_scratch12 c v16 v30
    k0_part36 xM hx wM hw oM ho wbM hwb wsM hws flM hfl coM hco aaM haa cc0_scratch5 cc0_scratch6 cc0_scratch7 cc0_scratch8 cc0_scratch9 cc0_scratch10 cc0_scratch11 cc0_scratch12 c v16 v30
    let ⟨v952, c7_i32_1127⟩ : Σ' (v952 : BitVec 32), BitVec 32 ← k0_part37 xM hx wM hw oM ho wbM hwb wsM hws flM hfl coM hco aaM haa cc0_scratch5 cc0_scratch6 cc0_scratch7 cc0_scratch8 cc0_scratch9 cc0_scratch10 cc0_scratch11 cc0_scratch12 c v2 v30 v44 v58
    let ⟨v967, v981, v982⟩ : Σ' (v967 : F .f32) (v981 : BitVec 32), Vec F S1x1x128x4096 .bf16 ← k0_part38 xM hx wM hw oM ho wbM hwb wsM hws flM hfl coM hco aaM haa cc0_scratch5 cc0_scratch6 cc0_scratch7 cc0_scratch8 cc0_scratch9 cc0_scratch10 cc0_scratch11 cc0_scratch12 c v2 w a v952 c7_i32_1127
    let ⟨v994, v1011⟩ : Σ' (v994 : F .f32), FVec F S128x1024 .f32 ← k0_part39 xM hx wM hw oM ho wbM hwb wsM hws flM hfl coM hco aaM haa cc0_scratch5 cc0_scratch6 cc0_scratch7 cc0_scratch8 cc0_scratch9 cc0_scratch10 cc0_scratch11 cc0_scratch12 c v2 w v967 v981 v982
    let ⟨v1021, v1046⟩ : Σ' (v1021 : F .f32), FVec F S1x1x1 .f32 ← k0_part40 xM hx wM hw oM ho wbM hwb wsM hws flM hfl coM hco aaM haa cc0_scratch5 cc0_scratch6 cc0_scratch7 cc0_scratch8 cc0_scratch9 cc0_scratch10 cc0_scratch11 cc0_scratch12 c v2 w v994 v1011
    let ⟨v1048, v1057, v1071, v1073, v1074⟩ : Σ' (v1048 : F .f32) (v1057 : BitVec 1) (v1071 : BitVec 32) (v1073 : BitVec 32), BitVec 1 ← k0_part41 xM hx wM hw oM ho wbM hwb wsM hws flM hfl coM hco aaM haa cc0_scratch5 cc0_scratch6 cc0_scratch7 cc0_scratch8 cc0_scratch9 cc0_scratch10 cc0_scratch11 cc0_scratch12 v2 v44 v58 v1021 v1046
    let v1102 : F .f32 ← k0_part42 xM hx wM hw oM ho wbM hwb wsM hws flM hfl coM hco aaM haa cc0_scratch5 cc0_scratch6 cc0_scratch7 cc0_scratch8 cc0_scratch9 cc0_scratch10 cc0_scratch11 cc0_scratch12 c v2 v44 v58 w v1048 v1057 v1071 v1073 v1074
    let ⟨v1111, v1125, v1133, c5_i32_1299⟩ : Σ' (v1111 : BitVec 1) (v1125 : BitVec 32) (v1133 : BitVec 32), BitVec 32 ← k0_part43 xM hx wM hw oM ho wbM hwb wsM hws flM hfl coM hco aaM haa cc0_scratch5 cc0_scratch6 cc0_scratch7 cc0_scratch8 cc0_scratch9 cc0_scratch10 cc0_scratch11 cc0_scratch12 v2 v58
    let v1156 : F .f32 ← k0_part44 xM hx wM hw oM ho wbM hwb wsM hws flM hfl coM hco aaM haa cc0_scratch5 cc0_scratch6 cc0_scratch7 cc0_scratch8 cc0_scratch9 cc0_scratch10 cc0_scratch11 cc0_scratch12 c v2 v58 w v1102 v1111 v1125 v1133 c5_i32_1299
    k0_part45 xM hx wM hw oM ho wbM hwb wsM hws flM hfl coM hco aaM haa cc0_scratch5 cc0_scratch6 cc0_scratch7 cc0_scratch8 cc0_scratch9 cc0_scratch10 cc0_scratch11 cc0_scratch12 v16
    k0_part46 xM hx wM hw oM ho wbM hwb wsM hws flM hfl coM hco aaM haa cc0_scratch5 cc0_scratch6 cc0_scratch7 cc0_scratch8 cc0_scratch9 cc0_scratch10 cc0_scratch11 cc0_scratch12 c v16 v30
    k0_part47 xM hx wM hw oM ho wbM hwb wsM hws flM hfl coM hco aaM haa cc0_scratch5 cc0_scratch6 cc0_scratch7 cc0_scratch8 cc0_scratch9 cc0_scratch10 cc0_scratch11 cc0_scratch12 c v16 v30
    k0_part48 xM hx wM hw oM ho wbM hwb wsM hws flM hfl coM hco aaM haa cc0_scratch5 cc0_scratch6 cc0_scratch7 cc0_scratch8 cc0_scratch9 cc0_scratch10 cc0_scratch11 cc0_scratch12 c v16 v30
    k0_part49 xM hx wM hw oM ho wbM hwb wsM hws flM hfl coM hco aaM haa cc0_scratch5 cc0_scratch6 cc0_scratch7 cc0_scratch8 cc0_scratch9 cc0_scratch10 cc0_scratch11 cc0_scratch12 c v16 v30
    let v1295 : BitVec 1 ← k0_part50 xM hx wM hw oM ho wbM hwb wsM hws flM hfl coM hco aaM haa cc0_scratch5 cc0_scratch6 cc0_scratch7 cc0_scratch8 cc0_scratch9 cc0_scratch10 cc0_scratch11 cc0_scratch12 c v2 v16 v30 v44 v58
    let ⟨v1321, v1325, c3_i32_1561⟩ : Σ' (v1321 : F .f32) (v1325 : BitVec 32), BitVec 32 ← k0_part51 xM hx wM hw oM ho wbM hwb wsM hws flM hfl coM hco aaM haa cc0_scratch5 cc0_scratch6 cc0_scratch7 cc0_scratch8 cc0_scratch9 cc0_scratch10 cc0_scratch11 cc0_scratch12 c v2 w v1156 v1295
    let ⟨v1348, v1356, c5_i32_1589⟩ : Σ' (v1348 : F .f32) (v1356 : BitVec 32), BitVec 32 ← k0_part52 xM hx wM hw oM ho wbM hwb wsM hws flM hfl coM hco aaM haa cc0_scratch5 cc0_scratch6 cc0_scratch7 cc0_scratch8 cc0_scratch9 cc0_scratch10 cc0_scratch11 cc0_scratch12 c v2 w v1321 v1325 c3_i32_1561
    let ⟨v1375, v1387, c7_i32_1617⟩ : Σ' (v1375 : F .f32) (v1387 : BitVec 32), BitVec 32 ← k0_part53 xM hx wM hw oM ho wbM hwb wsM hws flM hfl coM hco aaM haa cc0_scratch5 cc0_scratch6 cc0_scratch7 cc0_scratch8 cc0_scratch9 cc0_scratch10 cc0_scratch11 cc0_scratch12 c v2 w v1348 v1356 c5_i32_1589
    let ⟨v1402, v1411, v1415, v1416, c4_i32_1646⟩ : Σ' (v1402 : F .f32) (v1411 : BitVec 1) (v1415 : BitVec 32) (v1416 : BitVec 1), BitVec 32 ← k0_part54 xM hx wM hw oM ho wbM hwb wsM hws flM hfl coM hco aaM haa cc0_scratch5 cc0_scratch6 cc0_scratch7 cc0_scratch8 cc0_scratch9 cc0_scratch10 cc0_scratch11 cc0_scratch12 c v2 v44 v58 w v1375 v1387 c7_i32_1617
    let ⟨v1440, v1442, v1445, c512_i32_1676⟩ : Σ' (v1440 : BitVec 32) (v1442 : BitVec 32) (v1445 : FVec F S128x1024 .f32), BitVec 32 ← k0_part55 xM hx wM hw oM ho wbM hwb wsM hws flM hfl coM hco aaM haa cc0_scratch5 cc0_scratch6 cc0_scratch7 cc0_scratch8 cc0_scratch9 cc0_scratch10 cc0_scratch11 cc0_scratch12 v2 v58 w v1411 v1415 v1416 c4_i32_1646
    let ⟨v1456, v1465, v1475, v1476⟩ : Σ' (v1456 : F .f32) (v1465 : BitVec 1) (v1475 : BitVec 32), BitVec 1 ← k0_part56 xM hx wM hw oM ho wbM hwb wsM hws flM hfl coM hco aaM haa cc0_scratch5 cc0_scratch6 cc0_scratch7 cc0_scratch8 cc0_scratch9 cc0_scratch10 cc0_scratch11 cc0_scratch12 c v2 v44 v58 v1402 v1440 v1442 v1445 c512_i32_1676
    let v1506 : FVec F S1x128x1024 .f32 ← k0_part57 xM hx wM hw oM ho wbM hwb wsM hws flM hfl coM hco aaM haa cc0_scratch5 cc0_scratch6 cc0_scratch7 cc0_scratch8 cc0_scratch9 cc0_scratch10 cc0_scratch11 cc0_scratch12 c v2 v58 w v1465 v1475 v1476
    kont v1456 v1506

set_option maxHeartbeats 4000000 in
/-- Iterations 2 and 3. -/
theorem seg3 (c : Dev nD) (v2 v16 v30 v44 v58 : BitVec 32) (hx : xM.IsWhole) (hw : wM.IsWhole) (ho : oM.IsWhole) (hwb : wbM.IsWhole) (hws : wsM.IsWhole)
    (hfl : flM.IsWhole) (hco : coM.IsWhole) (haa : aaM.IsWhole)
    {α : Type} {kont : F .f32 → FVec F S1x128x1024 .f32 → Prog (TpuEff nD τ sig (Elt F) Λ₀ .tc) α} {Q : α → sProp 𝕄} :
    iprop(HI m ρ K ∗ Mid m ρ c 27 35 2 (blks c 1) none4)
      ⊢ iprop((∀ g y, ⌜k0_pay64 g y = amx m ρ c (blks c 3)⌝ -∗ (Mid m ρ c 47 65 4 (blks c 3) (lent c 3) ∗ Heads c 2 ∗ Heads c 3 ∗ Cc c (tA 3) ∗ Cc c (tB 3) ∗ free c (chM (tA 1)) ∗ free c (chM (tB 1))
            ∗ free c (chM (tA 2)) ∗ free c (chM (tB 2))) -∗ WP c (kont g y) Q)
          -∗ WP c (prog3 c v2 v16 v30 v44 v58 (Wb m c) (amx m ρ c (blks c 1)) hx hw ho hwb hws hfl hco haa kont) Q) := by
  unfold prog3
  simp only [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
  unfold k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel
  simp only [semSignalWord, semWaitWord, Prog.lift, Prog.bind_op, Prog.bind_ret, Prog.pure_eq_ret]
  rcases hp : even c
  case' false =>
    have h6 : k0_cond6 c = 1#1 := by clear * - hp; revert c; decide +kernel
    have h5 : ¬ k0_cond5 c = 1#1 := by clear * - hp; revert c; decide +kernel
    have h8 : k0_cond8 c = 1#1 := by clear * - hp; revert c; decide +kernel
    have h7 : ¬ k0_cond7 c = 1#1 := by clear * - hp; revert c; decide +kernel
    simp only [dif_pos h6, dif_pos h8, dif_neg h5, dif_neg h7, Prog.bind_op, Prog.bind_ret]
  case' true =>
    have h5 : k0_cond5 c = 1#1 := by clear * - hp; revert c; decide +kernel
    have h6 : ¬ k0_cond6 c = 1#1 := by clear * - hp; revert c; decide +kernel
    have h7 : k0_cond7 c = 1#1 := by clear * - hp; revert c; decide +kernel
    have h8 : ¬ k0_cond8 c = 1#1 := by clear * - hp; revert c; decide +kernel
    simp only [dif_pos h5, dif_pos h7, dif_neg h6, dif_neg h8, Prog.bind_op, Prog.bind_ret]
  all_goals
    unfold Mid Sh4 none4 Cs4
    iintro ⟨#HH, HT, HP, ⟨HS0, HS1, HS2, HS3⟩, ⟨HC0, HC1, HC2, HC3⟩, HF, HO⟩ Hk
    iapply (wp_flow m ρ K c 27 35 0 2 (by decide +kernel) (Fin.ext (by clear * -; revert c; decide +kernel)) (Fin.ext (by clear * -; revert c; decide +kernel)) (by rfl) (by rfl) (by rfl) (by rfl) (by rfl) (by rfl)
      (by rfl) (by rfl) (by rfl) (by rfl) (by rfl) (by rfl)) $$ [HT HP HS0 HC0]
    · isplitr; · iexact HH
      isplitl [HT]; · iexact HT
      isplitl [HP]; · iexact HP
      isplitl [HS0]; · iexact HS0
      iexact HC0
    iintro ⟨HT, HP, HS0, HC0, HR02⟩
    iapply (wp_flow m ρ K c 29 38 2 2 (by decide +kernel) (Fin.ext (by clear * -; revert c; decide +kernel)) (Fin.ext (by clear * -; revert c; decide +kernel)) (by rfl) (by rfl) (by rfl) (by rfl) (by rfl) (by rfl)
      (by rfl) (by rfl) (by rfl) (by rfl) (by rfl) (by rfl)) $$ [HT HP HS2 HC2]
    · isplitr; · iexact HH
      isplitl [HT]; · iexact HT
      isplitl [HP]; · iexact HP
      isplitl [HS2]; · iexact HS2
      iexact HC2
    iintro ⟨HT, HP, HS2, HC2, HR22⟩
    iapply (wp_flow m ρ K c 31 41 1 2 (by decide +kernel) (Fin.ext (by clear * -; revert c; decide +kernel)) (Fin.ext (by clear * -; revert c; decide +kernel)) (by rfl) (by rfl) (by rfl) (by rfl) (by rfl) (by rfl)
      (by rfl) (by rfl) (by rfl) (by rfl) (by rfl) (by rfl)) $$ [HT HP HS1 HC1]
    · isplitr; · iexact HH
      isplitl [HT]; · iexact HT
      isplitl [HP]; · iexact HP
      isplitl [HS1]; · iexact HS1
      iexact HC1
    iintro ⟨HT, HP, HS1, HC1, HR12⟩
    iapply (wp_flow m ρ K c 33 44 3 2 (by decide +kernel) (Fin.ext (by clear * -; revert c; decide +kernel)) (Fin.ext (by clear * -; revert c; decide +kernel)) (by rfl) (by rfl) (by rfl) (by rfl) (by rfl) (by rfl)
      (by rfl) (by rfl) (by rfl) (by rfl) (by rfl) (by rfl)) $$ [HT HP HS3 HC3]
    · isplitr; · iexact HH
      isplitl [HT]; · iexact HT
      isplitl [HP]; · iexact HP
      isplitl [HS3]; · iexact HS3
      iexact HC3
    iintro ⟨HT, HP, HS3, HC3, HR32⟩
    ihave HF' := (Chf_step (F := F) c 2 (by decide)) $$ HF
    icases HF' with ⟨HA, HB, HF⟩
    iapply (wp_chords m ρ K c 35 47 2 (by decide) (by decide +kernel) (by decide +kernel) (Fin.ext (by clear * - hp; revert c; decide +kernel)) (Fin.ext (by clear * - hp; revert c; decide +kernel))
      (by unfold fl; rw [hp]; rfl) (by unfold fl; rw [hp]; rfl) (by rfl) (by rfl) (by rfl) (by rfl) (by rfl) (by rfl)) $$ [HT HP HS0 HS1 HS2 HS3 HA HB]
    · unfold Sh4 none4
      isplitr; · iexact HH
      isplitl [HT]; · iexact HT
      isplitl [HP]; · iexact HP
      isplitl [HS0 HS1 HS2 HS3]
      · isplitl [HS0]; · iexact HS0
        isplitl [HS1]; · iexact HS1
        isplitl [HS2]; · iexact HS2
        iexact HS3
      isplitl [HA]; · iexact HA
      iexact HB
    iintro ⟨HT, HP, HS4, HCA, HCB⟩
    unfold Sh4
    icases HS4 with ⟨HS0, HS1, HS2, HS3⟩
    iapply (wp_dotF m ρ c _ 0 3 (by clear * -; revert c; decide +kernel) (by intro v; rfl)) $$ [HS0 HO]
    · isplitl [HS0]; · iexact HS0
      iexact HO
    iintro ⟨HS0, HO⟩
    iapply (wp_dotF m ρ c _ 1 3 (by clear * -; revert c; decide +kernel) (by intro v; rfl)) $$ [HS1 HO]
    · isplitl [HS1]; · iexact HS1
      iexact HO
    iintro ⟨HS1, HO⟩
    iapply (wp_dotF m ρ c _ 2 3 (by clear * -; revert c; decide +kernel) (by intro v; rfl)) $$ [HS2 HO]
    · isplitl [HS2]; · iexact HS2
      iexact HO
    iintro ⟨HS2, HO⟩
    iapply (wp_dotF m ρ c _ 3 3 (by clear * -; revert c; decide +kernel) (by intro v; rfl)) $$ [HS3 HO]
    · isplitl [HS3]; · iexact HS3
      iexact HO
    iintro ⟨HS3, HO⟩
    iapply (wp_crcF m ρ K c 37 47 (tA 1) (by decide +kernel) _ (by rfl) (by rfl) (by clear * -; revert c; decide +kernel) (by intro v; rfl)) $$ [HT HP HO]
    · isplitr; · iexact HH
      isplitl [HT]; · iexact HT
      isplitl [HP]; · iexact HP
      iexact HO
    iintro ⟨HT, HP, HA1, HO⟩
    iapply (wp_crcF m ρ K c 37 48 (tB 1) (by decide +kernel) _ (by rfl) (by rfl) (by clear * -; revert c; decide +kernel) (by intro v; rfl)) $$ [HT HP HO]
    · isplitr; · iexact HH
      isplitl [HT]; · iexact HT
      isplitl [HP]; · iexact HP
      iexact HO
    iintro ⟨HT, HP, HB1, HO⟩
    iapply (wp_csns m ρ K c 37 49 2 (by decide) (by decide +kernel) (by decide +kernel) (by rfl) (by rfl) (by rfl) (by rfl)) $$ [HT HP HS0 HS1 HS2 HS3 HCA HCB]
    · unfold Sh4
      isplitr; · iexact HH
      isplitl [HT]; · iexact HT
      isplitl [HP]; · iexact HP
      isplitl [HS0 HS1 HS2 HS3]
      · isplitl [HS0]; · iexact HS0
        isplitl [HS1]; · iexact HS1
        isplitl [HS2]; · iexact HS2
        iexact HS3
      isplitl [HCA]; · iexact HCA
      iexact HCB
    iintro ⟨HT, HP, HS4⟩
    unfold Sh4 none4
    icases HS4 with ⟨HS0, HS1, HS2, HS3⟩
    iapply (wp_flow m ρ K c 37 51 0 3 (by decide +kernel) (Fin.ext (by clear * -; revert c; decide +kernel)) (Fin.ext (by clear * -; revert c; decide +kernel)) (by rfl) (by rfl) (by rfl) (by rfl) (by rfl) (by rfl)
      (by rfl) (by rfl) (by rfl) (by rfl) (by rfl) (by rfl)) $$ [HT HP HS0 HC0]
    · isplitr; · iexact HH
      isplitl [HT]; · iexact HT
      isplitl [HP]; · iexact HP
      isplitl [HS0]; · iexact HS0
      iexact HC0
    iintro ⟨HT, HP, HS0, HC0, HR03⟩
    iapply (wp_flow m ρ K c 39 54 2 3 (by decide +kernel) (Fin.ext (by clear * -; revert c; decide +kernel)) (Fin.ext (by clear * -; revert c; decide +kernel)) (by rfl) (by rfl) (by rfl) (by rfl) (by rfl) (by rfl)
      (by rfl) (by rfl) (by rfl) (by rfl) (by rfl) (by rfl)) $$ [HT HP HS2 HC2]
    · isplitr; · iexact HH
      isplitl [HT]; · iexact HT
      isplitl [HP]; · iexact HP
      isplitl [HS2]; · iexact HS2
      iexact HC2
    iintro ⟨HT, HP, HS2, HC2, HR23⟩
    iapply (wp_flow m ρ K c 41 57 1 3 (by decide +kernel) (Fin.ext (by clear * -; revert c; decide +kernel)) (Fin.ext (by clear * -; revert c; decide +kernel)) (by rfl) (by rfl) (by rfl) (by rfl) (by rfl) (by rfl)
      (by rfl) (by rfl) (by rfl) (by rfl) (by rfl) (by rfl)) $$ [HT HP HS1 HC1]
    · isplitr; · iexact HH
      isplitl [HT]; · iexact HT
      isplitl [HP]; · iexact HP
      isplitl [HS1]; · iexact HS1
      iexact HC1
    iintro ⟨HT, HP, HS1, HC1, HR13⟩
    iapply (wp_flow m ρ K c 43 60 3 3 (by decide +kernel) (Fin.ext (by clear * -; revert c; decide +kernel)) (Fin.ext (by clear * -; revert c; decide +kernel)) (by rfl) (by rfl) (by rfl) (by rfl) (by rfl) (by rfl)
      (by rfl) (by rfl) (by rfl) (by rfl) (by rfl) (by rfl)) $$ [HT HP HS3 HC3]
    · isplitr; · iexact HH
      isplitl [HT]; · iexact HT
      isplitl [HP]; · iexact HP
      isplitl [HS3]; · iexact HS3
      iexact HC3
    iintro ⟨HT, HP, HS3, HC3, HR33⟩
    ihave HF' := (Chf_step (F := F) c 3 (by decide)) $$ HF
    icases HF' with ⟨HA, HB, HF⟩
    iapply (wp_chords m ρ K c 45 63 3 (by decide) (by decide +kernel) (by decide +kernel) (Fin.ext (by clear * - hp; revert c; decide +kernel)) (Fin.ext (by clear * - hp; revert c; decide +kernel))
      (by unfold fl; rw [hp]; rfl) (by unfold fl; rw [hp]; rfl) (by rfl) (by rfl) (by rfl) (by rfl) (by rfl) (by rfl)) $$ [HT HP HS0 HS1 HS2 HS3 HA HB]
    · unfold Sh4 none4
      isplitr; · iexact HH
      isplitl [HT]; · iexact HT
      isplitl [HP]; · iexact HP
      isplitl [HS0 HS1 HS2 HS3]
      · isplitl [HS0]; · iexact HS0
        isplitl [HS1]; · iexact HS1
        isplitl [HS2]; · iexact HS2
        iexact HS3
      isplitl [HA]; · iexact HA
      iexact HB
    iintro ⟨HT, HP, HS4, HCA, HCB⟩
    unfold Sh4
    icases HS4 with ⟨HS0, HS1, HS2, HS3⟩
    iapply (wp_dotF m ρ c _ 0 4 (by clear * -; revert c; decide +kernel) (by intro v; rfl)) $$ [HS0 HO]
    · isplitl [HS0]; · iexact HS0
      iexact HO
    iintro ⟨HS0, HO⟩
    iapply (wp_dotF m ρ c _ 1 4 (by clear * -; revert c; decide +kernel) (by intro v; rfl)) $$ [HS1 HO]
    · isplitl [HS1]; · iexact HS1
      iexact HO
    iintro ⟨HS1, HO⟩
    iapply (wp_dotF m ρ c _ 2 4 (by clear * -; revert c; decide +kernel) (by intro v; rfl)) $$ [HS2 HO]
    · isplitl [HS2]; · iexact HS2
      iexact HO
    iintro ⟨HS2, HO⟩
    iapply (wp_dotF m ρ c _ 3 4 (by clear * -; revert c; decide +kernel) (by intro v; rfl)) $$ [HS3 HO]
    · isplitl [HS3]; · iexact HS3
      iexact HO
    iintro ⟨HS3, HO⟩
    iapply (wp_crcF m ρ K c 47 63 (tA 2) (by decide +kernel) _ (by rfl) (by rfl) (by clear * -; revert c; decide +kernel) (by intro v; rfl)) $$ [HT HP HO]
    · isplitr; · iexact HH
      isplitl [HT]; · iexact HT
      isplitl [HP]; · iexact HP
      iexact HO
    iintro ⟨HT, HP, HA2, HO⟩
    iapply (wp_crcF m ρ K c 47 64 (tB 2) (by decide +kernel) _ (by rfl) (by rfl) (by clear * -; revert c; decide +kernel) (by intro v; rfl)) $$ [HT HP HO]
    · isplitr; · iexact HH
      isplitl [HT]; · iexact HT
      isplitl [HP]; · iexact HP
      iexact HO
    iintro ⟨HT, HP, HB2, HO⟩
    iapply Hk $$ %_ %_ %(by
      rw [show blks c 3 = _ from blks_succ c 2, show blks c 2 = _ from blks_succ c 1]
      simp only [amx_cons, Yb_bFl, Yb_bCh, Nat.reduceAdd]
      unfold mx k0_pay64 k0_pay63 k0_pay62 k0_pay61 k0_pay60 k0_pay59 k0_pay58 k0_pay57 k0_pay56 k0_pay55 k0_pay54 k0_pay53 k0_pay52 k0_pay51 k0_pay50 k0_pay49 k0_pay48 k0_pay47 k0_pay46 k0_pay45 k0_pay44 k0_pay43 k0_pay42 k0_pay41 k0_pay40 k0_pay39 k0_pay12
      simp only [shapeCast_shapeCast]
      try rfl)
    unfold Heads
    isplitl [HT HP HS0 HS1 HS2 HS3 HC0 HC1 HC2 HC3 HF HO]
    · isplitl [HT]; · iexact HT
      isplitl [HP]; · iexact HP
      isplitl [HS0 HS1 HS2 HS3]
      · isplitl [HS0]; · iexact HS0
        isplitl [HS1]; · iexact HS1
        isplitl [HS2]; · iexact HS2
        iexact HS3
      isplitl [HC0 HC1 HC2 HC3]
      · isplitl [HC0]; · iexact HC0
        isplitl [HC1]; · iexact HC1
        isplitl [HC2]; · iexact HC2
        iexact HC3
      isplitl [HF]; · iexact HF
      iexact HO
    isplitl [HR02 HR22]
    · isplitl [HR02]; · iexact HR02
      iexact HR22
    isplitl [HR03 HR23]
    · isplitl [HR03]; · iexact HR03
      iexact HR23
    isplitl [HCA]; · iexact HCA
    isplitl [HCB]; · iexact HCB
    isplitl [HA1]; · iexact HA1
    isplitl [HB1]; · iexact HB1
    isplitl [HA2]; · iexact HA2
    iexact HB2

end Cert.KernelIdealProof
-- ==== Proof.I.Seg5.lean ====
/-
# `Seg5`: the last hops and the last products
-/
module

public import proofs.«01_k».proof.Proof.I.W

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

variable (K : Dev nD × CK → ℕ)

/-- Both slots of flow `f` after its last hop: half of the one sent from, and all of the one landed in. -/
def Lst (c : Dev nD) (f : Fin 4) : sProp 𝕄 :=
  iprop(owns (c : Thread nD τ) (slotM f (sl 4)) fullShare.left (Xc m ρ f 4 c) ∗ owns (c : Thread nD τ) (slotM f (sl 5)) fullShare (Xc m ρ f 5 c))

/-- Parts 58 to 60 of the body, before a continuation. -/
def prog5a (v2 v16 v30 : BitVec 32) (g : F .f32) (y : FVec F S1x128x1024 .f32) (hx : xM.IsWhole) (hw : wM.IsWhole) (ho : oM.IsWhole) (hwb : wbM.IsWhole) (hws : wsM.IsWhole)
    (hfl : flM.IsWhole) (hco : coM.IsWhole) (haa : aaM.IsWhole)
    {α : Type} (kont : F .f32 → BitVec 1 → BitVec 32 → BitVec 32 → Prog (TpuEff nD τ sig (Elt F) Λ₀ .tc) α) : Prog (TpuEff nD τ sig (Elt F) Λ₀ .tc) α := do
    let v1510 : F .f32 ← k0_part58 xM hx wM hw oM ho wbM hwb wsM hws flM hfl coM hco aaM haa cc0_scratch5 cc0_scratch6 cc0_scratch7 cc0_scratch8 cc0_scratch9 cc0_scratch10 cc0_scratch11 cc0_scratch12 v16 g y
    let v1545 : BitVec 32 ← k0_part59 xM hx wM hw oM ho wbM hwb wsM hws flM hfl coM hco aaM haa cc0_scratch5 cc0_scratch6 cc0_scratch7 cc0_scratch8 cc0_scratch9 cc0_scratch10 cc0_scratch11 cc0_scratch12 v16 v30
    let ⟨v1567, c7_i32_1841, c3_i32_1842⟩ : Σ' (v1567 : BitVec 1) (c7_i32_1841 : BitVec 32), BitVec 32 ← k0_part60 xM hx wM hw oM ho wbM hwb wsM hws flM hfl coM hco aaM haa cc0_scratch5 cc0_scratch6 cc0_scratch7 cc0_scratch8 cc0_scratch9 cc0_scratch10 cc0_scratch11 cc0_scratch12 v2 v30 v1545
    kont v1510 v1567 c7_i32_1841 c3_i32_1842

set_option maxHeartbeats 4000000 in
/-- The waits for the flows' last hops. -/
theorem seg5a (c : Dev nD) (v2 v16 v30 : BitVec 32) (g : F .f32) (y : FVec F S1x128x1024 .f32) (hx : xM.IsWhole) (hw : wM.IsWhole) (ho : oM.IsWhole) (hwb : wbM.IsWhole) (hws : wsM.IsWhole)
    (hfl : flM.IsWhole) (hco : coM.IsWhole) (haa : aaM.IsWhole)
    {A : F .f32} (hA : k0_pay64 g y = A)
    {α : Type} {kont : F .f32 → BitVec 1 → BitVec 32 → BitVec 32 → Prog (TpuEff nD τ sig (Elt F) Λ₀ .tc) α} {Q : α → sProp 𝕄} :
    iprop(HI m ρ K ∗ Todo c 47 ∗ Poss c 65 ∗ Cs4 c 4)
      ⊢ iprop((∀ b x y, (Todo c 47 ∗ Poss c 73 ∗ Lst m ρ c 0 ∗ Lst m ρ c 1 ∗ Lst m ρ c 2 ∗ Lst m ρ c 3) -∗ WP c (kont A b x y) Q)
          -∗ WP c (prog5a v2 v16 v30 g y hx hw ho hwb hws hfl hco haa kont) Q) := by
  unfold prog5a
  simp only [k0_part58_eq_skeleton, k0_part59_eq_skeleton, k0_part60_eq_skeleton]
  unfold k0_part58_skel k0_part59_skel k0_part60_skel
  simp only [semSignalWord, semWaitWord, Prog.lift, Prog.bind_op, Prog.bind_ret, Prog.pure_eq_ret]
  unfold Cs4 Lst
  iintro ⟨#HH, HT, HP, HC0, HC1, HC2, HC3⟩ Hk
  iapply (wp_last m ρ K c 47 65 0 (by decide +kernel) (by decide +kernel) (by rfl) (by rfl) (by rfl) (by rfl)) $$ [HT HP HC0]
  · isplitr; · iexact HH
    isplitl [HT]; · iexact HT
    isplitl [HP]; · iexact HP
    iexact HC0
  iintro ⟨HT, HP, HL0⟩
  iapply (wp_last m ρ K c 47 67 2 (by decide +kernel) (by decide +kernel) (by rfl) (by rfl) (by rfl) (by rfl)) $$ [HT HP HC2]
  · isplitr; · iexact HH
    isplitl [HT]; · iexact HT
    isplitl [HP]; · iexact HP
    iexact HC2
  iintro ⟨HT, HP, HL2⟩
  iapply (wp_last m ρ K c 47 69 1 (by decide +kernel) (by decide +kernel) (by rfl) (by rfl) (by rfl) (by rfl)) $$ [HT HP HC1]
  · isplitr; · iexact HH
    isplitl [HT]; · iexact HT
    isplitl [HP]; · iexact HP
    iexact HC1
  iintro ⟨HT, HP, HL1⟩
  iapply (wp_last m ρ K c 47 71 3 (by decide +kernel) (by decide +kernel) (by rfl) (by rfl) (by rfl) (by rfl)) $$ [HT HP HC3]
  · isplitr; · iexact HH
    isplitl [HT]; · iexact HT
    isplitl [HP]; · iexact HP
    iexact HC3
  iintro ⟨HT, HP, HL3⟩
  rw [hA]
  iapply Hk
  isplitl [HT]; · iexact HT
  isplitl [HP]; · iexact HP
  isplitl [HL0]; · iexact HL0
  isplitl [HL1]; · iexact HL1
  isplitl [HL2]; · iexact HL2
  iexact HL3

/-- Parts 61 to 67 of the body, before a continuation. -/
def prog5b (c : Dev nD) (v2 v44 v58 : BitVec 32) (w : Vec F S4096x1024 .bf16) (a : F .f32) (b : BitVec 1) (x y : BitVec 32) (hx : xM.IsWhole) (hw : wM.IsWhole) (ho : oM.IsWhole) (hwb : wbM.IsWhole) (hws : wsM.IsWhole)
    (hfl : flM.IsWhole) (hco : coM.IsWhole) (haa : aaM.IsWhole)
    {α : Type} (kont : F .f32 → FVec F S1x1x1 .f32 → Prog (TpuEff nD τ sig (Elt F) Λ₀ .tc) α) : Prog (TpuEff nD τ sig (Elt F) Λ₀ .tc) α := do
    let ⟨v1593, v1597, v1598, c5_i32_1870⟩ : Σ' (v1593 : F .f32) (v1597 : BitVec 32) (v1598 : BitVec 1), BitVec 32 ← k0_part61 xM hx wM hw oM ho wbM hwb wsM hws flM hfl coM hco aaM haa cc0_scratch5 cc0_scratch6 cc0_scratch7 cc0_scratch8 cc0_scratch9 cc0_scratch10 cc0_scratch11 cc0_scratch12 c v2 w a b x y
    let ⟨v1620, v1628, v1629, c3_i32_1898⟩ : Σ' (v1620 : F .f32) (v1628 : BitVec 32) (v1629 : BitVec 1), BitVec 32 ← k0_part62 xM hx wM hw oM ho wbM hwb wsM hws flM hfl coM hco aaM haa cc0_scratch5 cc0_scratch6 cc0_scratch7 cc0_scratch8 cc0_scratch9 cc0_scratch10 cc0_scratch11 cc0_scratch12 c v2 w v1593 v1597 v1598 c5_i32_1870
    let ⟨v1647, v1659, v1660, c1_i32_1926⟩ : Σ' (v1647 : F .f32) (v1659 : BitVec 32) (v1660 : BitVec 1), BitVec 32 ← k0_part63 xM hx wM hw oM ho wbM hwb wsM hws flM hfl coM hco aaM haa cc0_scratch5 cc0_scratch6 cc0_scratch7 cc0_scratch8 cc0_scratch9 cc0_scratch10 cc0_scratch11 cc0_scratch12 c v2 w v1620 v1628 v1629 c3_i32_1898
    let ⟨v1674, v1683, v1689, c4_i32_1955⟩ : Σ' (v1674 : F .f32) (v1683 : BitVec 1) (v1689 : BitVec 32), BitVec 32 ← k0_part64 xM hx wM hw oM ho wbM hwb wsM hws flM hfl coM hco aaM haa cc0_scratch5 cc0_scratch6 cc0_scratch7 cc0_scratch8 cc0_scratch9 cc0_scratch10 cc0_scratch11 cc0_scratch12 c v2 v44 v58 w v1647 v1659 v1660 c1_i32_1926
    let ⟨v1714, v1717, v1718, c128_i32_1985⟩ : Σ' (v1714 : BitVec 32) (v1717 : FVec F S128x1024 .f32) (v1718 : BitVec 32), BitVec 32 ← k0_part65 xM hx wM hw oM ho wbM hwb wsM hws flM hfl coM hco aaM haa cc0_scratch5 cc0_scratch6 cc0_scratch7 cc0_scratch8 cc0_scratch9 cc0_scratch10 cc0_scratch11 cc0_scratch12 v2 v58 w v1683 v1689 c4_i32_1955
    let ⟨v1728, v1737, v1749⟩ : Σ' (v1728 : F .f32) (v1737 : BitVec 1), BitVec 32 ← k0_part66 xM hx wM hw oM ho wbM hwb wsM hws flM hfl coM hco aaM haa cc0_scratch5 cc0_scratch6 cc0_scratch7 cc0_scratch8 cc0_scratch9 cc0_scratch10 cc0_scratch11 cc0_scratch12 c v2 v44 v58 v1674 v1714 v1717 v1718 c128_i32_1985
    let v1780 : FVec F S1x1x1 .f32 ← k0_part67 xM hx wM hw oM ho wbM hwb wsM hws flM hfl coM hco aaM haa cc0_scratch5 cc0_scratch6 cc0_scratch7 cc0_scratch8 cc0_scratch9 cc0_scratch10 cc0_scratch11 cc0_scratch12 c v2 v58 w v1737 v1749
    kont v1728 v1780

set_option maxHeartbeats 4000000 in
/-- The last products. -/
theorem seg5b (c : Dev nD) (v2 v44 v58 : BitVec 32) (b : BitVec 1) (x y : BitVec 32) (hx : xM.IsWhole) (hw : wM.IsWhole) (ho : oM.IsWhole) (hwb : wbM.IsWhole) (hws : wsM.IsWhole)
    (hfl : flM.IsWhole) (hco : coM.IsWhole) (haa : aaM.IsWhole)
    {α : Type} {kont : F .f32 → FVec F S1x1x1 .f32 → Prog (TpuEff nD τ sig (Elt F) Λ₀ .tc) α} {Q : α → sProp 𝕄} :
    iprop(HI m ρ K ∗ Todo c 47 ∗ Poss c 73 ∗ (Lst m ρ c 0 ∗ Lst m ρ c 1 ∗ Lst m ρ c 2 ∗ Lst m ρ c 3) ∗ Out m ρ c (blks c 3))
      ⊢ iprop((∀ g t, ⌜k0_pay77 g t = shapeCast S1x8x128 (AM m ρ c) shapeCasts_S8x128_S1x8x128⌝ -∗ (Todo c 47 ∗ Poss c 75 ∗ (Lst m ρ c 0 ∗ Lst m ρ c 1 ∗ Lst m ρ c 2 ∗ Lst m ρ c 3)
            ∗ free c (chM (tA 3)) ∗ free c (chM (tB 3)) ∗ Out m ρ c (blks c 4)) -∗ WP c (kont g t) Q)
          -∗ WP c (prog5b c v2 v44 v58 (Wb m c) (amx m ρ c (blks c 3)) b x y hx hw ho hwb hws hfl hco haa kont) Q) := by
  unfold prog5b
  simp only [k0_part61_eq_skeleton, k0_part62_eq_skeleton, k0_part63_eq_skeleton, k0_part64_eq_skeleton, k0_part65_eq_skeleton, k0_part66_eq_skeleton, k0_part67_eq_skeleton]
  unfold k0_part61_skel k0_part62_skel k0_part63_skel k0_part64_skel k0_part65_skel k0_part66_skel k0_part67_skel
  simp only [semSignalWord, semWaitWord, Prog.lift, Prog.bind_op, Prog.bind_ret, Prog.pure_eq_ret]
  unfold Lst
  iintro ⟨#HH, HT, HP, ⟨⟨HL0, HS0⟩, ⟨HL1, HS1⟩, ⟨HL2, HS2⟩, HL3, HS3⟩, HO⟩ Hk
  iapply (wp_dotF m ρ c _ 0 5 (by clear * -; revert c; decide +kernel) (by intro v; rfl)) $$ [HS0 HO]
  · isplitl [HS0]; · iexact HS0
    iexact HO
  iintro ⟨HS0, HO⟩
  iapply (wp_dotF m ρ c _ 1 5 (by clear * -; revert c; decide +kernel) (by intro v; rfl)) $$ [HS1 HO]
  · isplitl [HS1]; · iexact HS1
    iexact HO
  iintro ⟨HS1, HO⟩
  iapply (wp_dotF m ρ c _ 2 5 (by clear * -; revert c; decide +kernel) (by intro v; rfl)) $$ [HS2 HO]
  · isplitl [HS2]; · iexact HS2
    iexact HO
  iintro ⟨HS2, HO⟩
  iapply (wp_dotF m ρ c _ 3 5 (by clear * -; revert c; decide +kernel) (by intro v; rfl)) $$ [HS3 HO]
  · isplitl [HS3]; · iexact HS3
    iexact HO
  iintro ⟨HS3, HO⟩
  iapply (wp_crcF m ρ K c 47 73 (tA 3) (by decide +kernel) _ (by rfl) (by rfl) (by clear * -; revert c; decide +kernel) (by intro v; rfl)) $$ [HT HP HO]
  · isplitr; · iexact HH
    isplitl [HT]; · iexact HT
    isplitl [HP]; · iexact HP
    iexact HO
  iintro ⟨HT, HP, HA3, HO⟩
  iapply (wp_crcF m ρ K c 47 74 (tB 3) (by decide +kernel) _ (by rfl) (by rfl) (by clear * -; revert c; decide +kernel) (by intro v; rfl)) $$ [HT HP HO]
  · isplitr; · iexact HH
    isplitl [HT]; · iexact HT
    isplitl [HP]; · iexact HP
    iexact HO
  iintro ⟨HT, HP, HB3, HO⟩
  iapply Hk $$ %_ %_ %(by
    unfold AM amv
    rw [show blks c 4 = _ from blks_succ c 3]
    simp only [amx_cons, Yb_bFl, Yb_bCh, Nat.reduceAdd]
    unfold mx k0_pay77 k0_pay76 k0_pay75 k0_pay74 k0_pay73 k0_pay72 k0_pay71 k0_pay70 k0_pay69 k0_pay68 k0_pay67 k0_pay66 k0_pay65 k0_pay12
    simp only [shapeCast_shapeCast])
  isplitl [HT]; · iexact HT
  isplitl [HP]; · iexact HP
  isplitl [HL0 HL1 HL2 HL3 HS0 HS1 HS2 HS3]
  · isplitl [HL0 HS0]
    · isplitl [HL0]; · iexact HL0
      iexact HS0
    isplitl [HL1 HS1]
    · isplitl [HL1]; · iexact HL1
      iexact HS1
    isplitl [HL2 HS2]
    · isplitl [HL2]; · iexact HL2
      iexact HS2
    isplitl [HL3]; · iexact HL3
    iexact HS3
  isplitl [HA3]; · iexact HA3
  isplitl [HB3]; · iexact HB3
  iexact HO

end Cert.KernelIdealProof
-- ==== Proof.I.Parts.lean ====
/-
# `Parts`: buffers and their slices
-/
module

public import proofs.«01_k».proof.Proof.I.W
public import Idealize.ShloMosaic.Lib.MemrefSat

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

/-! ## Slices with their unit axes dropped -/

theorem sq_owns (c : Dev nD) {sp : Space} {sh : Shape} {e : EltTy} (M : Memref sig .tc sp sh e) {s' : Shape} (hq : sh.Squeezes s') (q : PosShare TreeShare)
    (X : sh.Idx → Elt F e) (Y : s'.Idx → Elt F e) (h : ∀ f, M.view.read (Elt F) f = X → (M.squeeze s' hq).view.read (Elt F) f = Y) :
    (owns (c : Thread nD τ) M q X : sProp 𝕄) ⊢ owns (c : Thread nD τ) (M.squeeze s' hq) q Y := by
  iintro H
  ihave H := (owns_ex (F := F) c M q X) $$ H
  icases H with ⟨%f, %hf, H⟩
  rw [← h f hf]
  iapply (owns_intro (c : Thread nD τ) (M.squeeze s' hq) q f)
  rw [Memref.set_view_squeeze]
  iexact H

theorem sq_owns_back (c : Dev nD) {sp : Space} {sh : Shape} {e : EltTy} (M : Memref sig .tc sp sh e) {s' : Shape} (hq : sh.Squeezes s') (q : PosShare TreeShare)
    (X : sh.Idx → Elt F e) (Y : s'.Idx → Elt F e) (h : ∀ f, (M.squeeze s' hq).view.read (Elt F) f = Y → M.view.read (Elt F) f = X) :
    (owns (c : Thread nD τ) (M.squeeze s' hq) q Y : sProp 𝕄) ⊢ owns (c : Thread nD τ) M q X := by
  iintro H
  ihave H := (owns_ex (F := F) c (M.squeeze s' hq) q Y) $$ H
  icases H with ⟨%f, %hf, H⟩
  rw [← h f hf]
  iapply (owns_intro (c : Thread nD τ) M q f)
  rw [Memref.set_view_squeeze]
  iexact H

theorem free_sq (c : Dev nD) {sp : Space} {sh : Shape} {e : EltTy} (M : Memref sig .tc sp sh e) {s' : Shape} (hq : sh.Squeezes s') :
    (free c M : sProp 𝕄) ⊢ free c (M.squeeze s' hq) := by
  unfold free
  iintro ⟨%X, H⟩
  iexists (shapeCast s' X hq.numel_eq)
  iapply (sq_owns (F := F) c M hq fullShare X _ (fun f hf => by rw [← hf]; rfl)); iexact H

theorem free_unsq (c : Dev nD) {sp : Space} {sh : Shape} {e : EltTy} (M : Memref sig .tc sp sh e) {s' : Shape} (hq : sh.Squeezes s') :
    (free c (M.squeeze s' hq) : sProp 𝕄) ⊢ free c M := by
  unfold free
  iintro ⟨%Y, H⟩
  iexists (shapeCast sh Y hq.numel_eq.symm)
  iapply (sq_owns_back (F := F) c M hq fullShare _ Y (fun f hf => by rw [← hf]; exact (shapeCast_shapeCast _ _ _).symm)); iexact H

/-! ## A buffer and its slices -/

section Slices

variable (c : Dev nD) {sp : Space} {sh s' : Shape} {e : EltTy} (M : Memref sig .tc sp sh e) {T : Type} [Fintype T] [DecidableEq T]
  (r : T → Rect sh) (hr : ∀ t a, (r t).stride a = 1) (hd : ∀ t t', t ≠ t' → Disjoint (r t).set (r t').set)
  (hcov : (Finset.univ : Finset T).biUnion (fun t => (r t).set) = Finset.univ) (hq : ∀ t, (r t).shape.Squeezes s')
include hd hcov

/-- A buffer owned is each of its slices owned, -/
theorem free_slices : (free c M : sProp 𝕄) ⊢ bigSep Finset.univ fun t => free c ((M.slice (r t) (hr t)).squeeze s' (hq t)) := by
  refine BIBase.Entails.trans (Q := bigSep Finset.univ fun t => free (F := F) c (M.slice (r t) (hr t))) ?_ (bigSep_mono fun t _ => free_sq (F := F) c _ (hq t))
  unfold free
  iintro ⟨%X, H⟩
  ihave H' := ((owns_rects (c : Thread nD τ) M fullShare r hr hd hcov X).trans
    (bigSep_mono fun t _ => free_intro (F := F) c (M.slice (r t) (hr t)) _)) $$ H
  iexact H'

/-- and back. -/
theorem slices_free : (bigSep Finset.univ fun t => free c ((M.slice (r t) (hr t)).squeeze s' (hq t)) : sProp 𝕄) ⊢ free c M := by
  refine BIBase.Entails.trans (bigSep_mono fun t _ => (free_unsq (F := F) c _ (hq t)).trans
    (ownsSat_true (c : Thread nD τ) (M.slice (r t) (hr t)) fullShare).2) ?_
  refine (ownsSat_of_rects (c : Thread nD τ) M fullShare r hr hd hcov (fun _ _ => True)).trans ?_
  exact ownsSat_any (c : Thread nD τ) M fullShare

end Slices

/-! ## The rectangles -/

theorem slR_disj (t t' : Fin 4 × Fin 2) (h : t ≠ t') : Disjoint (slR t.1 t.2).set (slR t'.1 t'.2).set := by
  rw [Finset.disjoint_left]
  intro x hx hx'
  rw [Rect.mem_set_unit] at hx hx'
  have a0 := hx 0; have a1 := hx 1; have b0 := hx' 0; have b1 := hx' 1
  change t.1.val ≤ (x 0).val ∧ (x 0).val < t.1.val + 1 at a0
  change t.2.val ≤ (x 1).val ∧ (x 1).val < t.2.val + 1 at a1
  change t'.1.val ≤ (x 0).val ∧ (x 0).val < t'.1.val + 1 at b0
  change t'.2.val ≤ (x 1).val ∧ (x 1).val < t'.2.val + 1 at b1
  exact h (Prod.ext (Fin.ext (by omega)) (Fin.ext (by omega)))
theorem slR_cov : (Finset.univ : Finset (Fin 4 × Fin 2)).biUnion (fun t => (slR t.1 t.2).set) = Finset.univ := by
  refine Finset.eq_univ_of_forall fun x => Finset.mem_biUnion.mpr ⟨(⟨(x 0).val, (x 0).isLt⟩, ⟨(x 1).val, (x 1).isLt⟩), Finset.mem_univ _, ?_⟩
  rw [Rect.mem_set_unit]
  intro a
  fin_cases a
  · exact ⟨le_refl _, Nat.lt_succ_self _⟩
  · exact ⟨le_refl _, Nat.lt_succ_self _⟩
  · exact ⟨Nat.zero_le _, by show (x 2).val < 0 + 128; have := (x 2).isLt; change (x 2).val < 128 at this; omega⟩
  · exact ⟨Nat.zero_le _, by show (x 3).val < 0 + 4096; have := (x 3).isLt; change (x 3).val < 4096 at this; omega⟩

theorem chR_disj (t t' : Fin 8) (h : t ≠ t') : Disjoint (chR t).set (chR t').set := by
  rw [Finset.disjoint_left]
  intro x hx hx'
  rw [Rect.mem_set_unit] at hx hx'
  have a0 := hx 0; have b0 := hx' 0
  change t.val ≤ (x 0).val ∧ (x 0).val < t.val + 1 at a0
  change t'.val ≤ (x 0).val ∧ (x 0).val < t'.val + 1 at b0
  exact h (Fin.ext (by omega))
theorem chR_cov : (Finset.univ : Finset (Fin 8)).biUnion (fun t => (chR t).set) = Finset.univ := by
  refine Finset.eq_univ_of_forall fun x => Finset.mem_biUnion.mpr ⟨⟨(x 0).val, (x 0).isLt⟩, Finset.mem_univ _, ?_⟩
  rw [Rect.mem_set_unit]
  intro a
  fin_cases a
  · exact ⟨le_refl _, Nat.lt_succ_self _⟩
  · exact ⟨Nat.zero_le _, by show (x 1).val < 0 + 128; have := (x 1).isLt; change (x 1).val < 128 at this; omega⟩
  · exact ⟨Nat.zero_le _, by show (x 2).val < 0 + 4096; have := (x 2).isLt; change (x 2).val < 4096 at this; omega⟩

theorem amR_disj (t t' : Fin 8) (h : t ≠ t') : Disjoint (amR t).set (amR t').set := by
  rw [Finset.disjoint_left]
  intro x hx hx'
  rw [Rect.mem_set_unit] at hx hx'
  have a0 := hx 0; have b0 := hx' 0
  change t.val ≤ (x 0).val ∧ (x 0).val < t.val + 1 at a0
  change t'.val ≤ (x 0).val ∧ (x 0).val < t'.val + 1 at b0
  exact h (Fin.ext (by omega))
theorem amR_cov : (Finset.univ : Finset (Fin 8)).biUnion (fun t => (amR t).set) = Finset.univ := by
  refine Finset.eq_univ_of_forall fun x => Finset.mem_biUnion.mpr ⟨⟨(x 0).val, (x 0).isLt⟩, Finset.mem_univ _, ?_⟩
  rw [Rect.mem_set_unit]
  intro a
  fin_cases a
  · exact ⟨le_refl _, Nat.lt_succ_self _⟩
  · exact ⟨Nat.zero_le _, by show (x 1).val < 0 + 8; have := (x 1).isLt; change (x 1).val < 8 at this; omega⟩
  · exact ⟨Nat.zero_le _, by show (x 2).val < 0 + 128; have := (x 2).isLt; change (x 2).val < 128 at this; omega⟩

theorem wR_disj (t t' : Fin 4) (h : t ≠ t') : Disjoint (wR t).set (wR t').set := by
  rw [Finset.disjoint_left]
  intro x hx hx'
  rw [Rect.mem_set_unit] at hx hx'
  have a0 := hx 0; have b0 := hx' 0
  change 1024 * t.val ≤ (x 0).val ∧ (x 0).val < 1024 * t.val + 1024 at a0
  change 1024 * t'.val ≤ (x 0).val ∧ (x 0).val < 1024 * t'.val + 1024 at b0
  exact h (Fin.ext (by omega))
theorem wR_cov : (Finset.univ : Finset (Fin 4)).biUnion (fun t => (wR t).set) = Finset.univ := by
  refine Finset.eq_univ_of_forall fun x => ?_
  have hx : (x 0).val < 4096 := (x 0).isLt
  refine Finset.mem_biUnion.mpr ⟨⟨(x 0).val / 1024, by omega⟩, Finset.mem_univ _, ?_⟩
  rw [Rect.mem_set_unit]
  intro a
  fin_cases a
  · show 1024 * ((x 0).val / 1024) ≤ (x 0).val ∧ (x 0).val < 1024 * ((x 0).val / 1024) + 1024
    omega
  · exact ⟨Nat.zero_le _, by show (x 1).val < 0 + 1024; have := (x 1).isLt; change (x 1).val < 1024 at this; omega⟩

/-! ## The buffers -/

theorem slots_split (c : Dev nD) : free (F := F) c flM ⊢ bigSep Finset.univ fun t : Fin 4 × Fin 2 => free c (slotM t.1 t.2) :=
  free_slices (F := F) c flM (fun t : Fin 4 × Fin 2 => slR t.1 t.2) (fun _ _ => rfl) slR_disj slR_cov (fun _ => squeezes_S1x1x128x4096_S128x4096)
theorem slots_join (c : Dev nD) : (bigSep Finset.univ fun t : Fin 4 × Fin 2 => free c (slotM t.1 t.2)) ⊢ free (F := F) c flM :=
  slices_free (F := F) c flM (fun t : Fin 4 × Fin 2 => slR t.1 t.2) (fun _ _ => rfl) slR_disj slR_cov (fun _ => squeezes_S1x1x128x4096_S128x4096)
theorem chs_split (c : Dev nD) : free (F := F) c coM ⊢ bigSep Finset.univ fun t : Fin 8 => free c (chM t) :=
  free_slices (F := F) c coM chR (fun _ _ => rfl) chR_disj chR_cov (fun _ => squeezes_S1x128x4096_S128x4096)
theorem chs_join (c : Dev nD) : (bigSep Finset.univ fun t : Fin 8 => free c (chM t)) ⊢ free (F := F) c coM :=
  slices_free (F := F) c coM chR (fun _ _ => rfl) chR_disj chR_cov (fun _ => squeezes_S1x128x4096_S128x4096)
theorem rows_split (c : Dev nD) : free (F := F) c aaM ⊢ bigSep Finset.univ fun t : Fin 8 => free c (amM t) :=
  free_slices (F := F) c aaM amR (fun _ _ => rfl) amR_disj amR_cov (fun _ => squeezes_S1x8x128_S8x128)

/-- The weights, by row blocks. -/
theorem w_split (c : Dev nD) (q : PosShare TreeShare) : (owns (c : Thread nD τ) wM q (m ((c : Thread nD τ).loc main_arg1)) : sProp 𝕄)
    ⊢ bigSep Finset.univ fun i : Fin 4 => owns (c : Thread nD τ) (wsrc i) q (wblk m c i) :=
  owns_rects (c : Thread nD τ) wM q wR (fun _ _ => rfl) wR_disj wR_cov (m ((c : Thread nD τ).loc main_arg1))

/-- The table of maxima. -/
def AMt : Vec F S8x8x128 .f32 := fun i => amv m ρ (⟨(i 0).val, (i 0).isLt⟩ : Fin 8)

theorem rows_join (c : Dev nD) : (bigSep Finset.univ fun r : Fin 8 => owns (c : Thread nD τ) (amM r) fullShare (AM m ρ r) : sProp 𝕄)
    ⊢ owns (c : Thread nD τ) aaM fullShare (AMt m ρ) := by
  refine BIBase.Entails.trans (bigSep_mono fun r _ => ?_) (owns_of_rects (c : Thread nD τ) aaM fullShare amR (fun _ _ => rfl) amR_disj amR_cov (AMt m ρ))
  refine sq_owns_back (F := F) c (aaM.slice (amR r) (fun _ => rfl)) squeezes_S1x8x128_S8x128 fullShare _ _ (fun f hf => ?_)
  have h1 : (aaM.slice (amR r) (fun _ => rfl)).view.read (Elt F) f = shapeCast S1x8x128 (AM m ρ r) shapeCasts_S8x128_S1x8x128 := by
    rw [← hf]; exact (shapeCast_shapeCast _ _ _).symm
  rw [h1]
  funext j
  show amv m ρ r = amv m ρ _
  congr 1
  apply Fin.ext
  have : (j 0).val < 1 := (j 0).isLt
  show r.val = r.val + 1 * (j 0).val
  omega

end Cert.KernelIdealProof
-- ==== Proof.I.Seg6.lean ====
/-
# `Seg6`: the exchange of the maxima
-/
module

public import proofs.«01_k».proof.Proof.I.Seg5
public import proofs.«01_k».proof.Proof.I.Parts

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

variable (K : Dev nD × CK → ℕ)

/-! ## The exchange of the maxima -/

/-- Row `c` of the table, at any spelling of its offset. -/
theorem row_eq (c : Dev nD) {off : Fin 3 → Nat} {inb : ∀ a, off a + S1x8x128.size a ≤ S8x8x128.size a} (h : off = ![c.val, 0, 0]) :
    ((aaM.slice (Rect.unit (s := S8x8x128) off S1x8x128.size inb) (fun _ => rfl)).squeeze S8x128 squeezes_S1x8x128_S8x128 : Memref sig .tc .vmem S8x128 .f32) = amM c := by
  subst h; rfl

/-- A device writes its own row. -/
theorem wp_row (c : Dev nD) {off : Fin 3 → Nat} {inb : ∀ a, off a + S1x8x128.size a ≤ S8x8x128.size a} (h : off = ![c.val, 0, 0])
    {V : Vec F S1x8x128 .f32} (hV : V = shapeCast S1x8x128 (AM m ρ c) shapeCasts_S8x128_S1x8x128)
    {hl : (aaM : Memref sig .tc .vmem S8x8x128 .f32).view.LoadsAt (Rect.unit (s := S8x8x128) off S1x8x128.size inb).toLoadRect}
    {hx : ((aaM : Memref sig .tc .vmem S8x8x128 .f32).access (Rect.unit (s := S8x8x128) off S1x8x128.size inb)).Stores Finset.univ}
    {hm : (Finset.univ : Finset (Rect.unit (s := S8x8x128) off S1x8x128.size inb).shape.Idx) = Finset.univ ∨ ∀ a, (Rect.unit (s := S8x8x128) off S1x8x128.size inb).stride a = 1}
    {α : Type} {kont : PUnit → Prog (TpuEff nD τ sig (Elt F) Λ₀ .tc) α} {Q : α → sProp 𝕄} :
    (free c (amM c) : sProp 𝕄)
      ⊢ iprop((owns (c : Thread nD τ) (amM c) fullShare (AM m ρ c) -∗ WP c (kont ⟨⟩) Q)
          -∗ WP c (.op (.load (cs := .vmem) aaM (Rect.unit (s := S8x8x128) off S1x8x128.size inb).toLoadRect hl)
            fun _ => .op (.store (cs := .vmem) aaM (Rect.unit (s := S8x8x128) off S1x8x128.size inb) V Finset.univ hx hm) kont) Q) := by
  subst h
  subst hV
  unfold free
  iintro ⟨%X, H⟩ Hk
  iapply (wp_slot_ld c (M := aaM) (hq := squeezes_S1x8x128_S8x128) shapeCasts_S8x128_S1x8x128) $$ H
  iintro H
  iapply (wp_slot_st c (M := aaM) (hq := squeezes_S1x8x128_S8x128) shapeCasts_S1x8x128_S8x128) $$ [H]
  · iapply (free_intro (F := F) c (amM c) X); iexact H
  iintro H
  iapply Hk
  iapply (show (owns (c : Thread nD τ) (amM c) fullShare (shapeCast S8x128 (shapeCast S1x8x128 (AM m ρ c) shapeCasts_S8x128_S1x8x128) shapeCasts_S1x8x128_S8x128) : sProp 𝕄)
    ⊢ owns (c : Thread nD τ) (amM c) fullShare (AM m ρ c) from by rw [shapeCast_shapeCast])
  iexact H

theorem credit_am (r : Fin 8) : (amM r).view.dmaCredit = Nam := rfl

theorem r_arc (d : Fin 8) (h : 0 < d.val) : 0 < rounds (arc d) := by revert d; decide
theorem r_asn (d : Fin 8) (h : 0 < d.val) : 0 < rounds (asn d) := by revert d; decide

def okArc (p w : ℕ) (d : Fin 8) : Bool := decide (items[p]? = some (iArc d)) && decide (posAt w (asn d) = 0)

/-- A device sends its row to the one `d` further on. -/
theorem wp_arc (c : Dev nD) (p w k : ℕ) (d : Fin 8) (hk : d.val = k + 1) (ok : okArc p w d = true)
    {n : Dev nD} (hn : n = add d c) {src dst : Memref sig .tc .vmem S8x128 .f32} (hsr : src = amM c) (hds : dst = amM c)
    {s₁ s₂ : DmaSem sig} (hs₁ : SemLoc.dma s₁ = sem (asn d)) (hs₂ : SemLoc.dma s₂ = sem (arc d))
    {hsc : dst.view.ref.isScScratch = false} {hsrc : src.view.WordExact} {hdst : dst.view.WordExact}
    {hsem : DmaTarget.Typed .vmem (.dma s₂) (.remote (Dev.tc n : Thread nD τ) dst (.dma s₁) hsc)}
    {α : Type} {kont : PUnit → Prog (TpuEff nD τ sig (Elt F) Λ₀ .tc) α} {Q : α → sProp 𝕄} :
    iprop(HI m ρ K ∗ Todo c p ∗ Poss c w ∗ owns (c : Thread nD τ) (amM c) (shq k) (AM m ρ c) ∗ R (add d c) c)
      ⊢ iprop(((Todo c (p + 1) ∗ Poss c w ∗ owns (c : Thread nD τ) (amM c) (shq (k + 1)) (AM m ρ c) ∗ cred (tallyAt (cell c (asn d)) 0 (need (asn d)))) -∗ WP c (kont ⟨⟩) Q)
          -∗ WP c (.op (.enqueueDma src (.remote (Dev.tc n : Thread nD τ) dst (.dma s₁) hsc) (.dma s₂) hsrc hdst hsem) kont) Q) := by
  subst hsr; subst hds
  unfold okArc at ok
  rw [Bool.and_eq_true, decide_eq_true_iff, decide_eq_true_iff] at ok
  obtain ⟨hi, hw⟩ := ok
  iintro ⟨#HH, HT, HP, HS, HR⟩ Hk
  ihave HS := (halves_split (F := F) c (amM c) (shq k) (AM m ρ c)) $$ HS
  icases HS with ⟨HSl, HSr⟩
  iapply (wp_put m ρ K c p w (iArc d) (asn d) 0 hi rfl (Finset.mem_singleton_self _) (r_arc d (by omega)) (Finset.mem_singleton_self _) (r_asn d (by omega)) hw
    (show n = tgt (arc d) 0 c from hn) hs₁ hs₂ ((credit_am c).trans (need_asn d).symm) (need_asn d).symm (need_asn d).symm
    (X := AM m ρ c) (q := (shq k).left) (Fr := iprop(emp))
    (by show _ ⊢ (owns (c : Thread nD τ) (amM c) (shq (d.val - 1)).left (AM m ρ c) : sProp 𝕄); rw [hk, Nat.add_sub_cancel])
    (by
      show _ ⊢ (owns (add d c : Thread nD τ) (amM (sub d (add d c))) fullShare (AM m ρ (sub d (add d c))) : sProp 𝕄)
      rw [sub_add]
      iintro ⟨H, -⟩
      iexact H)) $$ [HT HP HSl HR]
  · isplitr; · iexact HH
    isplitl [HT]; · iexact HT
    isplitl [HP]; · iexact HP
    isplitl [HSl]; · iexact HSl
    isplitl [HR]; · iexact HR
    isplitr; · iempintro
    iapply (HI_reached m ρ K _ (arc d)); iexact HH
  iintro ⟨HT, HP, HC⟩
  iapply Hk
  isplitl [HT]; · iexact HT
  isplitl [HP]; · iexact HP
  isplitl [HSr]; · iexact HSr
  iexact HC

/-- A row arrives. -/
theorem wp_arw (c : Dev nD) (p w : ℕ) (d : Fin 8) (ok : okW w (arc d) 0 p = true)
    {w₁ w₂ : Memref sig .tc .vmem S8x128 .f32} (hw₂ : w₂.view.dmaCredit = Nam) {s : DmaSem sig} (hs : SemLoc.dma s = sem (arc d))
    {e₁ : w₁.view.WordExact} {e₂ : w₂.view.WordExact}
    {α : Type} {kont : PUnit → Prog (TpuEff nD τ sig (Elt F) Λ₀ .tc) α} {Q : α → sProp 𝕄} :
    iprop(HI m ρ K ∗ Todo c p ∗ Poss c w)
      ⊢ iprop(((Todo c p ∗ Poss c (w + 1) ∗ owns (c : Thread nD τ) (amM (sub d c)) fullShare (AM m ρ (sub d c))) -∗ WP c (kont ⟨⟩) Q)
          -∗ WP c (.op (.waitDma2 s w₁ w₂ e₁ e₂) kont) Q) :=
  wp_dwait m ρ K c w p (arc d) 0 ok rfl hs (hw₂.trans (need_arc d).symm)

/-- A row has left, and the share it was sent from comes back. -/
theorem wp_asw (c : Dev nD) (p w k : ℕ) (d : Fin 8) (hk : d.val = k + 1) (ok : okW w (asn d) 0 p = true)
    {w₁ w₂ : Memref sig .tc .vmem S8x128 .f32} (hw₂ : w₂.view.dmaCredit = Nam) {s : DmaSem sig} (hs : SemLoc.dma s = sem (asn d))
    {e₁ : w₁.view.WordExact} {e₂ : w₂.view.WordExact}
    {α : Type} {kont : PUnit → Prog (TpuEff nD τ sig (Elt F) Λ₀ .tc) α} {Q : α → sProp 𝕄} :
    iprop(HI m ρ K ∗ Todo c p ∗ Poss c w ∗ cred (tallyAt (cell c (asn d)) 0 (need (asn d))))
      ⊢ iprop(((Todo c p ∗ Poss c (w + 1) ∗ owns (c : Thread nD τ) (amM c) (shq k).left (AM m ρ c)) -∗ WP c (kont ⟨⟩) Q)
          -∗ WP c (.op (.waitDma2 s w₁ w₂ e₁ e₂) kont) Q) := by
  have e : k = d.val - 1 := by omega
  subst e
  exact wp_owait m ρ K c w p (asn d) 0 ok hs (hw₂.trans (need_asn d).symm)

theorem share_back (c : Dev nD) (k : ℕ) :
    iprop(owns (c : Thread nD τ) (amM c) (shq k).left (AM m ρ c) ∗ owns (c : Thread nD τ) (amM c) (shq (k + 1)) (AM m ρ c))
      ⊢ (owns (c : Thread nD τ) (amM c) (shq k) (AM m ρ c) : sProp 𝕄) := halves_join (F := F) c (amM c) (shq k) (AM m ρ c)

theorem bsl_perm {I : Type} [DecidableEq I] {l l' : List I} (h : l.Perm l') (hn : l.Nodup) (Φ : I → sProp 𝕄) : bigSepL l Φ = bigSepL l' Φ :=
  (bigSep_eq_bigSepL_of_eq l rfl hn Φ).symm.trans (bigSep_eq_bigSepL_of_eq l' (List.toFinset_eq_of_perm _ _ h) (h.nodup_iff.mp hn) Φ)

/-- The rows a device may write on the others. -/
def Rows (c : Dev nD) : sProp 𝕄 := bigSepL [1, 2, 3, 4, 5, 6, 7] fun d : Fin 8 => R (F := F) (add d c) c

theorem Rows_heads (c : Dev nD) : iprop(Heads (F := F) c 0 ∗ Heads c 1 ∗ Heads c 2 ∗ Heads c 3) ⊢ Rows c := by
  have hp : ∀ c : Dev nD, ([org 0 1 c, org 2 1 c, org 0 2 c, org 2 2 c, org 0 3 c, org 2 3 c, org 0 4 c] : List (Dev nD)).Perm
      [add 1 c, add 2 c, add 3 c, add 4 c, add 5 c, add 6 c, add 7 c] := by decide +kernel
  have hn : ∀ c : Dev nD, ([org 0 1 c, org 2 1 c, org 0 2 c, org 2 2 c, org 0 3 c, org 2 3 c, org 0 4 c] : List (Dev nD)).Nodup := by decide +kernel
  have e : Rows (F := F) c = bigSepL [add 1 c, add 2 c, add 3 c, add 4 c, add 5 c, add 6 c, add 7 c] fun o => R (F := F) o c := by
    unfold Rows
    simp only [bsl_cons, bigSepL_nil]
  rw [e, ← bsl_perm (hp c) (hn c)]
  rw [bsl_cons, bsl_cons, bsl_cons, bsl_cons, bsl_cons, bsl_cons, bsl_cons]
  unfold Heads
  iintro ⟨⟨H0, H1⟩, ⟨H2, H3⟩, ⟨H4, H5⟩, H6, -⟩
  isplitl [H0]; · iapply (show headR (F := F) 0 0 c ⊢ R (org 0 1 c) c from .rfl); iexact H0
  isplitl [H1]; · iapply (show headR (F := F) 2 0 c ⊢ R (org 2 1 c) c from .rfl); iexact H1
  isplitl [H2]; · iapply (show headR (F := F) 0 1 c ⊢ R (org 0 2 c) c from .rfl); iexact H2
  isplitl [H3]; · iapply (show headR (F := F) 2 1 c ⊢ R (org 2 2 c) c from .rfl); iexact H3
  isplitl [H4]; · iapply (show headR (F := F) 0 2 c ⊢ R (org 0 3 c) c from .rfl); iexact H4
  isplitl [H5]; · iapply (show headR (F := F) 2 2 c ⊢ R (org 2 3 c) c from .rfl); iexact H5
  isplitl [H6]; · iapply (show headR (F := F) 0 3 c ⊢ R (org 0 4 c) c from .rfl); iexact H6
  iapply (show (iprop(emp) : sProp 𝕄) ⊢ bigSepL [] fun o : Dev nD => R (F := F) o c from by rw [bigSepL_nil]; exact .rfl)
  iempintro

/-- All rows have arrived. -/
theorem table (c : Dev nD) :
    iprop(owns (c : Thread nD τ) (amM c) fullShare (AM m ρ c) ∗ bigSepL [1, 2, 3, 4, 5, 6, 7] fun d : Fin 8 => (owns (c : Thread nD τ) (amM (sub d c)) fullShare (AM m ρ (sub d c)) : sProp 𝕄))
      ⊢ (owns (c : Thread nD τ) aaM fullShare (AMt m ρ) : sProp 𝕄) := by
  have hp : ∀ c : Dev nD, (Finset.univ : Finset (Fin 8)) = ([c, sub 1 c, sub 2 c, sub 3 c, sub 4 c, sub 5 c, sub 6 c, sub 7 c] : List (Fin 8)).toFinset := by decide +kernel
  have hn : ∀ c : Dev nD, ([c, sub 1 c, sub 2 c, sub 3 c, sub 4 c, sub 5 c, sub 6 c, sub 7 c] : List (Fin 8)).Nodup := by decide +kernel
  refine BIBase.Entails.trans ?_ (rows_join m ρ c)
  rw [bigSep_univ_eq_bigSepL _ (hp c) (hn c)]
  simp only [bsl_cons, bigSepL_nil]
  exact .rfl

/-- The table is read whole. -/
theorem whole_idx_tab (X : S8x8x128.Idx → Elt F .f32) :
    (fun i => X ((Rect.unit (s := S8x8x128) ![0, 0, 0] S8x8x128.size inb_S8x8x128_S8x8x128_0_0_0).toLoadRect.idx i)) = X := by
  funext i
  congr 1
  funext a
  apply Fin.ext
  fin_cases a
  · show 0 + 1 * (i 0).val = (i 0).val; omega
  · show 0 + 1 * (i 1).val = (i 1).val; omega
  · show 0 + 1 * (i 2).val = (i 2).val; omega

theorem slots_all (c : Dev nD) :
    iprop((free (F := F) c (slotM 0 0) ∗ free c (slotM 0 1)) ∗ (free c (slotM 1 0) ∗ free c (slotM 1 1)) ∗ (free c (slotM 2 0) ∗ free c (slotM 2 1))
        ∗ free c (slotM 3 0) ∗ free c (slotM 3 1)) ⊢ free c flM := by
  refine BIBase.Entails.trans ?_ (slots_join (F := F) c)
  rw [bigSep_univ_eq_bigSepL [((0 : Fin 4), (0 : Fin 2)), (0, 1), (1, 0), (1, 1), (2, 0), (2, 1), (3, 0), (3, 1)] (by decide) (by decide)]
  rw [bsl_cons, bsl_cons, bsl_cons, bsl_cons, bsl_cons, bsl_cons, bsl_cons, bsl_cons, bigSepL_nil]
  iintro ⟨⟨H0, H1⟩, ⟨H2, H3⟩, ⟨H4, H5⟩, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iempintro

/-- A flow's two slots come home. -/
theorem home (c : Dev nD) (f : Fin 4) :
    iprop(Lst m ρ c f ∗ Sh m ρ c f 4 false) ⊢ iprop(free (F := F) c (slotM f 0) ∗ free c (slotM f 1)) := by
  unfold Lst
  iintro ⟨⟨HL, H1⟩, HR⟩
  isplitl [HL HR]
  · iapply (free_intro (F := F) c (slotM f 0) (Xc m ρ f 4 c))
    iapply (halves_join (F := F) c (slotM f 0) fullShare (Xc m ρ f 4 c))
    isplitl [HL]; · iexact HL
    iexact HR
  iapply (free_intro (F := F) c (slotM f 1) (Xc m ρ f 5 c))
  iexact H1

/-- Parts 68 to 78 of the body, before a continuation. -/
def prog6 (c : Dev nD) (v2 : BitVec 32) (g : F .f32) (t : FVec F S1x1x1 .f32) (hx : xM.IsWhole) (hw : wM.IsWhole) (ho : oM.IsWhole) (hwb : wbM.IsWhole) (hws : wsM.IsWhole)
    (hfl : flM.IsWhole) (hco : coM.IsWhole) (haa : aaM.IsWhole)
    {α : Type} (kont : F .f32 → F .f32 → Prog (TpuEff nD τ sig (Elt F) Λ₀ .tc) α) : Prog (TpuEff nD τ sig (Elt F) Λ₀ .tc) α := do
    let ⟨v1811, v1812, v1813, v1814, c0_i32_2063⟩ : Σ' (v1811 : BitVec 32) (v1812 : BitVec 32) (v1813 : BitVec 1) (v1814 : BitVec 1), BitVec 32 ← k0_part68 xM hx wM hw oM ho wbM hwb wsM hws flM hfl coM hco aaM haa cc0_scratch5 cc0_scratch6 cc0_scratch7 cc0_scratch8 cc0_scratch9 cc0_scratch10 cc0_scratch11 cc0_scratch12 c v2 g t
    k0_part69 xM hx wM hw oM ho wbM hwb wsM hws flM hfl coM hco aaM haa cc0_scratch5 cc0_scratch6 cc0_scratch7 cc0_scratch8 cc0_scratch9 cc0_scratch10 cc0_scratch11 cc0_scratch12 c v2 v1811 v1812 v1813 v1814 c0_i32_2063
    let v1883 : BitVec 32 ← k0_part70 xM hx wM hw oM ho wbM hwb wsM hws flM hfl coM hco aaM haa cc0_scratch5 cc0_scratch6 cc0_scratch7 cc0_scratch8 cc0_scratch9 cc0_scratch10 cc0_scratch11 cc0_scratch12 c v2
    let ⟨v1916, v1917⟩ : Σ' (v1916 : BitVec 32), BitVec 32 ← k0_part71 xM hx wM hw oM ho wbM hwb wsM hws flM hfl coM hco aaM haa cc0_scratch5 cc0_scratch6 cc0_scratch7 cc0_scratch8 cc0_scratch9 cc0_scratch10 cc0_scratch11 cc0_scratch12 c v2 v1883
    k0_part72 xM hx wM hw oM ho wbM hwb wsM hws flM hfl coM hco aaM haa cc0_scratch5 cc0_scratch6 cc0_scratch7 cc0_scratch8 cc0_scratch9 cc0_scratch10 cc0_scratch11 cc0_scratch12 c v1916 v1917
    let v1977 : BitVec 32 ← k0_part73 xM hx wM hw oM ho wbM hwb wsM hws flM hfl coM hco aaM haa cc0_scratch5 cc0_scratch6 cc0_scratch7 cc0_scratch8 cc0_scratch9 cc0_scratch10 cc0_scratch11 cc0_scratch12 c v2
    let ⟨v2006, v2007, v2008, v2009⟩ : Σ' (v2006 : BitVec 32) (v2007 : BitVec 32) (v2008 : BitVec 1), BitVec 1 ← k0_part74 xM hx wM hw oM ho wbM hwb wsM hws flM hfl coM hco aaM haa cc0_scratch5 cc0_scratch6 cc0_scratch7 cc0_scratch8 cc0_scratch9 cc0_scratch10 cc0_scratch11 cc0_scratch12 c v2 v1977
    let v2042 : BitVec 32 ← k0_part75 xM hx wM hw oM ho wbM hwb wsM hws flM hfl coM hco aaM haa cc0_scratch5 cc0_scratch6 cc0_scratch7 cc0_scratch8 cc0_scratch9 cc0_scratch10 cc0_scratch11 cc0_scratch12 c v2 v2006 v2007 v2008 v2009
    k0_part76 xM hx wM hw oM ho wbM hwb wsM hws flM hfl coM hco aaM haa cc0_scratch5 cc0_scratch6 cc0_scratch7 cc0_scratch8 cc0_scratch9 cc0_scratch10 cc0_scratch11 cc0_scratch12 c v2 v2042
    k0_part77 xM hx wM hw oM ho wbM hwb wsM hws flM hfl coM hco aaM haa cc0_scratch5 cc0_scratch6 cc0_scratch7 cc0_scratch8 cc0_scratch9 cc0_scratch10 cc0_scratch11 cc0_scratch12 c
    let ⟨v2127, v2128⟩ : Σ' (v2127 : F .f32), F .f32 ← k0_part78 xM hx wM hw oM ho wbM hwb wsM hws flM hfl coM hco aaM haa cc0_scratch5 cc0_scratch6 cc0_scratch7 cc0_scratch8 cc0_scratch9 cc0_scratch10 cc0_scratch11 cc0_scratch12 c
    kont v2127 v2128

set_option maxHeartbeats 4000000 in
/-- The exchange of the maxima. -/
theorem seg6 (c : Dev nD) (v2 : BitVec 32) (g : F .f32) (t : FVec F S1x1x1 .f32) (hx : xM.IsWhole) (hw : wM.IsWhole) (ho : oM.IsWhole) (hwb : wbM.IsWhole) (hws : wsM.IsWhole)
    (hfl : flM.IsWhole) (hco : coM.IsWhole) (haa : aaM.IsWhole)
    (hA : k0_pay77 g t = shapeCast S1x8x128 (AM m ρ c) shapeCasts_S8x128_S1x8x128)
    {α : Type} {kont : F .f32 → F .f32 → Prog (TpuEff nD τ sig (Elt F) Λ₀ .tc) α} {Q : α → sProp 𝕄} :
    iprop(HI m ρ K ∗ Todo c 47 ∗ Poss c 75 ∗ (Lst m ρ c 0 ∗ Lst m ρ c 1 ∗ Lst m ρ c 2 ∗ Lst m ρ c 3) ∗ Sh4 m ρ c 4 (lent c 3) ∗ Cc c (tA 3) ∗ Cc c (tB 3)
        ∗ Rows c ∗ R c c)
      ⊢ iprop(((Todo c 54 ∗ Poss c 91 ∗ free c flM ∗ owns (c : Thread nD τ) aaM fullShare (AMt m ρ)) -∗ WP c (kont (k0_pay79 (AMt m ρ)) (k0_pay80 (AMt m ρ))) Q)
          -∗ WP c (prog6 c v2 g t hx hw ho hwb hws hfl hco haa kont) Q) := by
  unfold prog6
  simp only [k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton]
  unfold k0_part68_skel k0_part69_skel k0_part70_skel k0_part71_skel k0_part72_skel k0_part73_skel k0_part74_skel k0_part75_skel k0_part76_skel k0_part77_skel k0_part78_skel
  simp only [semSignalWord, semWaitWord, Prog.lift, Prog.bind_op, Prog.bind_ret, Prog.pure_eq_ret]
  unfold Rows Sh4
  rw [bsl_cons, bsl_cons, bsl_cons, bsl_cons, bsl_cons, bsl_cons, bsl_cons]
  iintro ⟨#HH, HT, HP, ⟨HL0, HL1, HL2, HL3⟩, ⟨HS0, HS1, HS2, HS3⟩, HCA, HCB, ⟨HR1, HR2, HR3, HR4, HR5, HR6, HR7, -⟩, HR⟩ Hk
  iapply (wp_row m ρ c (by clear * -; revert c; decide +kernel) hA) $$ [HR]
  · iapply (show R (F := F) c c ⊢ free c (amM c) from .rfl); iexact HR
  iintro HA
  iapply (wp_arc m ρ K c 47 75 0 1 rfl (by decide +kernel) (Fin.ext (by clear * -; revert c; decide +kernel)) (row_eq c (by clear * -; revert c; decide +kernel)) (row_eq c (by clear * -; revert c; decide +kernel)) (by rfl) (by rfl)) $$ [HT HP HA HR1]
  · isplitr; · iexact HH
    isplitl [HT]; · iexact HT
    isplitl [HP]; · iexact HP
    isplitl [HA]; · iexact HA
    iexact HR1
  iintro ⟨HT, HP, HA, HX1⟩
  iapply (wp_arc m ρ K c 48 75 1 2 rfl (by decide +kernel) (Fin.ext (by clear * -; revert c; decide +kernel)) (row_eq c (by clear * -; revert c; decide +kernel)) (row_eq c (by clear * -; revert c; decide +kernel)) (by rfl) (by rfl)) $$ [HT HP HA HR2]
  · isplitr; · iexact HH
    isplitl [HT]; · iexact HT
    isplitl [HP]; · iexact HP
    isplitl [HA]; · iexact HA
    iexact HR2
  iintro ⟨HT, HP, HA, HX2⟩
  iapply (wp_arc m ρ K c 49 75 2 3 rfl (by decide +kernel) (Fin.ext (by clear * -; revert c; decide +kernel)) (row_eq c (by clear * -; revert c; decide +kernel)) (row_eq c (by clear * -; revert c; decide +kernel)) (by rfl) (by rfl)) $$ [HT HP HA HR3]
  · isplitr; · iexact HH
    isplitl [HT]; · iexact HT
    isplitl [HP]; · iexact HP
    isplitl [HA]; · iexact HA
    iexact HR3
  iintro ⟨HT, HP, HA, HX3⟩
  iapply (wp_arc m ρ K c 50 75 3 4 rfl (by decide +kernel) (Fin.ext (by clear * -; revert c; decide +kernel)) (row_eq c (by clear * -; revert c; decide +kernel)) (row_eq c (by clear * -; revert c; decide +kernel)) (by rfl) (by rfl)) $$ [HT HP HA HR4]
  · isplitr; · iexact HH
    isplitl [HT]; · iexact HT
    isplitl [HP]; · iexact HP
    isplitl [HA]; · iexact HA
    iexact HR4
  iintro ⟨HT, HP, HA, HX4⟩
  iapply (wp_arc m ρ K c 51 75 4 5 rfl (by decide +kernel) (Fin.ext (by clear * -; revert c; decide +kernel)) (row_eq c (by clear * -; revert c; decide +kernel)) (row_eq c (by clear * -; revert c; decide +kernel)) (by rfl) (by rfl)) $$ [HT HP HA HR5]
  · isplitr; · iexact HH
    isplitl [HT]; · iexact HT
    isplitl [HP]; · iexact HP
    isplitl [HA]; · iexact HA
    iexact HR5
  iintro ⟨HT, HP, HA, HX5⟩
  iapply (wp_arc m ρ K c 52 75 5 6 rfl (by decide +kernel) (Fin.ext (by clear * -; revert c; decide +kernel)) (row_eq c (by clear * -; revert c; decide +kernel)) (row_eq c (by clear * -; revert c; decide +kernel)) (by rfl) (by rfl)) $$ [HT HP HA HR6]
  · isplitr; · iexact HH
    isplitl [HT]; · iexact HT
    isplitl [HP]; · iexact HP
    isplitl [HA]; · iexact HA
    iexact HR6
  iintro ⟨HT, HP, HA, HX6⟩
  iapply (wp_arc m ρ K c 53 75 6 7 rfl (by decide +kernel) (Fin.ext (by clear * -; revert c; decide +kernel)) (row_eq c (by clear * -; revert c; decide +kernel)) (row_eq c (by clear * -; revert c; decide +kernel)) (by rfl) (by rfl)) $$ [HT HP HA HR7]
  · isplitr; · iexact HH
    isplitl [HT]; · iexact HT
    isplitl [HP]; · iexact HP
    isplitl [HA]; · iexact HA
    iexact HR7
  iintro ⟨HT, HP, HA, HX7⟩
  iapply (wp_csns m ρ K c 54 75 3 (by decide) (by decide +kernel) (by decide +kernel) (by rfl) (by rfl) (by rfl) (by rfl)) $$ [HT HP HS0 HS1 HS2 HS3 HCA HCB]
  · unfold Sh4
    isplitr; · iexact HH
    isplitl [HT]; · iexact HT
    isplitl [HP]; · iexact HP
    isplitl [HS0 HS1 HS2 HS3]
    · isplitl [HS0]; · iexact HS0
      isplitl [HS1]; · iexact HS1
      isplitl [HS2]; · iexact HS2
      iexact HS3
    isplitl [HCA]; · iexact HCA
    iexact HCB
  iintro ⟨HT, HP, HS4⟩
  unfold Sh4 none4
  icases HS4 with ⟨HS0, HS1, HS2, HS3⟩
  iapply (wp_arw m ρ K c 54 77 1 (by decide +kernel) (by rfl) (by rfl)) $$ [HT HP]
  · isplitr; · iexact HH
    isplitl [HT]; · iexact HT
    iexact HP
  iintro ⟨HT, HP, HW1⟩
  iapply (wp_arw m ρ K c 54 78 2 (by decide +kernel) (by rfl) (by rfl)) $$ [HT HP]
  · isplitr; · iexact HH
    isplitl [HT]; · iexact HT
    iexact HP
  iintro ⟨HT, HP, HW2⟩
  iapply (wp_arw m ρ K c 54 79 3 (by decide +kernel) (by rfl) (by rfl)) $$ [HT HP]
  · isplitr; · iexact HH
    isplitl [HT]; · iexact HT
    iexact HP
  iintro ⟨HT, HP, HW3⟩
  iapply (wp_arw m ρ K c 54 80 4 (by decide +kernel) (by rfl) (by rfl)) $$ [HT HP]
  · isplitr; · iexact HH
    isplitl [HT]; · iexact HT
    iexact HP
  iintro ⟨HT, HP, HW4⟩
  iapply (wp_arw m ρ K c 54 81 5 (by decide +kernel) (by rfl) (by rfl)) $$ [HT HP]
  · isplitr; · iexact HH
    isplitl [HT]; · iexact HT
    iexact HP
  iintro ⟨HT, HP, HW5⟩
  iapply (wp_arw m ρ K c 54 82 6 (by decide +kernel) (by rfl) (by rfl)) $$ [HT HP]
  · isplitr; · iexact HH
    isplitl [HT]; · iexact HT
    iexact HP
  iintro ⟨HT, HP, HW6⟩
  iapply (wp_arw m ρ K c 54 83 7 (by decide +kernel) (by rfl) (by rfl)) $$ [HT HP]
  · isplitr; · iexact HH
    isplitl [HT]; · iexact HT
    iexact HP
  iintro ⟨HT, HP, HW7⟩
  iapply (wp_asw m ρ K c 54 84 0 1 rfl (by decide +kernel) (by rfl) (by rfl)) $$ [HT HP HX1]
  · isplitr; · iexact HH
    isplitl [HT]; · iexact HT
    isplitl [HP]; · iexact HP
    iexact HX1
  iintro ⟨HT, HP, HX1⟩
  iapply (wp_asw m ρ K c 54 85 1 2 rfl (by decide +kernel) (by rfl) (by rfl)) $$ [HT HP HX2]
  · isplitr; · iexact HH
    isplitl [HT]; · iexact HT
    isplitl [HP]; · iexact HP
    iexact HX2
  iintro ⟨HT, HP, HX2⟩
  iapply (wp_asw m ρ K c 54 86 2 3 rfl (by decide +kernel) (by rfl) (by rfl)) $$ [HT HP HX3]
  · isplitr; · iexact HH
    isplitl [HT]; · iexact HT
    isplitl [HP]; · iexact HP
    iexact HX3
  iintro ⟨HT, HP, HX3⟩
  iapply (wp_asw m ρ K c 54 87 3 4 rfl (by decide +kernel) (by rfl) (by rfl)) $$ [HT HP HX4]
  · isplitr; · iexact HH
    isplitl [HT]; · iexact HT
    isplitl [HP]; · iexact HP
    iexact HX4
  iintro ⟨HT, HP, HX4⟩
  iapply (wp_asw m ρ K c 54 88 4 5 rfl (by decide +kernel) (by rfl) (by rfl)) $$ [HT HP HX5]
  · isplitr; · iexact HH
    isplitl [HT]; · iexact HT
    isplitl [HP]; · iexact HP
    iexact HX5
  iintro ⟨HT, HP, HX5⟩
  iapply (wp_asw m ρ K c 54 89 5 6 rfl (by decide +kernel) (by rfl) (by rfl)) $$ [HT HP HX6]
  · isplitr; · iexact HH
    isplitl [HT]; · iexact HT
    isplitl [HP]; · iexact HP
    iexact HX6
  iintro ⟨HT, HP, HX6⟩
  iapply (wp_asw m ρ K c 54 90 6 7 rfl (by decide +kernel) (by rfl) (by rfl)) $$ [HT HP HX7]
  · isplitr; · iexact HH
    isplitl [HT]; · iexact HT
    isplitl [HP]; · iexact HP
    iexact HX7
  iintro ⟨HT, HP, HX7⟩
  ihave HA := (share_back m ρ c 6) $$ [HX7 HA]
  · isplitl [HX7]; · iexact HX7
    iexact HA
  ihave HA := (share_back m ρ c 5) $$ [HX6 HA]
  · isplitl [HX6]; · iexact HX6
    iexact HA
  ihave HA := (share_back m ρ c 4) $$ [HX5 HA]
  · isplitl [HX5]; · iexact HX5
    iexact HA
  ihave HA := (share_back m ρ c 3) $$ [HX4 HA]
  · isplitl [HX4]; · iexact HX4
    iexact HA
  ihave HA := (share_back m ρ c 2) $$ [HX3 HA]
  · isplitl [HX3]; · iexact HX3
    iexact HA
  ihave HA := (share_back m ρ c 1) $$ [HX2 HA]
  · isplitl [HX2]; · iexact HX2
    iexact HA
  ihave HA := (share_back m ρ c 0) $$ [HX1 HA]
  · isplitl [HX1]; · iexact HX1
    iexact HA
  ihave HA := (table m ρ c) $$ [HA HW1 HW2 HW3 HW4 HW5 HW6 HW7]
  · isplitl [HA]; · iapply (show (owns (c : Thread nD τ) (amM c) (shq 0) (AM m ρ c) : sProp 𝕄) ⊢ owns (c : Thread nD τ) (amM c) fullShare (AM m ρ c) from .rfl); iexact HA
    rw [bsl_cons, bsl_cons, bsl_cons, bsl_cons, bsl_cons, bsl_cons, bsl_cons, bigSepL_nil]
    isplitl [HW1]; · iexact HW1
    isplitl [HW2]; · iexact HW2
    isplitl [HW3]; · iexact HW3
    isplitl [HW4]; · iexact HW4
    isplitl [HW5]; · iexact HW5
    isplitl [HW6]; · iexact HW6
    isplitl [HW7]; · iexact HW7
    iempintro
  iapply (wp_ld c (M := aaM)) $$ HA
  iintro HA
  rw [whole_idx_tab]
  iapply Hk
  isplitl [HT]; · iexact HT
  isplitl [HP]; · iexact HP
  isplitr [HA]
  · iapply (slots_all (F := F) c)
    isplitl [HL0 HS0]
    · iapply (home m ρ c 0)
      isplitl [HL0]; · iexact HL0
      iexact HS0
    isplitl [HL1 HS1]
    · iapply (home m ρ c 1)
      isplitl [HL1]; · iexact HL1
      iexact HS1
    isplitl [HL2 HS2]
    · iapply (home m ρ c 2)
      isplitl [HL2]; · iexact HL2
      iexact HS2
    iapply (home m ρ c 3)
    isplitl [HL3]; · iexact HL3
    iexact HS3
  iexact HA

end Cert.KernelIdealProof
-- ==== Proof.I.Seg7.lean ====
/-
# `Seg7`: the quantisation
-/
module

public import proofs.«01_k».proof.Proof.I.W

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

/-! ## The quantisation -/

/-- The products of all blocks, in their places. -/
def Yall (c : Dev nD) : Vec F S4096x1024 .f32 := fun i =>
  Yb m ρ c ((⟨(i 0).val / 512, by have h : (i 0).val < 4096 := (i 0).isLt; omega⟩ : Fin 8), (⟨(i 0).val % 512 / 128, by omega⟩ : Fin 4))
    ((fun a => match a with
      | ⟨0, _⟩ => (⟨(i 0).val % 128, Nat.mod_lt _ (by decide)⟩ : Fin 128)
      | ⟨1, _⟩ => (⟨(i 1).val, (i 1).isLt⟩ : Fin 1024)) : S128x1024.Idx)

/-- Quantised and scaled back. -/
def qz (inv sc : F .f32) {s : Shape} (v : FVec F s .f32) : FVec F s .f32 :=
  mulf (minimumf (broadcast s (Scalar.ofBits .f32 0x42FE0000#32)) (maximumf (broadcast s (Scalar.ofBits .f32 0xC2FE0000#32))
    (roundeven (mulf v (broadcast s inv))))) (broadcast s sc)

theorem qz_at (inv sc : F .f32) {s s' : Shape} {X : FVec F s .f32} {Y : FVec F s' .f32} {i : s.Idx} {j : s'.Idx} (h : X i = Y j) : qz inv sc X i = qz inv sc Y j := by
  have e : qz inv sc X i = qz inv sc (fun _ => X i : FVec F (⟨0, fun _ => 0⟩ : Shape) .f32) (fun a => a.elim0) := rfl
  have e' : qz inv sc Y j = qz inv sc (fun _ => Y j : FVec F (⟨0, fun _ => 0⟩ : Shape) .f32) (fun a => a.elim0) := rfl
  rw [e, e', h]

/-- The result buffer with its first `n` blocks of 512 rows quantised. -/
def OutQ (c : Dev nD) (inv sc : F .f32) (n : ℕ) : sProp 𝕄 :=
  iprop(∃ X, ⌜∀ i : S4096x1024.Idx, X i = if (i 0).val < 512 * n then qz inv sc (Yall m ρ c) i else Yall m ρ c i⌝ ∗ owns (c : Thread nD τ) oM fullShare X)

theorem blks_all (c : Dev nD) (p : Dev nD × Fin 4) : p ∈ blks c 4 := by
  revert c p; decide +kernel

theorem OutQ_zero (c : Dev nD) (inv sc : F .f32) : (Out m ρ c (blks c 4) : sProp 𝕄) ⊢ OutQ m ρ c inv sc 0 := by
  unfold Out OutQ
  iintro ⟨%X, %hX, H⟩
  iexists X
  isplitr
  · ipureintro
    intro i
    rw [if_neg (by omega)]
    have h0 : (i 0).val < 4096 := (i 0).isLt
    have h := hX _ (blks_all c ((⟨(i 0).val / 512, by omega⟩ : Fin 8), (⟨(i 0).val % 512 / 128, by omega⟩ : Fin 4)))
      ((fun a => match a with
      | ⟨0, _⟩ => (⟨(i 0).val % 128, Nat.mod_lt _ (by decide)⟩ : Fin 128)
      | ⟨1, _⟩ => (⟨(i 1).val, (i 1).isLt⟩ : Fin 1024)) : S128x1024.Idx)
    refine Eq.trans (congrArg X ?_) h
    funext a
    apply Fin.ext
    fin_cases a
    · show (i 0).val = 512 * ((i 0).val / 512) + 128 * ((i 0).val % 512 / 128) + 1 * ((i 0).val % 128)
      omega
    · show (i 1).val = 0 + 1 * (i 1).val
      omega
  iexact H

theorem OutQ_last (c : Dev nD) (inv sc : F .f32) : (OutQ m ρ c inv sc 8 : sProp 𝕄) ⊢ owns (c : Thread nD τ) oM fullShare (qz inv sc (Yall m ρ c)) := by
  unfold OutQ
  iintro ⟨%X, %hX, H⟩
  have e : X = qz inv sc (Yall m ρ c) := funext fun i => by
    have h0 : (i 0).val < 4096 := (i 0).isLt
    rw [hX i, if_pos (by omega)]
  subst e
  iexact H

/-- One block of 512 rows is quantised. -/
theorem wp_qz (c : Dev nD) (inv sc : F .f32) (n : ℕ) {off : Fin 2 → ℕ} {inb : ∀ a, off a + S512x1024.size a ≤ S4096x1024.size a}
    (hoff : off = ![512 * n, 0]) {W : Vec F S512x1024 .f32 → Vec F S512x1024 .f32} (hW : ∀ v, W v = qz inv sc v)
    {hl hl' : (oM : Memref sig .tc .vmem S4096x1024 .f32).view.LoadsAt (Rect.unit (s := S4096x1024) off S512x1024.size inb).toLoadRect}
    {hx : ((oM : Memref sig .tc .vmem S4096x1024 .f32).access (Rect.unit (s := S4096x1024) off S512x1024.size inb)).Stores Finset.univ}
    {hm : (Finset.univ : Finset (Rect.unit (s := S4096x1024) off S512x1024.size inb).shape.Idx) = Finset.univ ∨ ∀ a, (Rect.unit (s := S4096x1024) off S512x1024.size inb).stride a = 1}
    {α : Type} {kont : PUnit → Prog (TpuEff nD τ sig (Elt F) Λ₀ .tc) α} {Q : α → sProp 𝕄} :
    (OutQ m ρ c inv sc n : sProp 𝕄)
      ⊢ iprop((OutQ m ρ c inv sc (n + 1) -∗ WP c (kont ⟨⟩) Q)
          -∗ WP c (.op (.load (cs := .vmem) oM (Rect.unit (s := S4096x1024) off S512x1024.size inb).toLoadRect hl)
            fun v => .op (.load (cs := .vmem) oM (Rect.unit (s := S4096x1024) off S512x1024.size inb).toLoadRect hl')
            fun _ => .op (.store (cs := .vmem) oM (Rect.unit (s := S4096x1024) off S512x1024.size inb) (W v) Finset.univ hx hm) kont) Q) := by
  subst hoff
  unfold OutQ
  iintro ⟨%X, %hX, H⟩ Hk
  iapply (wp_ld c (M := oM)) $$ H
  iintro H
  iapply (wp_ld c (M := oM)) $$ H
  iintro H
  iapply (wp_st c (M := oM) (r := Rect.unit (s := S4096x1024) ![512 * n, 0] S512x1024.size inb)) $$ H
  iintro H
  iapply Hk
  iexists _
  isplitr
  rotate_left
  · iexact H
  ipureintro
  intro i
  rw [hW]
  by_cases hi : i ∈ (Rect.unit (s := S4096x1024) ![512 * n, 0] S512x1024.size inb).set
  · have hi' := hi
    rw [Rect.mem_set_unit] at hi'
    have h0 := hi' 0
    change 512 * n ≤ (i 0).val ∧ (i 0).val < 512 * n + 512 at h0
    obtain ⟨j, hj⟩ := (Rect.unit (s := S4096x1024) ![512 * n, 0] S512x1024.size inb).exists_idx_of_mem hi
    have hj' : (Rect.unit (s := S4096x1024) ![512 * n, 0] S512x1024.size inb).emb j = i := hj
    rw [if_pos (by omega), ← hj', Rect.overlay_emb]
    show qz inv sc X ((Rect.unit (s := S4096x1024) ![512 * n, 0] S512x1024.size inb).emb j) = _
    have e : X ((Rect.unit (s := S4096x1024) ![512 * n, 0] S512x1024.size inb).emb j)
        = Yall m ρ c ((Rect.unit (s := S4096x1024) ![512 * n, 0] S512x1024.size inb).emb j) := by
      rw [hX, hj', if_neg (by omega)]
    exact qz_at inv sc e
  · rw [Rect.overlay_of_not_mem _ _ _ hi, hX]
    have hi' : ¬ (512 * n ≤ (i 0).val ∧ (i 0).val < 512 * n + 512) := by
      intro h
      apply hi
      rw [Rect.mem_set_unit]
      intro a
      fin_cases a
      · exact h
      · exact ⟨Nat.zero_le _, by show (i 1).val < 0 + 1024; have := (i 1).isLt; change (i 1).val < 1024 at this; omega⟩
    by_cases h : (i 0).val < 512 * n
    · rw [if_pos h, if_pos (by omega)]
    · rw [if_neg h, if_neg (by omega)]

/-- Parts 79 and 80 and the last two row blocks of the body, before a continuation. -/
def prog7 (inv sc : F .f32) (hx : xM.IsWhole) (hw : wM.IsWhole) (ho : oM.IsWhole) (hwb : wbM.IsWhole) (hws : wsM.IsWhole)
    (hfl : flM.IsWhole) (hco : coM.IsWhole) (haa : aaM.IsWhole)
    {α : Type} (kont : Prog (TpuEff nD τ sig (Elt F) Λ₀ .tc) α) : Prog (TpuEff nD τ sig (Elt F) Λ₀ .tc) α := do
    let v2166 : FVec F S512x1024 .f32 ← k0_part79 xM hx wM hw oM ho wbM hwb wsM hws flM hfl coM hco aaM haa cc0_scratch5 cc0_scratch6 cc0_scratch7 cc0_scratch8 cc0_scratch9 cc0_scratch10 cc0_scratch11 cc0_scratch12 inv sc
    let v2205 : FVec F S512x1024 .f32 ← k0_part80 xM hx wM hw oM ho wbM hwb wsM hws flM hfl coM hco aaM haa cc0_scratch5 cc0_scratch6 cc0_scratch7 cc0_scratch8 cc0_scratch9 cc0_scratch10 cc0_scratch11 cc0_scratch12 inv sc v2166
    let v2212 : Vec F S512x1024 .f32 ← Prog.lift (.load oM (Rect.unit (s := S4096x1024) ![3072, 0] S512x1024.size inb_S4096x1024_S512x1024_3072_0).toLoadRect (View.loadsAt_vmem h_S512x1024))
    Prog.lift (.store oM (Rect.unit (s := S4096x1024) ![3072, 0] S512x1024.size inb_S4096x1024_S512x1024_3072_0) (k0_pay1 sc v2205) Finset.univ (View.stores_vmem_bits_univ h_S512x1024 rfl) (.inl rfl))
    let v2213 : Vec F S512x1024 .f32 ← Prog.lift (.load oM (Rect.unit (s := S4096x1024) ![3584, 0] S512x1024.size inb_S4096x1024_S512x1024_3584_0).toLoadRect (View.loadsAt_vmem h_S512x1024))
    let v2224 : Vec F S512x1024 .f32 ← Prog.lift (.load oM (Rect.unit (s := S4096x1024) ![3584, 0] S512x1024.size inb_S4096x1024_S512x1024_3584_0).toLoadRect (View.loadsAt_vmem h_S512x1024))
    Prog.lift (.store oM (Rect.unit (s := S4096x1024) ![3584, 0] S512x1024.size inb_S4096x1024_S512x1024_3584_0) (k0_pay2 inv sc v2213) Finset.univ (View.stores_vmem_bits_univ h_S512x1024 rfl) (.inl rfl))
    kont

set_option maxHeartbeats 4000000 in
/-- The quantisation of the whole result. -/
theorem seg7 (c : Dev nD) (inv sc : F .f32) (hx : xM.IsWhole) (hw : wM.IsWhole) (ho : oM.IsWhole) (hwb : wbM.IsWhole) (hws : wsM.IsWhole)
    (hfl : flM.IsWhole) (hco : coM.IsWhole) (haa : aaM.IsWhole)
    {α : Type} {kont : Prog (TpuEff nD τ sig (Elt F) Λ₀ .tc) α} {Q : α → sProp 𝕄} :
    (Out m ρ c (blks c 4) : sProp 𝕄)
      ⊢ iprop((owns (c : Thread nD τ) oM fullShare (qz inv sc (Yall m ρ c)) -∗ WP c kont Q)
          -∗ WP c (prog7 inv sc hx hw ho hwb hws hfl hco haa kont) Q) := by
  unfold prog7
  simp only [k0_part79_eq_skeleton, k0_part80_eq_skeleton]
  unfold k0_part79_skel k0_part80_skel
  simp only [semSignalWord, semWaitWord, Prog.lift, Prog.bind_op, Prog.bind_ret, Prog.pure_eq_ret]
  iintro HO Hk
  ihave HO := (OutQ_zero m ρ c inv sc) $$ HO
  iapply (wp_qz m ρ c inv sc 0 (by rfl) (by
    intro v
    unfold k0_pay81
    simp only [shapeCast_self]
    rfl)) $$ HO
  iintro HO
  iapply (wp_qz m ρ c inv sc 1 (by rfl) (by
    intro v
    unfold k0_pay82
    simp only [shapeCast_self]
    rfl)) $$ HO
  iintro HO
  iapply (wp_qz m ρ c inv sc 2 (by rfl) (by
    intro v
    unfold k0_pay83
    simp only [shapeCast_self]
    rfl)) $$ HO
  iintro HO
  iapply (wp_qz m ρ c inv sc 3 (by rfl) (by
    intro v
    unfold k0_pay85 k0_pay84
    simp only [shapeCast_self]
    rfl)) $$ HO
  iintro HO
  iapply (wp_qz m ρ c inv sc 4 (by rfl) (by
    intro v
    unfold k0_pay86
    simp only [shapeCast_self]
    rfl)) $$ HO
  iintro HO
  iapply (wp_qz m ρ c inv sc 5 (by rfl) (by
    intro v
    unfold k0_pay87
    simp only [shapeCast_self]
    rfl)) $$ HO
  iintro HO
  iapply (wp_qz m ρ c inv sc 6 (by rfl) (by
    intro v
    unfold k0_pay1 k0_pay88
    simp only [shapeCast_self]
    rfl)) $$ HO
  iintro HO
  iapply (wp_qz m ρ c inv sc 7 (by rfl) (by
    intro v
    unfold k0_pay2
    simp only [shapeCast_self]
    rfl)) $$ HO
  iintro HO
  iapply Hk
  iapply (OutQ_last m ρ c inv sc)
  iexact HO

end Cert.KernelIdealProof
-- ==== Proof.I.Body.lean ====
/-
# `Body`: the whole body of one device
-/
module

public import proofs.«01_k».proof.Proof.I.Seg0
public import proofs.«01_k».proof.Proof.I.Seg1
public import proofs.«01_k».proof.Proof.I.Seg2
public import proofs.«01_k».proof.Proof.I.Seg3
public import proofs.«01_k».proof.Proof.I.Seg5
public import proofs.«01_k».proof.Proof.I.Seg6
public import proofs.«01_k».proof.Proof.I.Seg7

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

variable (K : Dev nD × CK → ℕ)

/-- What the device stores into its result. -/
def outAt (c : Dev nD) : Vec F S4096x1024 .f32 := qz (k0_pay79 (AMt m ρ)) (k0_pay80 (AMt m ρ)) (Yall m ρ c)

/-- What the body leaves: all paid, all its waits done, its scratch buffers whole, the operand, and the result. -/
def End (c : Dev nD) : sProp 𝕄 :=
  iprop(Todo c 54 ∗ Poss c 91 ∗ free (F := F) c wbM ∗ free c wsM ∗ free c flM ∗ free c coM ∗ free c aaM
    ∗ owns (c : Thread nD τ) xM fullShare (xstg m ρ c) ∗ owns (c : Thread nD τ) oM fullShare (outAt m ρ c))

theorem wp_seq (c : Dev nD) {α β : Type} (p : Prog (TpuEff nD τ sig (Elt F) Λ₀ .tc) α) (k : α → Prog (TpuEff nD τ sig (Elt F) Λ₀ .tc) β)
    (Q : β → sProp 𝕄) : (WP c p (fun a => WP c (k a) Q) : sProp 𝕄) ⊢ WP c (p >>= k) Q :=
  BIBase.Entails.of_eq (wp_bind frame (wpE (defs₀ (F := F)) 𝒱₀ (c : Thread nD τ) none) Set.univ p k Q).symm
theorem wp_done (c : Dev nD) {α : Type} (a : α) (Q : α → sProp 𝕄) : Q a ⊢ (WP c (.ret a) Q : sProp 𝕄) := by
  show Q a ⊢ iprop(|={Set.univ}[frame]=> Q a)
  exact fupd_intro

theorem chs_all (c : Dev nD) : iprop((free (F := F) c (chM (tA 0)) ∗ free c (chM (tB 0))) ∗ (free c (chM (tA 1)) ∗ free c (chM (tB 1)))
    ∗ (free c (chM (tA 2)) ∗ free c (chM (tB 2))) ∗ (free c (chM (tA 3)) ∗ free c (chM (tB 3)))) ⊢ free (F := F) c coM := by
  refine BIBase.Entails.trans ?_ (chs_join (F := F) c)
  rw [bigSep_univ_eq_bigSepL [0, 1, 2, 3, 4, 5, 6, 7] (by decide) (by decide)]
  simp only [bsl_cons, bigSepL_nil]
  iintro ⟨⟨A0, A1⟩, ⟨A2, A3⟩, ⟨A4, A5⟩, A6, A7⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  iempintro

/-- The first sixty parts of the body. -/
theorem part81_prog (hx : xM.IsWhole) (hw : wM.IsWhole) (ho : oM.IsWhole) (hwb : wbM.IsWhole) (hws : wsM.IsWhole)
    (hfl : flM.IsWhole) (hco : coM.IsWhole) (haa : aaM.IsWhole) :
    k0_part81 (F := F) xM hx wM hw oM ho wbM hwb wsM hws flM hfl coM hco aaM haa
          cc0_scratch5 cc0_scratch6 cc0_scratch7 cc0_scratch8 cc0_scratch9 cc0_scratch10 cc0_scratch11 cc0_scratch12
      = prog0 hx hw ho hwb hws hfl hco haa fun d0 v2 v16 v30 v44 v58 => prog1 d0 v2 v16 v30 v44 v58 hx hw ho hwb hws hfl hco haa fun w a =>
          prog2 d0 v2 v16 v30 v44 v58 w a hx hw ho hwb hws hfl hco haa fun a => prog3 d0 v2 v16 v30 v44 v58 w a hx hw ho hwb hws hfl hco haa fun g y =>
          prog5a v2 v16 v30 g y hx hw ho hwb hws hfl hco haa fun a b x y => Prog.ret ⟨d0, v2, v44, v58, w, a, b, x, y⟩ := by
  rw [k0_part81_eq_skeleton]; rfl
/-- The body, by its segments. -/
theorem body_prog (hx : xM.IsWhole) (hw : wM.IsWhole) (ho : oM.IsWhole) (hwb : wbM.IsWhole) (hws : wsM.IsWhole)
    (hfl : flM.IsWhole) (hco : coM.IsWhole) (haa : aaM.IsWhole) :
    cc0_body (F := F) xM hx wM hw oM ho wbM hwb wsM hws flM hfl coM hco aaM haa
          cc0_scratch5 cc0_scratch6 cc0_scratch7 cc0_scratch8 cc0_scratch9 cc0_scratch10 cc0_scratch11 cc0_scratch12
      = (prog0 hx hw ho hwb hws hfl hco haa fun d0 v2 v16 v30 v44 v58 => prog1 d0 v2 v16 v30 v44 v58 hx hw ho hwb hws hfl hco haa fun w a =>
          prog2 d0 v2 v16 v30 v44 v58 w a hx hw ho hwb hws hfl hco haa fun a => prog3 d0 v2 v16 v30 v44 v58 w a hx hw ho hwb hws hfl hco haa fun g y =>
          prog5a v2 v16 v30 g y hx hw ho hwb hws hfl hco haa fun a b x y => Prog.ret (⟨d0, v2, v44, v58, w, a, b, x, y⟩ :
            Σ' (d0 : Dev nD) (v2 : BitVec 32) (v44 : BitVec 32) (v58 : BitVec 32) (v158 : Vec F S4096x1024 .bf16) (v1510 : F .f32) (v1567 : BitVec 1) (c7 : BitVec 32), BitVec 32))
        >>= fun p => prog5b p.1 p.2.1 p.2.2.1 p.2.2.2.1 p.2.2.2.2.1 p.2.2.2.2.2.1 p.2.2.2.2.2.2.1 p.2.2.2.2.2.2.2.1 p.2.2.2.2.2.2.2.2 hx hw ho hwb hws hfl hco haa fun g t =>
          prog6 p.1 p.2.1 g t hx hw ho hwb hws hfl hco haa fun inv sc => prog7 inv sc hx hw ho hwb hws hfl hco haa (Prog.ret ⟨⟩) := by
  rw [cc0_body_eq_skeleton]
  unfold cc0_body_skel
  rw [part81_prog]
  rfl

set_option maxHeartbeats 1000000 in
/-- The whole body on device `c`. -/
theorem body_run (c : Dev nD) (hx : xM.IsWhole) (hw : wM.IsWhole) (ho : oM.IsWhole) (hwb : wbM.IsWhole) (hws : wsM.IsWhole)
    (hfl : flM.IsWhole) (hco : coM.IsWhole) (haa : aaM.IsWhole) {Q : PUnit → sProp 𝕄} :
    iprop(HI m ρ K ∗ Todo c 0 ∗ Poss c 0 ∗ Start m ρ c ∗ R c c)
      ⊢ iprop((End m ρ c -∗ Q ⟨⟩) -∗ WP c (cc0_body xM hx wM hw oM ho wbM hwb wsM hws flM hfl coM hco aaM haa
          cc0_scratch5 cc0_scratch6 cc0_scratch7 cc0_scratch8 cc0_scratch9 cc0_scratch10 cc0_scratch11 cc0_scratch12) Q) := by
  rw [body_prog]
  iintro ⟨#HH, HT, HP, HS, HR⟩ Hk
  iapply (wp_seq (F := F) c)
  iapply (seg0 m ρ K c hx hw ho hwb hws hfl hco haa) $$ [HT HP HS]
  · isplitr; · iexact HH
    isplitl [HT]; · iexact HT
    isplitl [HP]; · iexact HP
    iexact HS
  iintro %v2 %v16 %v30 %v44 %v58 HM
  iapply (seg1 m ρ K c v2 v16 v30 v44 v58 hx hw ho hwb hws hfl hco haa) $$ [HM]
  · isplitr; · iexact HH
    iexact HM
  iintro ⟨HM, H0, CA, CB, FS, FW, HX⟩
  iapply (seg2 m ρ K c v2 v16 v30 v44 v58 hx hw ho hwb hws hfl hco haa) $$ [HM CA CB]
  · isplitr; · iexact HH
    isplitl [HM]; · iexact HM
    isplitl [CA]; · iexact CA
    iexact CB
  iintro ⟨HM, H1, C0, C1⟩
  iapply (seg3 m ρ K c v2 v16 v30 v44 v58 hx hw ho hwb hws hfl hco haa) $$ [HM]
  · isplitr; · iexact HH
    iexact HM
  iintro %g %y %hA ⟨HM, H2, H3, CA, CB, C2, C3, C4, C5⟩
  unfold Mid
  icases HM with ⟨HT, HP, HSh, HCs, -, HO⟩
  iapply (seg5a m ρ K c v2 v16 v30 g y hx hw ho hwb hws hfl hco haa hA) $$ [HT HP HCs]
  · isplitr; · iexact HH
    isplitl [HT]; · iexact HT
    isplitl [HP]; · iexact HP
    iexact HCs
  iintro %b %x %y' ⟨HT, HP, HL⟩
  iapply (wp_done (F := F) c)
  iapply (seg5b m ρ K c v2 v44 v58 b x y' hx hw ho hwb hws hfl hco haa) $$ [HT HP HL HO]
  · isplitr; · iexact HH
    isplitl [HT]; · iexact HT
    isplitl [HP]; · iexact HP
    isplitl [HL]; · iexact HL
    iexact HO
  iintro %g' %t %hB ⟨HT, HP, HL, C6, C7, HO⟩
  ihave HRs := (Rows_heads (F := F) c) $$ [H0 H1 H2 H3]
  · isplitl [H0]; · iexact H0
    isplitl [H1]; · iexact H1
    isplitl [H2]; · iexact H2
    iexact H3
  iapply (seg6 m ρ K c v2 g' t hx hw ho hwb hws hfl hco haa hB) $$ [HT HP HL HSh CA CB HRs HR]
  · isplitr; · iexact HH
    isplitl [HT]; · iexact HT
    isplitl [HP]; · iexact HP
    isplitl [HL]; · iexact HL
    isplitl [HSh]; · iexact HSh
    isplitl [CA]; · iexact CA
    isplitl [CB]; · iexact CB
    isplitl [HRs]; · iexact HRs
    iexact HR
  iintro ⟨HT, HP, FF, FA⟩
  iapply (seg7 m ρ c (k0_pay79 (AMt m ρ)) (k0_pay80 (AMt m ρ)) hx hw ho hwb hws hfl hco haa) $$ [HO]
  · iexact HO
  iintro HO
  iapply (wp_done (F := F) c)
  iapply Hk
  unfold End outAt
  isplitl [HT]; · iexact HT
  isplitl [HP]; · iexact HP
  isplitl [FW]; · iexact FW
  isplitl [FS]; · iexact FS
  isplitl [FF]; · iexact FF
  isplitl [C0 C1 C2 C3 C4 C5 C6 C7]
  · iapply (chs_all (F := F) c)
    isplitl [C0 C1]
    · isplitl [C0]; · iexact C0
      iexact C1
    isplitl [C2 C3]
    · isplitl [C2]; · iexact C2
      iexact C3
    isplitl [C4 C5]
    · isplitl [C4]; · iexact C4
      iexact C5
    isplitl [C6]; · iexact C6
    iexact C7
  isplitl [FA]; · iapply (free_intro (F := F) c aaM (AMt m ρ)); iexact FA
  isplitl [HX]; · iexact HX
  iexact HO

end Cert.KernelIdealProof
-- ==== Proof.I.Deal.lean ====
/-
# `Deal`: the credits and the tokens of the launch, dealt to the devices that wait and pay
-/
module

public import proofs.«01_k».proof.Proof.I.Seg6
public import proofs.«01_k».proof.Proof.Gen.KernelIdeal.Launch
public import Idealize.ShloMosaic.Lib.Pipeline.Launch
public import Idealize.ShloMosaic.Lib.Pipeline.Kit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

/-! ## The credits -/

theorem cred_items (c : Dev nD) (l : List Item) : (Pipeline.launchCred (fun d => owesL d l) c : sProp 𝕄)
    ⊢ bigSepL l fun i => cred (tallyAt (cell c i.k) i.r (amt i.k)) := by
  induction l with
  | nil => unfold owesL; rw [Pipeline.launchCred_zero]; exact .rfl
  | cons i l ih =>
    rw [bsl_cons]
    show (Pipeline.launchCred (fun d => owesL d l + owe1 d i) c : sProp 𝕄) ⊢ _
    rw [Pipeline.launchCred_add]
    iintro ⟨Hl, Hi⟩
    isplitl [Hi]
    · iapply (Pipeline.launchCred_tallyAt (Name := ℕ) (U := UU) (Lvl := ℕ) (Val := Elt F) (sem i.k) (tgt i.k i.d) (src i.k i.d) (tgt_src i.k i.d) (src_tgt i.k i.d) i.r (amt i.k) c)
      iexact Hi
    iapply ih; iexact Hl

theorem bsl_filter {I : Type} (p : I → Bool) {Φ : I → sProp 𝕄} (l : List I) (h : ∀ i, p i = false → (iprop(emp) : sProp 𝕄) ⊢ Φ i) :
    bigSepL (l.filter p) Φ ⊢ bigSepL l Φ := by
  induction l with
  | nil => exact .rfl
  | cons i l ih =>
    rw [bsl_cons, List.filter_cons]
    by_cases hp : p i = true
    · rw [if_pos hp, bsl_cons]
      iintro ⟨H, Hl⟩
      isplitl [H]; · iexact H
      iapply ih; iexact Hl
    · rw [if_neg hp]
      iintro Hl
      isplitr
      · iapply (h i (by simpa using hp)); iempintro
      iapply ih; iexact Hl

theorem need_one (k : CK) (h : k ≠ bar) : need k = amt k := by
  cases k with
  | bar => exact absurd rfl h
  | _ => exact Nat.one_mul _

/-- The payments of copies and of capacity credits, without the three of the barrier. -/
def itemsB : List Item := items.drop 3

/-- The waits that other devices pay for, without the barrier's. -/
def waitsB : List (CK × ℕ) := (waits.filter fun kr => launched kr.1).drop 1

theorem waitsB_perm : (itemsB.map fun i => (i.k, i.r)).Perm waitsB := by decide +kernel
theorem waits_bar : (waits.filter fun kr => launched kr.1) = (bar, 0) :: waitsB := by decide +kernel
theorem waitsB_ok : ∀ kr ∈ waitsB, kr.1 ≠ bar ∧ launched kr.1 = true := by decide +kernel

/-- What the launch deals a device is the credit for its waits. -/
theorem wcred_deal (c : Dev nD) : (Pipeline.launchCred (fun d => owesL d items) c : sProp 𝕄) ⊢ bigSepL waits (wcred c) := by
  refine (cred_items c items).trans (BIBase.Entails.trans ?_ (bsl_filter (fun kr => launched kr.1) waits fun kr h => by
    unfold wcred; rw [if_neg (by rw [h]; decide)]))
  rw [waits_bar, show items = iBar 0 :: iBar 1 :: iBar 2 :: itemsB from rfl, bsl_cons, bsl_cons, bsl_cons, bsl_cons]
  have hb : (iprop(cred (tallyAt (cell c bar) 0 (amt bar)) ∗ cred (tallyAt (cell c bar) 0 (amt bar)) ∗ cred (tallyAt (cell c bar) 0 (amt bar))) : sProp 𝕄)
      ⊢ wcred c (bar, 0) := by
    show _ ⊢ (cred (tallyAt (cell c bar) 0 (need bar)) : sProp 𝕄)
    rw [show need bar = amt bar + (amt bar + amt bar) from rfl, ← tallyAt_add, ← tallyAt_add]
    exact (BIClass.sep_mono .rfl (cred_add _ _).2).trans (cred_add _ _).2
  have hr : (bigSepL itemsB fun i => (cred (tallyAt (cell c i.k) i.r (amt i.k)) : sProp 𝕄)) ⊢ bigSepL waitsB (wcred c) := by
    rw [← bigSepL_map (fun i : Item => (i.k, i.r)) itemsB fun kr : CK × ℕ => (cred (tallyAt (cell c kr.1) kr.2 (amt kr.1)) : sProp 𝕄),
      bsl_perm waitsB_perm (by decide +kernel)]
    refine bigSepL_mono fun kr hkr => ?_
    unfold wcred
    rw [if_pos (waitsB_ok kr hkr).2, need_one kr.1 (waitsB_ok kr hkr).1]
  iintro ⟨H0, H1, H2, Hr⟩
  isplitl [H0 H1 H2]
  · iapply hb
    isplitl [H0]; · iexact H0
    isplitl [H1]; · iexact H1
    iexact H2
  iapply hr; iexact Hr

/-! ## The tokens -/

/-- The duties a device's cells have, in the order in which they are dealt: those of the payments, those of its own send
    cells, and the four of the copies of its weights. -/
def duts : List (CK × ℕ × Fin 3) :=
  (items.map fun i => (i.k, i.r, i.d)) ++ ((items.filterMap Item.own).map fun kr => (kr.1, kr.2, (0 : Fin 3)))
    ++ [(wd, 0, 0), (wd, 1, 0), (wd, 2, 0), (wd, 3, 0)]
theorem duts_nodup : duts.Nodup := by decide +kernel

theorem cell_inj {c c' : Dev nD} {k k' : CK} (h : cell c k = cell c' k') : c = c' ∧ k = k' :=
  ⟨congrArg (fun g : GSem nD τ sig => g.1.1) h, sem_inj (congrArg Prod.snd h)⟩

abbrev tokOf (cj : Dev nD × Fin duts.length) : GSem nD τ sig × ℕ × Fin 3 :=
  (cell cj.1 (duts.get cj.2).1, (duts.get cj.2).2.1, (duts.get cj.2).2.2)
theorem tokOf_injective : Function.Injective tokOf := by
  rintro ⟨c, j⟩ ⟨c', j'⟩ h
  have h1 := cell_inj (congrArg Prod.fst h)
  have h2 := congrArg Prod.snd h
  have hj : duts.get j = duts.get j' := Prod.ext h1.2 h2
  exact Prod.ext h1.1 (duts_nodup.injective_get hj)
def toks : Finset (GSem nD τ sig × ℕ × Fin 3) := Finset.univ.map ⟨tokOf, tokOf_injective⟩

theorem kcell_injective : Function.Injective kcell := by
  rintro ⟨c, k⟩ ⟨c', k'⟩ h
  exact Prod.ext (cell_inj h).1 (cell_inj h).2
def cells : Finset (GSem nD τ sig) := Finset.univ.map ⟨kcell, kcell_injective⟩

def u₀ : UU := (initOf (Pipeline.cells cfgs cellOf_inj) (Pipeline.launchToks cfgs cellOf_inj), initOf cells toks)

/-- The tokens of a list of duties of device `c`'s own cells. -/
def dtoks (c : Dev nD) (l : List (CK × ℕ × Fin 3)) : sProp 𝕄 := bigSepL l fun x => dutyTok ER (cell c x.1) x.2.1 x.2.2

theorem toks_eq : bigSep toks (fun x => (dutyTok ER x.1 x.2.1 x.2.2 : sProp 𝕄)) = bigSep Finset.univ fun c : Dev nD => dtoks c duts := by
  unfold toks
  rw [bigSep_map, bigSep_univ_prod]
  refine bigSep_congr fun c _ => ?_
  rw [bigSep_univ_eq_bigSepL (List.finRange duts.length) (by ext; simp) (List.nodup_finRange _)]
  unfold dtoks
  conv_rhs => rw [← List.map_get_finRange duts]
  rw [bigSepL_map]
  rfl

/-- The tokens of the four copies of the weights. -/
def wtoks (c : Dev nD) : sProp 𝕄 :=
  iprop(dutyTok ER (cell c wd) 0 0 ∗ dutyTok ER (cell c wd) 1 0 ∗ dutyTok ER (cell c wd) 2 0 ∗ dutyTok ER (cell c wd) 3 0)

theorem bsl_sep {I : Type} (l : List I) (Φ Ψ : I → sProp 𝕄) : iprop(bigSepL l Φ ∗ bigSepL l Ψ) ⊢ bigSepL l fun i => iprop(Φ i ∗ Ψ i) := by
  induction l with
  | nil => rw [bigSepL_nil, bigSepL_nil, bigSepL_nil]; iintro -; iempintro
  | cons i l ih =>
    rw [bsl_cons, bsl_cons, bsl_cons]
    iintro ⟨⟨H1, H2⟩, H3, H4⟩
    isplitl [H1 H3]
    · isplitl [H1]; · iexact H1
      iexact H3
    iapply ih
    isplitl [H2]; · iexact H2
    iexact H4

theorem bsl_own (l : List Item) (Φ : CK × ℕ → sProp 𝕄) : bigSepL (l.filterMap Item.own) Φ
    ⊢ bigSepL l fun i => match i.own with | some kr => Φ kr | none => iprop(emp) := by
  induction l with
  | nil => exact .rfl
  | cons i l ih =>
    rw [bsl_cons, List.filterMap_cons]
    cases i.own with
    | none => iintro H; isplitr; · iempintro
              iapply ih; iexact H
    | some kr =>
      dsimp only
      rw [bsl_cons]
      iintro ⟨H, Hl⟩
      isplitl [H]; · iexact H
      iapply ih; iexact Hl

/-- A list of tokens over all devices, each dealt to the device that pays it. -/
theorem around {I : Type} (l : List I) (e : I → (Dev nD ≃ Dev nD)) (Φ : I → Dev nD → sProp 𝕄) :
    (bigSep Finset.univ fun c : Dev nD => bigSepL l fun i => Φ i c) ⊢ bigSep Finset.univ fun c : Dev nD => bigSepL l fun i => Φ i (e i c) := by
  induction l with
  | nil => exact .rfl
  | cons i l ih =>
    rw [bigSep_congr (s := Finset.univ) (fun (c : Dev nD) _ => bsl_cons i l fun i => Φ i c),
      bigSep_congr (s := Finset.univ) (fun (c : Dev nD) _ => bsl_cons i l fun i => Φ i (e i c)), bigSep_sep', bigSep_sep',
      bigSep_univ_equiv (e i) (Φ i)]
    exact BIClass.sep_mono .rfl ih

/-- The tokens a device pays with. -/
def payToks (c : Dev nD) : sProp 𝕄 := iprop(bigSepL items (itok c) ∗ wtoks c)

theorem pay_join (c : Dev nD) : (iprop((bigSepL items fun i => dutyTok ER (cell (tgt i.k i.d c) i.k) i.r i.d)
        ∗ (bigSepL items fun i => match i.own with | some kr => dutyTok ER (cell c kr.1) kr.2 0 | none => iprop(emp)) ∗ wtoks c) : sProp 𝕄)
    ⊢ payToks c := by
  unfold payToks
  iintro ⟨H1, H2, H3⟩
  isplitr [H3]
  · iapply (bsl_sep (F := F) items (fun i => dutyTok ER (cell (tgt i.k i.d c) i.k) i.r i.d)
      (fun i => match i.own with | some kr => dutyTok ER (cell c kr.1) kr.2 0 | none => iprop(emp)))
    isplitl [H1]; · iexact H1
    iexact H2
  iexact H3

theorem toks_around : (bigSep Finset.univ fun c : Dev nD => (dtoks c duts : sProp 𝕄)) ⊢ bigSep Finset.univ fun c : Dev nD => payToks c := by
  have h1 (c : Dev nD) : (dtoks c duts : sProp 𝕄)
      ⊢ iprop((bigSepL items fun i => dutyTok ER (cell c i.k) i.r i.d)
        ∗ (bigSepL items fun i => match i.own with | some kr => dutyTok ER (cell c kr.1) kr.2 0 | none => iprop(emp)) ∗ wtoks c) := by
    unfold dtoks duts wtoks
    rw [bigSepL_append, bigSepL_append, bigSepL_map, bigSepL_map]
    simp only [bsl_cons, bigSepL_nil]
    iintro ⟨⟨H1, H2⟩, H3, H4, H5, H6, -⟩
    isplitl [H1]; · iexact H1
    isplitl [H2]
    · iapply (bsl_own (F := F) items fun kr => dutyTok ER (cell c kr.1) kr.2 0); iexact H2
    isplitl [H3]; · iexact H3
    isplitl [H4]; · iexact H4
    isplitl [H5]; · iexact H5
    iexact H6
  refine (bigSep_mono fun c _ => h1 c).trans ?_
  rw [bigSep_sep', bigSep_sep']
  refine (BIClass.sep_mono (around items (fun i => (⟨tgt i.k i.d, src i.k i.d, src_tgt i.k i.d, tgt_src i.k i.d⟩ : Dev nD ≃ Dev nD))
    fun i c => dutyTok ER (cell c i.k) i.r i.d) .rfl).trans ?_
  rw [← bigSep_sep', ← bigSep_sep']
  exact bigSep_mono fun c _ => pay_join c

end Cert.KernelIdealProof
-- ==== Proof.I.Start.lean ====
/-
# `Start`: what each device starts from and ends with, and the body between the two
-/
module

public import proofs.«01_k».proof.Proof.I.Body
public import proofs.«01_k».proof.Proof.I.Deal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

open Idealize.ShloMosaic.Pipeline (Dat BodyObligation)

/-! ## The semaphores -/

/-- The kernel's own semaphores: those of every kind of cell but the barrier's. -/
abbrev osem : {k : CK // k ≠ bar} → SemLoc sig := fun k => sem k.1
theorem ownSemFacts : Pipeline.OwnSemFacts cfg0.spec osem where
  isScoped := by
    have h : ∀ n : Fin 54, ofNum n ≠ bar → (semN n).isScoped .tc = true := by decide +kernel
    rintro ⟨k, hk⟩
    have := h (num k) (by rw [ofNum_num]; exact hk)
    exact this
  inj := fun k k' h => Subtype.ext (sem_inj h)
  disj := by
    have h : ∀ (n : Fin 54) (w : Fin 2) (s : Fin (cfg0.spec w).nbuf), semN n ≠ .dma ((cfg0.spec w).sem s) := by decide +kernel
    exact fun k w s => h (num k.1) w s

theorem unscopedSems0_eq (c : Dev nD) : (unscopedSems0 c : sProp 𝕄) = semVal (cell c bar) 0 := by
  unfold unscopedSems0; rw [bigSep_eq_bigSepL_of_eq [sem bar] (by decide) (by decide)]; rfl

theorem sems0_eq (c : Dev nD) :
    (iprop(unscopedSems0 c ∗ Pipeline.ownSems0 (Ix := ℕ) (Name := ℕ) (U := UU) (Lvl := ℕ) (Val := Elt F) (τ := τ) osem c) : sProp 𝕄)
      = bigSep Finset.univ fun k : CK => semVal (cell c k) 0 := by
  rw [unscopedSems0_eq, bs_erase (Finset.mem_univ bar), ← bigSep_subtype_ne bar fun k : CK => (semVal (cell c k) 0 : sProp 𝕄)]
  rfl

/-! ## What a device starts with and ends with -/

/-- The cells' invariants and that each is at round 0. -/
def records (K : Dev nD × CK → ℕ) : sProp 𝕄 :=
  iprop((bigSep Finset.univ fun dk : Dev nD × CK => cellInv ER (Sch m ρ) (K dk) (kcell dk))
    ∗ (bigSep Finset.univ fun dk : Dev nD × CK => reached ER (kcell dk) 0))
instance records_persistent (K : Dev nD × CK → ℕ) : BI.Persistent (records m ρ K) := by unfold records; infer_instance

/-- The positions of a device's own cells. -/
def posn (c : Dev nD) : sProp 𝕄 := bigSep Finset.univ fun k : CK => iprop(atPos ER (cell c k) 0 ∅ 0 ∗ reached ER (cell c k) 0)

/-- What the launch's global step makes for each device. -/
def G' (c : Dev nD) : sProp 𝕄 := iprop(∃ K, records m ρ K ∗ posn c ∗ payToks c)

/-- What a device enters with. -/
def start (c : Dev nD) : sProp 𝕄 :=
  iprop((∃ K, HI m ρ K) ∗ bigSepL items (itok c) ∗ wtoks c ∗ Poss c 0 ∗ owns (c : Thread nD τ) wM fullShare.left (m ((c : Thread nD τ).loc main_arg1)))

/-- The scratch buffers, whole. -/
def scr (c : Dev nD) : sProp 𝕄 := iprop(free (F := F) c wbM ∗ free c wsM ∗ free c flM ∗ free c coM ∗ free c aaM)

def Φ₀ (c : Dev nD) : sProp 𝕄 := iprop(start m ρ c ∗ scr c)
def Φ₁ (c : Dev nD) : sProp 𝕄 := iprop(scr (F := F) c ∗ bigSep Finset.univ fun k : CK => semVal (cell c k) 0)

abbrev O₀ (c : Dev nD) : CellTallies nD τ sig ℕ := owesL c items

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owns_of_pts (c : Dev nD) (b : Ref sig .tc) (f : Buf (Elt F) (((c : Dev nD) : Thread nD τ).loc b)) :
    ((((c : Thread nD τ).loc b) ↦{fullShare} f) : sProp 𝕄) ⊢ owns (Ix := ℕ) (Name := ℕ) (U := UU) (Lvl := ℕ) (c : Thread nD τ) (Memref.whole b) fullShare f := by
  rw [owns_whole_eq]
  iintro H
  iexists f
  isplitr; · ipureintro; rfl
  iexact H

theorem whole_free (c : Dev nD) (b : Ref sig .tc) :
    (iprop(∃ f : Buf (Elt F) (((c : Dev nD) : Thread nD τ).loc b), ((c : Thread nD τ).loc b) ↦{fullShare} f) : sProp 𝕄) ⊢ free c (Memref.whole b) := by
  iintro ⟨%f, H⟩
  ihave H := (owns_of_pts c b f) $$ H
  iapply (free_intro (F := F) c (Memref.whole b) f)
  iexact H
theorem free_whole (c : Dev nD) (b : Ref sig .tc) :
    free c (Memref.whole b) ⊢ (iprop(∃ f : Buf (Elt F) (((c : Dev nD) : Thread nD τ).loc b), ((c : Thread nD τ).loc b) ↦{fullShare} f) : sProp 𝕄) := by
  unfold free
  iintro ⟨%X, H⟩
  ihave H := (BIBase.Entails.of_eq (owns_whole_eq c b X)) $$ H
  icases H with ⟨%f, -, H⟩
  iexists f; iexact H

theorem scr_eq (c : Dev nD) : (Pipeline.scopedRest cfg0.spec c : sProp 𝕄) ⊢ scr c := by
  rw [scopedRest0_eq]
  unfold scr
  iintro ⟨H0, H1, H2, H3, H4⟩
  isplitl [H0]; · iapply (whole_free c cc0_scratch0); iexact H0
  isplitl [H1]; · iapply (whole_free c cc0_scratch1); iexact H1
  isplitl [H2]; · iapply (whole_free c cc0_scratch2); iexact H2
  isplitl [H3]; · iapply (whole_free c cc0_scratch3); iexact H3
  iapply (whole_free c cc0_scratch4); iexact H4
theorem eq_scr (c : Dev nD) : scr c ⊢ (Pipeline.scopedRest cfg0.spec c : sProp 𝕄) := by
  rw [scopedRest0_eq]
  unfold scr
  iintro ⟨H0, H1, H2, H3, H4⟩
  isplitl [H0]; · iapply (free_whole c cc0_scratch0); iexact H0
  isplitl [H1]; · iapply (free_whole c cc0_scratch1); iexact H1
  isplitl [H2]; · iapply (free_whole c cc0_scratch2); iexact H2
  isplitl [H3]; · iapply (free_whole c cc0_scratch3); iexact H3
  iapply (free_whole c cc0_scratch4); iexact H4

/-! ## The body's obligation -/

theorem rows_start (c : Dev nD) : free (F := F) c aaM ⊢ iprop((chain 0 0 c ∗ chain 2 0 c) ∗ R c c) := by
  refine (rows_split (F := F) c).trans ?_
  rw [bigSep_univ_eq_bigSepL [c, rot 1 c, rot 2 c, rot 3 c, rot 4 c, rot 7 c, rot 6 c, rot 5 c]
    (by revert c; decide +kernel) (by revert c; decide +kernel)]
  unfold chain chainL
  rw [if_pos rfl, if_neg (by decide), if_pos rfl]
  simp only [List.drop_zero, bsl_cons, bigSepL_nil]
  iintro ⟨H, H1, H2, H3, H4, H7, H6, H5, -⟩
  isplitr [H]
  · isplitl [H1 H2 H3 H4]
    · isplitl [H1]; · iexact H1
      isplitl [H2]; · iexact H2
      isplitl [H3]; · iexact H3
      isplitl [H4]; · iexact H4
      iempintro
    isplitl [H7]; · iexact H7
    isplitl [H6]; · iexact H6
    isplitl [H5]; · iexact H5
    iempintro
  iexact H

theorem slots_start (c : Dev nD) : free (F := F) c flM
    ⊢ iprop((free c (slotM 0 0) ∗ free c (slotM 1 0) ∗ free c (slotM 2 0) ∗ free c (slotM 3 0))
      ∗ (free c (slotM 0 1) ∗ free c (slotM 1 1)) ∗ (free c (slotM 2 1) ∗ free c (slotM 3 1))) := by
  refine (slots_split (F := F) c).trans ?_
  rw [bigSep_univ_eq_bigSepL [((0 : Fin 4), (0 : Fin 2)), (1, 0), (2, 0), (3, 0), (0, 1), (1, 1), (2, 1), (3, 1)] (by decide) (by decide)]
  simp only [bsl_cons, bigSepL_nil]
  iintro ⟨A0, A1, A2, A3, B0, B1, B2, B3, -⟩
  isplitl [A0 A1 A2 A3]
  · isplitl [A0]; · iexact A0
    isplitl [A1]; · iexact A1
    isplitl [A2]; · iexact A2
    iexact A3
  isplitl [B0 B1]
  · isplitl [B0]; · iexact B0
    iexact B1
  isplitl [B2]; · iexact B2
  iexact B3

theorem chs_start (c : Dev nD) : free (F := F) c coM ⊢ bigSepL [0, 1, 2, 3, 4, 5, 6, 7] fun t => free c (chM t) := by
  refine (chs_split (F := F) c).trans ?_
  rw [bigSep_univ_eq_bigSepL [0, 1, 2, 3, 4, 5, 6, 7] (by decide) (by decide)]

theorem w_start (c : Dev nD) : (owns (c : Thread nD τ) wM fullShare.left (m ((c : Thread nD τ).loc main_arg1)) : sProp 𝕄)
    ⊢ iprop(owns (c : Thread nD τ) (wsrc 0) fullShare.left (wblk m c 0) ∗ owns (c : Thread nD τ) (wsrc 1) fullShare.left (wblk m c 1)
      ∗ owns (c : Thread nD τ) (wsrc 2) fullShare.left (wblk m c 2) ∗ owns (c : Thread nD τ) (wsrc 3) fullShare.left (wblk m c 3)) := by
  refine (w_split m c fullShare.left).trans ?_
  rw [bigSep_univ_eq_bigSepL [0, 1, 2, 3] (by decide) (by decide)]
  simp only [bsl_cons, bigSepL_nil]
  iintro ⟨A0, A1, A2, A3, -⟩
  isplitl [A0]; · iexact A0
  isplitl [A1]; · iexact A1
  isplitl [A2]; · iexact A2
  iexact A3

/-- What the body starts from. -/
theorem start_split (c : Dev nD) (X : Vec F S4096x1024 .f32) :
    iprop(scr c ∗ wtoks c ∗ owns (c : Thread nD τ) wM fullShare.left (m ((c : Thread nD τ).loc main_arg1))
      ∗ owns (c : Thread nD τ) xM fullShare (xstg m ρ c) ∗ owns (c : Thread nD τ) oM fullShare X) ⊢ iprop(Start m ρ c ∗ R c c) := by
  unfold scr wtoks Start Out
  iintro ⟨⟨FW, FS, FL, FC, FA⟩, ⟨T0, T1, T2, T3⟩, HW, HX, HO⟩
  ihave FL := (slots_start (F := F) c) $$ FL
  icases FL with ⟨FL0, FL1, FL2⟩
  ihave FC := (chs_start (F := F) c) $$ FC
  ihave FA := (rows_start (F := F) c) $$ FA
  icases FA with ⟨FA, FR⟩
  ihave HW := (w_start m c) $$ HW
  icases HW with ⟨W0, W1, W2, W3⟩
  isplitr [FR]
  · isplitl [FL0]; · iexact FL0
    isplitl [FL1]; · iexact FL1
    isplitl [FL2]; · iexact FL2
    isplitl [FC]; · iexact FC
    isplitl [FA]; · iexact FA
    isplitl [W0 W1 W2 W3 T0 T1 T2 T3]
    · isplitl [W0 T0]
      · isplitl [W0]; · iexact W0
        iexact T0
      isplitl [W1 T1]
      · isplitl [W1]; · iexact W1
        iexact T1
      isplitl [W2 T2]
      · isplitl [W2]; · iexact W2
        iexact T2
      isplitl [W3]; · iexact W3
      iexact T3
    isplitl [FS]; · iexact FS
    isplitl [FW]; · iexact FW
    isplitl [HX]; · iexact HX
    iexists X
    isplitr; · ipureintro; exact fun p hp => absurd hp List.not_mem_nil
    iexact HO
  iexact FR

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (BIClass.sep_mono (BI.bigSep_of_persistent S R) .rfl).trans (by rw [← bigSep_sep']; exact bigSep_mono h)

theorem close_one (K : Dev nD × CK → ℕ) (c : Dev nD) (k : CK) (n : ℕ) (h : rounds k ≤ n) :
    (iprop(HI m ρ K ∗ (atPos ER (cell c k) n ∅ 0 ∗ reached ER (cell c k) n)) : sProp 𝕄) ⊢ iprop(|={Set.univ}=> semVal (cell c k) 0) := by
  iintro ⟨#HH, HA, -⟩
  iapply (Rounds.cell_close ER (Sch m ρ) (Set.mem_univ (K (c, k))) (fun h => h) (R := n)
    (fun r hr => Sch_duties_later m ρ c k r (h.trans hr)))
  isplitr; · iapply (HI_inv m ρ K c k); iexact HH
  iexact HA

/-- At the end every cell closes, its counter at zero. -/
theorem close_all (K : Dev nD × CK → ℕ) (c : Dev nD) : iprop(HI m ρ K ∗ Poss c 91) ⊢ (|={Set.univ}=> bigSep Finset.univ fun k : CK => semVal (cell c k) 0 : sProp 𝕄) := by
  have hp : ∀ k : CK, rounds k ≤ posAt 91 k := fun k => by
    have := posAt_end (num k); rw [ofNum_num] at this; exact le_of_eq this.symm
  unfold Poss
  iintro ⟨#HH, HP, -⟩
  iapply (BIBase.Entails.trans (bigSep_with_persistent (R := HI m ρ K) fun k _ => close_one m ρ K c k _ (hp k)) (bigSep_fupd _ _))
  isplitr; · iexact HH
  iexact HP

theorem share_eq (c : Dev nD) (w : Fin cfg0.W) : (dats m ρ 0 c).share w = fullShare := by unfold Dat.share; split <;> rfl
theorem fetch_0 (t : Fin cfg0.N) : (cfg0.win (0 : Fin 2)).fetch t = true := by rw [fin_N0 t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ c ∗ (dats m ρ 0 c).owesAt 0 t0_0.succ ∗ stg c cc0_stg0_0 (xstg m ρ c) ∗ stg c cc0_stg1_0 (outAt m ρ c))

theorem bodyPre_open (c : Dev nD) : bodyPre m ρ c ⊢ iprop(∃ K, HI m ρ K ∗ Todo c 0 ∗ Poss c 0 ∗ Start m ρ c ∗ R c c) := by
  unfold bodyPre Φ₀ start Dat.owesAt Pipeline.owesWithin
  iintro ⟨⟨⟨⟨%K, #HH⟩, HT, Hw, HP, HW⟩, HS⟩, ⟨%W, %hW, HO⟩, ⟨%d0, %g0, %hg0, Hx⟩, ⟨%d1, %g1, %hg1, Ho⟩⟩
  have hx : g0 = xstg m ρ c := by rw [hg0]; unfold Dat.before; rw [if_pos (fetch_0 t0_0)]; rfl
  subst hx
  ihave Hx := (owns_of_pts c cc0_stg0_0 _) $$ Hx
  ihave Ho := (owns_of_pts c cc0_stg1_0 g1) $$ Ho
  ihave HX := (start_split m ρ c g1) $$ [HS Hw HW Hx Ho]
  · isplitl [HS]; · iexact HS
    isplitl [Hw]; · iexact Hw
    isplitl [HW]; · iexact HW
    isplitl [Hx]; · iexact Hx
    iexact Ho
  icases HX with ⟨HX, HR⟩
  iexists K
  isplitr; · iexact HH
  isplitl [HO HT]
  · unfold Todo
    isplitl [HO]; · iexists W; iexact HO
    iexact HT
  isplitl [HP]; · iexact HP
  isplitl [HX]; · iexact HX
  iexact HR

theorem bodyPost_close (K : Dev nD × CK → ℕ) (c : Dev nD) : iprop(HI m ρ K ∗ End m ρ c) ⊢ (|={Set.univ}=> bodyPost m ρ c : sProp 𝕄) := by
  unfold End
  iintro ⟨#HH, HT, HP, F1, F2, F3, F4, F5, HX, HO⟩
  imod (close_all m ρ K c) $$ [HP] with HZ
  · isplitr; · iexact HH
    iexact HP
  imodintro
  unfold bodyPost Φ₁ scr Todo
  icases HT with ⟨⟨%W, HW⟩, -⟩
  isplitl [F1 F2 F3 F4 F5 HZ]
  · isplitl [F1 F2 F3 F4 F5]
    · isplitl [F1]; · iexact F1
      isplitl [F2]; · iexact F2
      isplitl [F3]; · iexact F3
      isplitl [F4]; · iexact F4
      iexact F5
    iexact HZ
  isplitl [HW]
  · unfold Dat.owesAt Pipeline.owesWithin
    iexists W
    isplitr; · ipureintro; exact fun _ _ => Or.inl trivial
    iexact HW
  isplitl [HX]
  · iapply (BIBase.Entails.of_eq (owns_whole_eq c cc0_stg0_0 _)); iexact HX
  iapply (BIBase.Entails.of_eq (owns_whole_eq c cc0_stg1_0 _)); iexact HO

theorem wp_fupd_post (c : Dev nD) {α : Type} {p : Prog (TpuEff nD τ sig (Elt F) Λ₀ .tc) α} {Q : α → sProp 𝕄} :
    (WP c p (fun a => iprop(|={Set.univ}[frame]=> Q a)) : sProp 𝕄) ⊢ WP c p Q := wp_fupd frame (wpE (defs₀ (F := F)) 𝒱₀ (c : Thread nD τ) none) Set.univ p Q

theorem body_step (c : Dev nD) : bodyPre m ρ c ⊢ WP (F := F) c (cc0_body (Memref.whole cc0_stg0_0) (hstage0_0 0) (Memref.whole main_arg1) (Memref.isWhole_whole _)
      (Memref.whole cc0_stg1_0) (hstage0_1 0) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      cc0_scratch5 cc0_scratch6 cc0_scratch7 cc0_scratch8 cc0_scratch9 cc0_scratch10 cc0_scratch11 cc0_scratch12) (fun _ => bodyPost m ρ c) := by
  iintro H
  ihave H := (bodyPre_open m ρ c) $$ H
  icases H with ⟨%K, #HH, HT, HP, HS, HR⟩
  iapply (wp_fupd_post (F := F) c)
  iapply (body_run m ρ K c (hstage0_0 0) (Memref.isWhole_whole _) (hstage0_1 0) (Memref.isWhole_whole _) (Memref.isWhole_whole _) (Memref.isWhole_whole _) (Memref.isWhole_whole _)
    (Memref.isWhole_whole _)) $$ [HT HP HS HR]
  · isplitr; · iexact HH
    isplitl [HT]; · iexact HT
    isplitl [HP]; · iexact HP
    isplitl [HS]; · iexact HS
    iexact HR
  iintro HE
  iapply (bodyPost_close m ρ K c)
  isplitr; · iexact HH
  iexact HE

end Cert.KernelIdealProof
-- ==== Proof.I.Oblig.lean ====
/-
# `Oblig`: the pipeline's obligation
-/
module

public import proofs.«01_k».proof.Proof.I.Start

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

open Idealize.ShloMosaic.Pipeline (Dat BodyObligation)

theorem bigSep_W (Φ : Fin cfg0.W → sProp 𝕄) : bigSep Finset.univ Φ = iprop(Φ (0 : Fin 2) ∗ Φ (1 : Fin 2)) := bigSep_W0 Φ

attribute [local irreducible] cc0_body

set_option maxRecDepth 4000 in
/-- The pipeline's proof obligation for the region's one grid point. -/
theorem body_obligation (c : Dev nD) : BodyObligation (dats (F := F) m ρ 0 c) (defs₀ (F := F)) 𝒱₀ 0 Set.univ := fun t => by
  rw [fin_N0 t]
  rw [bigSep_W, bigSep_W]
  simp only [owns_whole_eq]
  exact body_step m ρ c

end Cert.KernelIdealProof
-- ==== Proof.I.Launch.lean ====
/-
# `Launch`: the ghost state of the launch and its side conditions
-/
module

public import proofs.«01_k».proof.Proof.I.Start

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

open Idealize.ShloMosaic.Pipeline (Dat BodyObligation)

/-! ## The ghost state of the launch -/

/-- What the launch deals a device: its cells' ghost state and the tokens of its cells' duties. -/
def G (c : Dev nD) : sProp 𝕄 :=
  iprop((bigSep Finset.univ fun k : CK => roundState ER (Sch m ρ) (cell c k) 0) ∗ posn c ∗ dtoks c duts)

theorem bs_cells (Φ : GSem nD τ sig → sProp 𝕄) : bigSep cells Φ = bigSep Finset.univ fun c : Dev nD => bigSep Finset.univ fun k : CK => Φ (cell c k) := by
  unfold cells; rw [bigSep_map, bigSep_univ_prod]; rfl

theorem fund_all : BI.own (ER (initOf cells toks)) ⊢ (|==> bigSep Finset.univ (G m ρ) : sProp 𝕄) := by
  unfold G posn
  simp only [bigSep_sep']
  iintro HX
  imod (Rounds.fund ER (Sch m ρ) cells toks) $$ HX with ⟨Hst, Hr, Hat, Htok⟩
  imodintro
  isplitl [Hst]; · iapply (BIBase.Entails.of_eq (bs_cells fun g => roundState ER (Sch m ρ) g 0)); iexact Hst
  isplitl [Hr Hat]
  · isplitl [Hat]; · iapply (BIBase.Entails.of_eq (bs_cells fun g => atPos ER g 0 ∅ 0)); iexact Hat
    iapply (BIBase.Entails.of_eq (bs_cells fun g => reached ER g 0)); iexact Hr
  iapply (BIBase.Entails.of_eq (toks_eq (F := F))); iexact Htok

theorem alloc_cells (c : Dev nD) :
    (iprop((bigSep Finset.univ fun k : CK => semVal (cell c k) 0) ∗ bigSep Finset.univ fun k : CK => roundState ER (Sch m ρ) (cell c k) 0) : sProp 𝕄)
      ⊢ iprop(|={Set.univ}=> bigSep Finset.univ fun k : CK => iprop(∃ κ : ℕ, cellInv ER (Sch m ρ) κ (cell c k))) := by
  rw [← bigSep_sep']
  exact (bigSep_mono fun k _ => (Rounds.body_intro ER (Sch m ρ) (cell c k)).trans inv_alloc).trans (bigSep_fupd _ _)

theorem core_alloc (c : Dev nD) :
    (iprop(Pipeline.ownSems0 (Ix := ℕ) (Name := ℕ) (U := UU) (Lvl := ℕ) (Val := Elt F) (τ := τ) osem c ∗ unscopedSems0 c ∗ G m ρ c) : sProp 𝕄)
      ⊢ |={Set.univ}=> iprop((bigSep Finset.univ fun k : CK => iprop(∃ κ : ℕ, cellInv ER (Sch m ρ) κ (cell c k))) ∗ posn c ∗ dtoks c duts) := by
  unfold G
  iintro ⟨Ho, Hu, Hst, Hp, Ht⟩
  imod (alloc_cells m ρ c) $$ [Ho Hu Hst] with HI
  · isplitl [Ho Hu]
    · iapply (BIBase.Entails.of_eq (sems0_eq (F := F) c))
      isplitl [Hu]; · iexact Hu
      iexact Ho
    iexact Hst
  imodintro
  isplitl [HI]; · iexact HI
  isplitl [Hp]; · iexact Hp
  iexact Ht

theorem G'_intro (K : Dev nD × CK → ℕ) (c : Dev nD) : (iprop(records m ρ K ∗ (posn c ∗ payToks c)) : sProp 𝕄) ⊢ G' m ρ c := by
  unfold G'
  iintro ⟨HR, HP⟩
  iexists K
  isplitl [HR]; · iexact HR
  iexact HP

/-- The records that each cell of each device is at round 0, out of the positions. -/
theorem posn_reached : (bigSep Finset.univ fun c : Dev nD => (posn c : sProp 𝕄))
    ⊢ iprop((bigSep Finset.univ fun dk : Dev nD × CK => reached ER (kcell dk) 0) ∗ bigSep Finset.univ fun c : Dev nD => posn c) := by
  have h (c : Dev nD) (k : CK) : (iprop(atPos ER (cell c k) 0 ∅ 0 ∗ reached ER (cell c k) 0) : sProp 𝕄)
      ⊢ iprop(reached ER (cell c k) 0 ∗ (atPos ER (cell c k) 0 ∅ 0 ∗ reached ER (cell c k) 0)) := by
    iintro ⟨HA, #HR⟩
    isplitr; · iexact HR
    isplitl [HA]; · iexact HA
    iexact HR
  have h1 (c : Dev nD) : (posn c : sProp 𝕄) ⊢ iprop((bigSep Finset.univ fun k : CK => reached ER (cell c k) 0) ∗ posn c) := by
    unfold posn
    rw [← bigSep_sep' (s := Finset.univ) (Φ := fun k : CK => reached ER (cell c k) 0)]
    exact bigSep_mono fun k _ => h c k
  rw [bigSep_univ_prod (fun dk : Dev nD × CK => (reached ER (kcell dk) 0 : sProp 𝕄)), ← bigSep_sep']
  exact bigSep_mono fun c _ => h1 c

theorem regroup :
    (bigSep Finset.univ fun c : Dev nD => iprop((bigSep Finset.univ fun k : CK => iprop(∃ κ : ℕ, cellInv ER (Sch m ρ) κ (cell c k)))
        ∗ posn c ∗ dtoks c duts) : sProp 𝕄) ⊢ bigSep Finset.univ (G' m ρ) := by
  rw [bigSep_sep', bigSep_sep', ← bigSep_univ_prod (fun dk : Dev nD × CK => iprop(∃ κ : ℕ, cellInv ER (Sch m ρ) κ (kcell dk)))]
  iintro ⟨HI, HP, HT⟩
  ihave HK := (BI.bigSep_exists_pi Finset.univ (fun (dk : Dev nD × CK) (κ : ℕ) => (cellInv ER (Sch m ρ) κ (kcell dk) : sProp 𝕄))) $$ HI
  icases HK with ⟨%K, #HI⟩
  ihave HT := (toks_around (F := F)) $$ HT
  ihave HP := (posn_reached (F := F)) $$ HP
  icases HP with ⟨#HR, HP⟩
  iapply (bigSep_with_persistent (R := records m ρ K) fun c _ => G'_intro m ρ K c)
  isplitr
  · unfold records; isplitl; · iexact HI
    iexact HR
  iapply (BIBase.Entails.of_eq (bigSep_sep' Finset.univ (fun c : Dev nD => (posn c : sProp 𝕄)) payToks).symm)
  isplitl [HP]; · iexact HP
  iexact HT

/-- The global step: all semaphores of all devices at once. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's side conditions -/

theorem owns_whole_of (c : Dev nD) (b : Ref sig .tc) (q : PosShare TreeShare) (f : Buf (Elt F) (((c : Dev nD) : Thread nD τ).loc b)) :
    ((((c : Thread nD τ).loc b) ↦{q} f) : sProp 𝕄) ⊢ owns (Ix := ℕ) (Name := ℕ) (U := UU) (Lvl := ℕ) (c : Thread nD τ) (Memref.whole b) q f :=
  BIBase.Entails.of_eq (Idealize.ShloMosaic.owns_whole (c : Thread nD τ) b q f).symm

/-- The half of the weights that stays outside the kernel. -/
def keep (c : Dev nD) : sProp 𝕄 := iprop(((c : Thread nD τ).loc main_arg1) ↦{fullShare.right} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ keep m c) := by
  rw [Pipeline.unscopedRestP_none, unscopedRest0_eq]
  unfold start G' records posn payToks keep
  iintro ⟨HW, #Hlev, Hcr, -, ⟨%K, ⟨#HI, #HR⟩, HP, HT, Hw⟩⟩
  ihave Hc := (wcred_deal (F := F) c) $$ Hcr
  ihave HW := (pointsTo_share (I := Finset.univ) (f := m ((c : Thread nD τ).loc main_arg1)) (PosShare.mem_left_op_right fullShare)).1 $$ HW
  icases HW with ⟨HW, HK⟩
  imodintro
  isplitr [HK]
  · isplitr
    · iexists K
      unfold HI
      isplitr; · iexact HI
      isplitr; · iexact HR
      iexact Hlev
    isplitl [HT]; · iexact HT
    isplitl [Hw]; · iexact Hw
    isplitl [HP Hc]
    · unfold Poss
      isplitl [HP]; · iexact HP
      iexact Hc
    iapply (owns_whole_of (F := F) c main_arg1 fullShare.left _); iexact HW
  · iexact HK

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scr_eq (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [← sems0_eq]
  iintro ⟨Hr, Hu, Ho⟩
  isplitl [Hu]; · iexact Hu
  isplitl [Ho]; · iexact Ho
  iapply (eq_scr (F := F) c); iexact Hr

theorem waits_ok (c : Dev nD) : (levAts L lv : sProp 𝕄) ⊢ Pipeline.cellsWaits cfgs (dats m ρ) 0 0 c :=
  Pipeline.cellsWaits_intro cfgs (dats m ρ) 0 0 c fun w s t => by
    have hs : ofSem (.dma ((cfg0.spec w).sem s)) = none := by revert w s; decide +kernel
    rcases t with ⟨_ | _, ht⟩
    · exact mayWait_stage c _ hs 0
    · exact mayWait_stage c _ hs 54

end Cert.KernelIdealProof
-- ==== Proof.I.Run.lean ====
/-
# `Run`: the run of the eight devices
-/
module

public import proofs.«01_k».proof.Proof.I.Oblig
public import proofs.«01_k».proof.Proof.I.Launch
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

open Idealize.ShloMosaic.Pipeline (Dat BodyObligation)

/-! ## The run -/

def finalA (c : Dev nD) (w : Fin cfg0.W) : Buf (Elt F) ((cfg0.win w).arr.view.loc (c : Thread nD τ)) := (dats m ρ 0 c).arrAt w cfg0.N

/-- What the final memory holds: each window's array as `finalA` says, and the weights unchanged. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

theorem read_end (c : Dev nD) (s' : Phys nD τ sig (Elt F)) : (iprop(unscopedSems0 c ∗ keep m c ∗ SI s') : sProp 𝕄)
    ⊢ |={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ SI s') := by
  unfold keep
  iintro ⟨Hu, HK, HSI⟩
  icombine HSI HK gives %hk
  imod (Pipeline.unscopedSems0_read (X := unscopedSems0 c) (c := c) fupd_intro s') $$ [Hu HSI] with ⟨%hu, HSI⟩
  · isplitl [Hu] <;> iassumption
  imodintro
  isplitr
  · ipureintro; exact ⟨hu, Buf.eq_of_forall_mem_univ hk⟩
  iexact HSI

attribute [local irreducible] cc0_body

set_option maxRecDepth 8000 in
/-- From any memory with zero counters every weakly fair execution of the eight devices' programs terminates, every semaphore
    counter is then zero, and each device's arrays hold what `finalA` says. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits_ok m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := keep m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_end m)
    (hQ := fun _ h hs => ⟨fun c => ⟨(h c).1, (h c).2.2.2⟩, sem_eq_zero hs fun c => (h c).2.2.1⟩)

end Cert.KernelIdealProof
-- ==== Proof.I.Final.lean ====
/-
# `Final`: What the arrays hold after the run
-/
module

public import proofs.«01_k».proof.Proof.I.Run
public import Idealize.ShloMosaic.Adequacy

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open CK

variable {F : FTy → Type} [FloatOps F] [Named F]

local notation "𝕄" => MT nD τ sig ℕ (Elt F) ℕ UU ℕ

variable (m : (ℓ : Loc nD τ sig) → Buf (Elt F) ℓ) (ρ : Dev nD → PrngReg)

/-! ## The arrays after the run -/

/-- The array of `x` is an input: it holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The one block of the result's array, read back, is what the body left in its staging buffer. -/
theorem finalA_o (c : Dev nD) : (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- That block is the whole array. -/
theorem result_eq (c : Dev nD) (r : PUnit × MemSt nD τ sig (Elt F)) (h : QC m ρ r) :
    r.2.mem ((c : Thread nD τ).loc main_v1) = outAt m ρ c := by
  have h1 := finalA_o m ρ c
  have h2 := (h c).1 (1 : Fin 2)
  rw [← h2] at h1
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  exact (hr _).symm.trans h1

/-- The block of `x` that the body finds in its staging buffer is the whole array of `x`. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- Both arguments are as they were. -/
theorem args_eq (r : PUnit × MemSt nD τ sig (Elt F)) (h : QC m ρ r) (c : Dev nD) :
    r.2.mem ((c : Thread nD τ).loc main_arg0) = m ((c : Thread nD τ).loc main_arg0)
      ∧ r.2.mem ((c : Thread nD τ).loc main_arg1) = m ((c : Thread nD τ).loc main_arg1) :=
  ⟨((h c).1 (0 : Fin 2)).trans (finalA_x m ρ c), (h c).2⟩

end Cert.KernelIdealProof
-- ==== Proof.I.VRef.lean ====
/-
# `VRef`: the run of the reference

One device over the whole arrays, eighteen operations and no kernel: the straight line `ops`, what each buffer holds
afterwards, and that the arguments are unchanged.  For any float values.
-/
module

public import proofs.«01_k».proof.Proof.Gen.ReferenceIdeal
public import Idealize.ShloMosaic.Lib.StableHlo.Run
public import Idealize.ShloMosaic.Adequacy
public import Idealize.ShloMosaic.Lib.Quiescent

@[expose] public section

noncomputable section

namespace Cert.ReferenceProof

open Cert.ReferenceIdeal Cert.ReferenceIdeal.Gen
open Idealize.ShloMosaic Idealize.ShloMosaic.TcCoe Idealize.ShloMosaic.StableHlo Idealize.SL.Sem

variable {F : FTy → Type} [FloatOps F]

/-- The product of the two arrays. -/
def prod (x : FVec F S4096x4096 .f32) (w : FVec F S4096x8192 .f32) : FVec F S4096x8192 .f32 :=
  Host.dotGeneral dot_S4096x4096_S4096x8192_S4096x8192_1_0_0_1_n_n none x w

/-- The greatest absolute value of an entry. -/
def top (y : FVec F S4096x8192 .f32) : FVec F S_ .f32 :=
  Host.reduce FloatOps.maximumf (Host.absf y) (constant S_ .f32 0xFF800000#32) reducesTo_S4096x8192_S_d0_1 h_S_

/-- The scale: the greatest absolute value over 127. -/
def scale (y : FVec F S4096x8192 .f32) : FVec F S_ .f32 := Host.divf (top y) (constant S_ .f32 0x42FE0000#32)

/-- A scalar at every entry. -/
def spread (v : FVec F S_ .f32) : FVec F S4096x8192 .f32 := broadcastInDim S4096x8192 ![] bcast_S_S4096x8192 v

/-- Quantised and back: round `y / scale`, clip it to `[-127, 127]`, multiply by the scale. -/
def quant (y : FVec F S4096x8192 .f32) : FVec F S4096x8192 .f32 :=
  mulf (minimumf (spread (constant S_ .f32 0x42FE0000#32))
      (maximumf (spread (constant S_ .f32 0xC2FE0000#32)) (Host.roundeven (Host.divf y (spread (scale y))))))
    (spread (scale y))

/-- @main's operations, in order. -/
abbrev ops : List (HloOp τ sig (Elt F)) :=
  [ binary main_arg0 main_arg1 main_v0 (fun l r => Host.dotGeneral dot_S4096x4096_S4096x8192_S4096x8192_1_0_0_1_n_n none l r),
    unary main_v0 main_v1 Host.absf,
    nullary main_cst (constant S_ .f32 0xFF800000#32),
    binary main_v1 main_cst main_v2 (fun x v => Host.reduce FloatOps.maximumf x v reducesTo_S4096x8192_S_d0_1 h_S_),
    nullary main_cst_0 (constant S_ .f32 0x42FE0000#32),
    binary main_v2 main_cst_0 main_v3 Host.divf,
    unary main_v3 main_v4 (broadcastInDim S4096x8192 ![] bcast_S_S4096x8192),
    binary main_v0 main_v4 main_v5 Host.divf,
    unary main_v5 main_v6 Host.roundeven,
    nullary main_cst_1 (constant S_ .f32 0xC2FE0000#32),
    nullary main_cst_2 (constant S_ .f32 0x42FE0000#32),
    unary main_cst_1 main_call1_v0 id,
    unary main_call1_v0 main_call1_v1 (broadcastInDim S4096x8192 ![] bcast_S_S4096x8192),
    binary main_call1_v1 main_v6 main_call1_v2 maximumf,
    unary main_cst_2 main_call1_v3 id,
    unary main_call1_v3 main_call1_v4 (broadcastInDim S4096x8192 ![] bcast_S_S4096x8192),
    binary main_call1_v4 main_call1_v2 main_v7 minimumf,
    unary main_v3 main_v8 (broadcastInDim S4096x8192 ![] bcast_S_S4096x8192),
    binary main_v7 main_v8 main_v9 mulf ]

/-- @main is that straight line. -/
theorem main_eq (c : Dev nD) : main (F := F) c = seq ops := rfl

/-- What `%9`'s buffer holds afterwards; -/
theorem out_eq (V : Valuation τ sig (Elt F)) : after ops V (main_v9 : DevRef τ sig)
    = quant (prod (V (main_arg0 : DevRef τ sig)) (V (main_arg1 : DevRef τ sig))) := by
  after_results
  rfl

/-- no operation writes the first argument, -/
theorem arg0_eq (V : Valuation τ sig (Elt F)) : after ops V (main_arg0 : DevRef τ sig) = V (main_arg0 : DevRef τ sig) := by
  after_results

/-- nor the second. -/
theorem arg1_eq (V : Valuation τ sig (Elt F)) : after ops V (main_arg1 : DevRef τ sig) = V (main_arg1 : DevRef τ sig) := by
  after_results

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., unary_bufs_sub .., nullary_bufs_sub .., binary_bufs_sub .., nullary_bufs_sub .., binary_bufs_sub ..,
    unary_bufs_sub .., binary_bufs_sub .., unary_bufs_sub .., nullary_bufs_sub .., nullary_bufs_sub .., unary_bufs_sub ..,
    unary_bufs_sub .., binary_bufs_sub .., unary_bufs_sub .., unary_bufs_sub .., binary_bufs_sub .., unary_bufs_sub ..,
    binary_bufs_sub ..⟩

/-- From any memory with zero counters every weakly fair execution of @main terminates, with the quantised product in
    `%9`'s buffer and both arguments unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v9)
          = quant (prod (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v9).trans (out_eq _), (h c main_arg0).trans (arg0_eq _), (h c main_arg1).trans (arg1_eq _)⟩)
    (run_seq scopedRefs_eq scopedSems_eq defs main (fun _ => ops) main_eq (fun _ => ops_sub) m ρ)

/-- There is no semaphore, so every counter is at zero. -/
theorem sems_zero (s : MemSt nD τ sig (Elt F)) : s.sem = fun _ => 0 :=
  Idealize.ShloMosaic.sem_eq_zero_of_no_sems (by decide) s

end Cert.ReferenceProof
-- ==== Proof.I.VMul.lean ====
/-
# `VMul`: the products of blocks are blocks of the product

Over the reals a cast is the identity, so quarter `q` of device `d`'s rows times device `c`'s columns of the weights is
rows `512 d + 128 q …` and columns `1024 c …` of the whole product.
-/
module

public import proofs.«01_k».proof.Proof.I.Final
public import proofs.«01_k».proof.Proof.I.VRef
public import Idealize.ShloMosaic.Lib.MatmulPlain
public import Idealize.ShloMosaic.Lib.StackMember
public import Idealize.ShloMosaic.Lib.Layout

@[expose] public section

noncomputable section

namespace Cert.KernelIdealProof

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- The whole arrays: `x`, the weights. -/
abbrev WX := FVec Ideal (⟨2, ![4096, 4096]⟩ : Shape) .f32
abbrev WW := FVec Ideal (⟨2, ![4096, 8192]⟩ : Shape) .f32

/-- The devices' arguments are the blocks of the whole arrays. -/
def Agree (x : WX) (w : WW) : Prop := ∀ c : Dev nD,
  m ((c : Thread nD τ).loc main_arg0) = Layout.block ⟨2, ![512, 4096]⟩ ⟨2, ![4096, 4096]⟩ 0 8 c x
    ∧ m ((c : Thread nD τ).loc main_arg1) = Layout.block ⟨2, ![4096, 1024]⟩ ⟨2, ![4096, 8192]⟩ 1 8 c w

/-- The row of the whole array of row `r` of quarter `q` of device `d`; the column of column `l` of device `c`. -/
def row (d : Fin 8) (q : Fin 4) (r : Fin 128) : Fin 4096 := ⟨512 * d.val + 128 * q.val + r.val, by omega⟩
def col (c : Fin 8) (l : Fin 1024) : Fin 8192 := ⟨1024 * c.val + l.val, by omega⟩

theorem Xb_apply {x : WX} {w : WW} (h : Agree m x w) (d : Dev nD) (q : Fin 4) (r : Fin 128) (k : Fin 4096) :
    Xb m ρ d q (ix2 r k) = x (ix2 (row d q r) k) := by
  have e1 : Xb m ρ d q (ix2 r k) = m ((d : Thread nD τ).loc main_arg0) ((xR q).toLoadRect.idx (ix2 r k)) := by
    unfold Xb k0_pay11
    rw [shapeCast_self]
    show xM.view.readAt (Elt Ideal) (xR q).toLoadRect (xstg m ρ d) (ix2 r k) = _
    rw [View.readAt_apply, xstg_eq]
    rfl
  rw [e1, (h d).1, Layout.block_apply]
  congr 1
  funext a
  apply Fin.ext
  match a with
  | ⟨0, _⟩ => show d.val * 512 + (128 * q.val + 1 * r.val) = 512 * d.val + 128 * q.val + r.val; omega
  | ⟨1, _⟩ => show 0 + 1 * k.val = k.val; omega

theorem Wb_apply {x : WX} {w : WW} (h : Agree m x w) (c : Dev nD) (k : Fin 4096) (l : Fin 1024) :
    Wb m c (ix2 k l) = w (ix2 k (col c l)) := by
  have e1 : Wb m c (ix2 k l) = m ((c : Thread nD τ).loc main_arg1) (ix2 k l) := rfl
  rw [e1, (h c).2, Layout.block_apply]
  congr 1
  funext a
  apply Fin.ext
  match a with
  | ⟨0, _⟩ => rfl
  | ⟨1, _⟩ => show c.val * 1024 + l.val = 1024 * c.val + l.val; omega

/-- A block's product is a block of the product. -/
theorem Yb_apply {x : WX} {w : WW} (h : Agree m x w) (c : Dev nD) (p : Dev nD × Fin 4) (r : Fin 128) (l : Fin 1024) :
    Yb m ρ c p (ix2 r l) = Cert.ReferenceProof.prod (F := Ideal) x w (ix2 (row p.1 p.2 r) (col c l)) := by
  have e1 : Yb m ρ c p (ix2 r l) = FloatOps.matmul (DotDims.plain 128 4096 1024) none (Xb m ρ p.1 p.2) (Wb m c)
      (constant S128x1024 .f32 0x00000000#32) (ix2 r l) := rfl
  have e2 : Cert.ReferenceProof.prod (F := Ideal) x w (ix2 (row p.1 p.2 r) (col c l))
      = Host.dotGeneral (DotDims.plain 4096 4096 8192) none x w (ix2 (row p.1 p.2 r) (col c l)) := rfl
  rw [e1, e2, Ideal.matmul_plain_apply, StackMember.dotGeneral_plain_apply]
  have e0 : (constant S128x1024 .f32 0x00000000#32 : FVec Ideal S128x1024 .f32) (ix2 r l) = 0 := Ideal.ofBits_zero_f32
  rw [e0, zero_add]
  exact Finset.sum_congr rfl fun k _ => by rw [Xb_apply m ρ h, Wb_apply m h]

/-- All products in their places are device `c`'s columns of the whole product. -/
theorem Yall_apply {x : WX} {w : WW} (h : Agree m x w) (c : Dev nD) (i : Fin 4096) (l : Fin 1024) :
    Yall m ρ c (ix2 i l) = Cert.ReferenceProof.prod (F := Ideal) x w (ix2 i (col c l)) := by
  have e : row ⟨i.val / 512, by omega⟩ ⟨i.val % 512 / 128, by omega⟩ ⟨i.val % 128, Nat.mod_lt _ (by decide)⟩ = i :=
    Fin.ext (show 512 * (i.val / 512) + 128 * (i.val % 512 / 128) + i.val % 128 = i.val by omega)
  have h1 := Yb_apply m ρ h c ((⟨i.val / 512, by omega⟩ : Fin 8), (⟨i.val % 512 / 128, by omega⟩ : Fin 4)) ⟨i.val % 128, Nat.mod_lt _ (by decide)⟩ l
  rw [e] at h1
  rw [← h1]
  unfold Yall
  refine congrArg (Yb m ρ c _) ?_
  funext a
  match a with
  | ⟨0, _⟩ => rfl
  | ⟨1, _⟩ => rfl

end Cert.KernelIdealProof

end
-- ==== Proof.I.VScal.lean ====
/-
# `VScal`: the quantiser at one entry, over the extended reals

The kernel multiplies by `127 / g` where the reference divides by `g / 127`, and scales back by `g · (1/127)` where the
reference scales by `g / 127`.  For every `g ≥ 0` and every entry of absolute value at most `g` the two give the same.
-/
module

public import Idealize.ShloMosaic.PureOps.Ideal
public import Idealize.ShloMosaic.PureOps.Ideal.Laws

@[expose] public section

noncomputable section

namespace Cert.KernelIdealProof

open Idealize.ShloMosaic

/-- The float word of 127 is 127, -/
theorem w127 : Ideal.ofBits .f32 0x42FE0000#32 = ((127 : ℝ) : EReal) := by
  simp [Ideal.ofBits, Ideal.ieee, -EReal.coe_mul]; norm_num

/-- and that of −∞ is the least element. -/
theorem wbot : Ideal.ofBits .f32 0xFF800000#32 = (⊥ : EReal) := by simp [Ideal.ofBits, Ideal.ieee]

/-- Division by 127 is multiplication by 1/127. -/
theorem div127 (g : EReal) : Ideal.div g ((127 : ℝ) : EReal) = g * ((1 / 127 : ℝ) : EReal) := by
  have h0 : ((127 : ℝ) : EReal) ≠ 0 := by
    rw [← EReal.coe_zero]; exact fun h => absurd (EReal.coe_injective h) (by norm_num)
  unfold Ideal.div
  rw [if_neg h0, ← EReal.coe_inv, one_div]

/-- Rounding leaves 0. -/
theorem round0 : Ideal.liftRound Ideal.roundHalfEven (0 : EReal) = 0 := by
  rw [← EReal.coe_zero, Ideal.liftRound_coe, Ideal.roundHalfEven]; norm_num

/-- The entry before rounding: times `127 / g` or over `g / 127`, for `g` neither 0 nor ⊥. -/
theorem before_round (g y : EReal) (h0 : 0 < g) (hy : max y (-y) ≤ g) :
    y * Ideal.div ((127 : ℝ) : EReal) g = Ideal.div y (g * ((1 / 127 : ℝ) : EReal)) := by
  induction g with
  | bot => exact absurd h0 (by simp)
  | top =>
    have e : (⊤ : EReal) * ((1 / 127 : ℝ) : EReal) = ⊤ := EReal.top_mul_coe_of_pos (by norm_num)
    rw [e]
    unfold Ideal.div
    rw [if_neg (by simp), if_neg (by simp)]
    simp
  | coe g =>
    have hg : (0 : ℝ) < g := by exact_mod_cast h0
    have hy1 : y ≤ (g : EReal) := (le_max_left _ _).trans hy
    have hy2 : -y ≤ (g : EReal) := (le_max_right _ _).trans hy
    induction y with
    | bot => simp at hy2
    | top => simp at hy1
    | coe y =>
      have e : (g : EReal) * ((1 / 127 : ℝ) : EReal) = ((g * (1 / 127) : ℝ) : EReal) := (EReal.coe_mul _ _).symm
      have n1 : (g : EReal) ≠ 0 := h0.ne'
      have n2 : ((g * (1 / 127) : ℝ) : EReal) ≠ 0 := by
        rw [← EReal.coe_zero]
        exact fun h => absurd (EReal.coe_injective h) (by positivity)
      rw [e]
      unfold Ideal.div
      rw [if_neg n1, if_neg n2, ← EReal.coe_inv, ← EReal.coe_inv, ← EReal.coe_mul, ← EReal.coe_mul, ← EReal.coe_mul]
      congr 1
      field_simp

/-- The quantiser at one entry, as the kernel and as the reference compute it. -/
theorem quant_eq (g y lo hi : EReal) (hg : 0 ≤ g) (hy : max y (-y) ≤ g) :
    min hi (max lo (Ideal.liftRound Ideal.roundHalfEven (y * Ideal.div ((127 : ℝ) : EReal) g))) * (g * ((1 / 127 : ℝ) : EReal))
      = min hi (max lo (Ideal.liftRound Ideal.roundHalfEven (Ideal.div y (Ideal.div g ((127 : ℝ) : EReal)))))
        * Ideal.div g ((127 : ℝ) : EReal) := by
  rw [div127]
  rcases hg.eq_or_lt with h | h
  · rw [← h, zero_mul, mul_zero, mul_zero]
  · rw [before_round g y h hy]

end Cert.KernelIdealProof

end
-- ==== Proof.I.VMax.lean ====
/-
# `VMax`: the greatest absolute value

The kernel takes it block by block from 0, then over the table of the eight devices; the reference takes it over the whole
product from −∞.  Both are the least bound of the same absolute values, none of which is below 0.
-/
module

public import proofs.«01_k».proof.Proof.I.VMul
public import proofs.«01_k».proof.Proof.I.VScal
public import Idealize.ShloMosaic.PureOps.Reduce

@[expose] public section

noncomputable section

namespace Cert.KernelIdealProof

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- The absolute value. -/
def av (y : EReal) : EReal := max y (-y)

theorem av_nonneg (y : EReal) : 0 ≤ av y := by
  rcases le_total 0 y with h | h
  · exact h.trans (le_max_left _ _)
  · exact (EReal.neg_nonneg.2 h).trans (le_max_right _ _)

/-- A maximum over every entry, taken from −∞: its upper bounds are those of the entries. -/
theorem multiReduction_max_le {s : Shape} {axes : List (Fin s.rank)} (src : FVec Ideal s .f32) (h : s.Reduces axes S1)
    (hφ : FKind.Formats .f32) (hacc : (0xFF800000#32 : BitVec 32) = FKind.maximumf.neutral .f32 hφ) (j : S1.Idx) (B : EReal) :
    (multiReduction .maximumf axes S1 src 0xFF800000#32 h hφ hacc j : EReal) ≤ B ↔ ∀ i, (src i : EReal) ≤ B := by
  rw [multiReduction_maximumf_eq_fold]
  have e : Finset.fold FloatOps.maximumf (FloatOps.ofBits .f32 0xFF800000#32) src (Finset.univ.filter fun i => h.drop i = j)
      = Finset.fold max (⊥ : EReal) src (Finset.univ.filter fun i => h.drop i = j) := by
    rw [show (FloatOps.ofBits .f32 0xFF800000#32 : Ideal .f32) = (⊥ : EReal) from wbot]
    rfl
  rw [e, Finset.fold_max_le]
  constructor
  · intro hb i
    refine hb.2 i (Finset.mem_filter.2 ⟨Finset.mem_univ _, ?_⟩)
    funext a
    match a with
    | ⟨0, _⟩ => exact Subsingleton.elim (α := Fin 1) _ _
  · exact fun hb => ⟨bot_le, fun i _ => hb i⟩

/-- One block further: the bounds of the running maximum and of the block's entries. -/
theorem mx_le (g : EReal) (y : FVec Ideal S128x1024 .f32) (B : EReal) :
    (mx (F := Ideal) g y : EReal) ≤ B ↔ g ≤ B ∧ ∀ i, av (y i) ≤ B := by
  unfold mx
  rw [show ∀ a b : EReal, (Scalar.maximumf (F := Ideal) (φ := .f32) a b : EReal) = max a b from fun _ _ => rfl, max_le_iff]
  refine and_congr_right fun _ => ?_
  have key := multiReduction_max_le (shapeCast S1x128x1024 (absf y) shapeCasts_S128x1024_S1x128x1024) reduces_S1x128x1024_S1 (.inl rfl) rfl
    (Shape.reshapeEquiv shapeCasts_S1_S1x1x1 fun a => ⟨![0, 0, 0] a, inpos_S1x1x1_p0_0_0 a⟩) B
  refine Iff.trans key ?_
  constructor
  · intro h i
    obtain ⟨j, rfl⟩ := (Shape.reshapeEquiv shapeCasts_S128x1024_S1x128x1024).surjective i
    exact h j
  · exact fun h i => h _

/-- The running maximum over a list of blocks: its bounds are those of 0 and of all entries. -/
theorem amx_le (c : Dev nD) (l : List (Dev nD × Fin 4)) (B : EReal) :
    (amx m ρ c l : EReal) ≤ B ↔ 0 ≤ B ∧ ∀ p ∈ l, ∀ i, av (Yb m ρ c p i) ≤ B := by
  induction l with
  | nil =>
    rw [show amx m ρ c [] = (0 : EReal) from Ideal.ofBits_zero_f32]
    simp
  | cons p l ih =>
    rw [show amx m ρ c (p :: l) = mx (amx m ρ c l) (Yb m ρ c p) from rfl, mx_le, ih, List.forall_mem_cons]
    tauto

/-- A device's maximum. -/
theorem amv_le (c : Dev nD) (B : EReal) : (amv m ρ c : EReal) ≤ B ↔ ∀ p i, av (Yb m ρ c p i) ≤ B := by
  unfold amv
  rw [amx_le]
  constructor
  · exact fun h p => h.2 p (blks_all c p)
  · exact fun h => ⟨(av_nonneg _).trans (h (c, 0) (ix2 0 0)), fun p _ => h p⟩

/-- The maximum over the table of the eight devices. -/
theorem pay78_le (B : EReal) : (k0_pay78 (AMt m ρ) : EReal) ≤ B ↔ ∀ c p i, av (Yb m ρ c p i) ≤ B := by
  unfold k0_pay78
  have key := multiReduction_max_le (shapeCast S1x8x8x128 (AMt m ρ) shapeCasts_S8x8x128_S1x8x8x128) reduces_S1x8x8x128_S1 (.inl rfl) rfl
    (Shape.reshapeEquiv shapeCasts_S1_S1x1x1x1 fun a => ⟨![0, 0, 0, 0] a, inpos_S1x1x1x1_p0_0_0_0 a⟩) B
  refine Iff.trans key ?_
  constructor
  · intro h c
    obtain ⟨j, hj⟩ := (Shape.reshapeEquiv shapeCasts_S8x8x128_S1x8x8x128).surjective (ix3 c 0 0)
    have h1 := h j
    unfold shapeCast at h1
    rw [hj] at h1
    exact (amv_le m ρ c B).1 h1
  · exact fun h i => (amv_le m ρ _ B).2 (h _)

/-- The reference's maximum. -/
theorem top_le (y : FVec Ideal Cert.ReferenceIdeal.S4096x8192 .f32) (j : Cert.ReferenceIdeal.S_.Idx) (B : EReal) :
    (Cert.ReferenceProof.top (F := Ideal) y j : EReal) ≤ B ↔ ∀ i, av (y i) ≤ B := by
  unfold Cert.ReferenceProof.top
  rw [Host.reduce_eq_fold]
  have e : ∀ s : Finset Cert.ReferenceIdeal.S4096x8192.Idx, Finset.fold FloatOps.maximumf
        ((constant Cert.ReferenceIdeal.S_ .f32 0xFF800000#32 : FVec Ideal Cert.ReferenceIdeal.S_ .f32) (Shape.Idx.first Cert.ReferenceIdeal.Gen.h_S_)) (Host.absf y) s
      = Finset.fold max (⊥ : EReal) (fun i => av (y i)) s := fun s => by
    rw [show (constant Cert.ReferenceIdeal.S_ .f32 0xFF800000#32 : FVec Ideal Cert.ReferenceIdeal.S_ .f32)
      (Shape.Idx.first Cert.ReferenceIdeal.Gen.h_S_) = (⊥ : EReal) from wbot]
    rfl
  rw [e, Finset.fold_max_le]
  constructor
  · exact fun hb i => hb.2 i (Finset.mem_filter.2 ⟨Finset.mem_univ _, funext fun a => a.elim0⟩)
  · exact fun hb => ⟨bot_le, fun i _ => hb i⟩

/-- The two maxima are one. -/
theorem max_eq {x : WX} {w : WW} (h : Agree m x w) (j : Cert.ReferenceIdeal.S_.Idx) :
    (k0_pay78 (AMt m ρ) : EReal) = Cert.ReferenceProof.top (F := Ideal) (Cert.ReferenceProof.prod x w) j := by
  refine eq_of_forall_ge_iff fun B => ?_
  rw [pay78_le, top_le]
  constructor
  · intro hb
    suffices hs : ∀ (a : Fin 4096) (b : Fin 8192), av (Cert.ReferenceProof.prod (F := Ideal) x w (ix2 a b)) ≤ B by
      intro i
      rw [eq_ix2 i]
      exact hs _ _
    intro a b
    have h1 := Yb_apply m ρ h (⟨b.val / 1024, by omega⟩ : Fin 8) ((⟨a.val / 512, by omega⟩ : Fin 8), (⟨a.val % 512 / 128, by omega⟩ : Fin 4))
      ⟨a.val % 128, Nat.mod_lt _ (by decide)⟩ ⟨b.val % 1024, Nat.mod_lt _ (by decide)⟩
    have ea : row ⟨a.val / 512, by omega⟩ ⟨a.val % 512 / 128, by omega⟩ ⟨a.val % 128, Nat.mod_lt _ (by decide)⟩ = a :=
      Fin.ext (show 512 * (a.val / 512) + 128 * (a.val % 512 / 128) + a.val % 128 = a.val by omega)
    have eb : col ⟨b.val / 1024, by omega⟩ ⟨b.val % 1024, Nat.mod_lt _ (by decide)⟩ = b :=
      Fin.ext (show 1024 * (b.val / 1024) + b.val % 1024 = b.val by omega)
    rw [ea, eb] at h1
    rw [← h1]
    exact hb _ _ _
  · intro hb c p i
    rw [eq_ix2 i]
    refine le_of_eq_of_le (congrArg av (Yb_apply m ρ h c p (i 0) (i 1))) (hb _)

end Cert.KernelIdealProof

end
-- ==== Proof.I.VOut.lean ====
/-
# `VOut`: a device's result is its block of the reference's
-/
module

public import proofs.«01_k».proof.Proof.I.VMax

@[expose] public section

noncomputable section

namespace Cert.KernelIdealProof

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- The named constant is 1/127. -/
theorem inv127_eq : (Named.named κ "inv127" 0x3C010204#32 : Ideal .f32) = ((1 / 127 : ℝ) : EReal) :=
  IdealRules.named_const.ideal_named_scalar _ _ _ _ rfl

/-- The kernel's quantiser at one entry, the two factors given. -/
theorem qz_apply (inv sc : Ideal .f32) (v : FVec Ideal S4096x1024 .f32) (i : S4096x1024.Idx) :
    qz (F := Ideal) inv sc v i = (min (Ideal.ofBits .f32 0x42FE0000#32) (max (Ideal.ofBits .f32 0xC2FE0000#32)
        (Ideal.liftRound Ideal.roundHalfEven ((v i : EReal) * inv))) * sc : EReal) := rfl

/-- The factor before rounding, -/
theorem pay79_eq (V : Vec Ideal S8x8x128 .f32) : k0_pay79 (F := Ideal) V = Ideal.div ((127 : ℝ) : EReal) (k0_pay78 (F := Ideal) V) := by
  unfold k0_pay79
  generalize k0_pay78 (F := Ideal) V = g
  exact congrArg (fun a => Ideal.div a g) w127

/-- and the one after it. -/
theorem pay80_eq (V : Vec Ideal S8x8x128 .f32) : k0_pay80 (F := Ideal) V = ((k0_pay78 (F := Ideal) V : EReal) * ((1 / 127 : ℝ) : EReal) : EReal) := by
  unfold k0_pay80
  generalize k0_pay78 (F := Ideal) V = g
  exact congrArg (fun a : EReal => (g : EReal) * a) inv127_eq

/-- The kernel's result at one entry. -/
theorem outAt_apply (c : Dev nD) (i : S4096x1024.Idx) :
    (outAt m ρ c i : EReal) = min ((127 : ℝ) : EReal) (max (Ideal.ofBits .f32 0xC2FE0000#32)
        (Ideal.liftRound Ideal.roundHalfEven (Yall m ρ c i * Ideal.div ((127 : ℝ) : EReal) (k0_pay78 (AMt m ρ)))))
      * (k0_pay78 (AMt m ρ) * ((1 / 127 : ℝ) : EReal)) := by
  unfold outAt
  generalize Yall m ρ c = Y
  generalize AMt m ρ = V
  rw [qz_apply, pay79_eq, pay80_eq, w127]

/-- The reference's quantiser at one entry. -/
theorem quant_apply (y : FVec Ideal Cert.ReferenceIdeal.S4096x8192 .f32) (i : Cert.ReferenceIdeal.S4096x8192.Idx) :
    (Cert.ReferenceProof.quant (F := Ideal) y i : EReal) = min ((127 : ℝ) : EReal) (max (Ideal.ofBits .f32 0xC2FE0000#32)
        (Ideal.liftRound Ideal.roundHalfEven (Ideal.div (y i) (Ideal.div (Cert.ReferenceProof.top (F := Ideal) y ix0) ((127 : ℝ) : EReal)))))
      * Ideal.div (Cert.ReferenceProof.top (F := Ideal) y ix0) ((127 : ℝ) : EReal) := by
  have e : ∀ v : FVec Ideal Cert.ReferenceIdeal.S_ .f32, Cert.ReferenceProof.spread v i = v ix0 := fun v => congrArg v (eq_ix0 _)
  rw [← w127]
  unfold Cert.ReferenceProof.quant
  simp only [mulf, minimumf, maximumf, e]
  unfold Host.roundeven Host.divf
  simp only [e]
  rfl

/-- Device `c`'s result is block `c` of the reference's. -/
theorem outAt_eq {x : WX} {w : WW} (h : Agree m x w) (c : Dev nD) :
    outAt m ρ c = Layout.block ⟨2, ![4096, 1024]⟩ ⟨2, ![4096, 8192]⟩ 1 8 c
      (Cert.ReferenceProof.quant (F := Ideal) (Cert.ReferenceProof.prod x w)) := by
  have hm : (k0_pay78 (AMt m ρ) : EReal) = Cert.ReferenceProof.top (F := Ideal) (Cert.ReferenceProof.prod x w) ix0 := max_eq m ρ h ix0
  have hb : ∀ i, av (Cert.ReferenceProof.prod (F := Ideal) x w i) ≤ k0_pay78 (AMt m ρ) := by
    rw [hm]
    exact (top_le _ _ _).1 le_rfl
  funext i
  rw [Layout.block_apply]
  have ei : ∀ hT : Layout.Tiles ⟨2, ![4096, 1024]⟩ ⟨2, ![4096, 8192]⟩ 1 8, hT.idx c i = ix2 (i 0) (col c (i 1)) := fun hT => by
    funext a
    apply Fin.ext
    match a with
    | ⟨0, _⟩ => rfl
    | ⟨1, _⟩ => show c.val * 1024 + (i 1).val = 1024 * c.val + (i 1).val; omega
  rw [ei]
  have ey : Yall m ρ c i = Cert.ReferenceProof.prod (F := Ideal) x w (ix2 (i 0) (col c (i 1))) := by
    refine (congrArg (Yall m ρ c) (eq_ix2 i)).trans (Yall_apply m ρ h c (i 0) (i 1))
  refine (outAt_apply m ρ c i).trans (Eq.trans ?_ (quant_apply _ _).symm)
  rw [← hm, ey]
  exact quant_eq _ _ _ _ ((av_nonneg _).trans (hb (ix2 0 0))) (hb _)

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.P.Final
public import proofs.«01_k».proof.Proof.I.Final
public import proofs.«01_k».proof.Proof.I.VRef
public import proofs.«01_k».proof.Proof.I.VOut
public import Idealize.ShloMosaic.Adequacy
public import Idealize.ShloMosaic.Init

@[expose] public section

noncomputable section

namespace Cert.Proof

open Idealize.ShloMosaic Idealize.SL.Sem

/-- The kernel's frame. -/
theorem frame_p : Cert.quiescent_Kernel := by
  intro m ρ _
  exact (θ_run _ _ _).mono (fun r h => ⟨fun c => Cert.KernelProof.args_eq m ρ r h.1 c, h.2⟩) (Cert.KernelProof.run_main (F := Bits) m ρ)

/-- The idealized kernel's. -/
theorem frame_pi : Cert.quiescent_KernelIdeal := by
  intro m ρ _
  exact (θ_run _ _ _).mono (fun r h => ⟨fun c => Cert.KernelIdealProof.args_eq m ρ r h.1 c, h.2⟩) (Cert.KernelIdealProof.run_main m ρ)

/-- The reference's. -/
theorem frame_ri : Cert.quiescent_ReferenceIdeal := by
  intro m ρ _
  exact (θ_run _ _ _).mono (fun r h => ⟨fun c => (h c).2, Cert.ReferenceProof.sems_zero r.2⟩) (Cert.ReferenceProof.run_main m ρ)

/-- The one named constant is the fraction it is named for. -/
theorem preserves : Cert.preserves_Kernel_KernelIdeal :=
  IdealRules.named_const.statement Cert.KernelIdeal.κ "inv127" .f32 0x3C010204#32 _ rfl

/-- Device `c`'s result is block `c` of what the reference computes. -/
theorem algebraic : Cert.algebraic_KernelIdeal_ReferenceIdeal := by
  intro m ρ m' ρ' _ hagree
  refine ⟨Cert.ReferenceProof.quant (F := Ideal) (Cert.ReferenceProof.prod
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))), ?_, ?_⟩
  · exact (θ_run _ _ _).mono (fun r h c => ⟨(Cert.KernelIdealProof.result_eq m ρ c r h.1).trans (Cert.KernelIdealProof.outAt_eq m ρ hagree c),
      Cert.KernelIdealProof.args_eq m ρ r h.1 c⟩) (Cert.KernelIdealProof.run_main m ρ)
  · exact (θ_run _ _ _).mono (fun r h => h 0) (Cert.ReferenceProof.run_main m' ρ')

theorem claim : Cert.Claim := ⟨Cert.Kernel.Gen.facts, Cert.KernelIdeal.Gen.facts, Cert.ReferenceIdeal.Gen.facts,
  frame_p, frame_pi, frame_ri, preserves, algebraic⟩

end Cert.Proof

end
